-- ==== Defs.lean ====
def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_RefQuantiseIdeal (m : (ℓ : Loc Cert.RefQuantiseIdeal.nD Cert.RefQuantiseIdeal.τ Cert.RefQuantiseIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_RefDecodeIdeal (m : (ℓ : Loc Cert.RefDecodeIdeal.nD Cert.RefDecodeIdeal.τ Cert.RefDecodeIdeal.sig) → Buf (Elt Ideal) ℓ) : Prop :=
  True

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3)
      ∧ r.2.mem ((c.tc : Thread Cert.Encode.nD Cert.Encode.τ).loc Cert.Encode.main_arg4) = m ((c.tc : Thread Cert.Encode.nD Cert.Encode.τ).loc Cert.Encode.main_arg4)
      ∧ r.2.mem ((c.tc : Thread Cert.Encode.nD Cert.Encode.τ).loc Cert.Encode.main_arg5) = m ((c.tc : Thread Cert.Encode.nD Cert.Encode.τ).loc Cert.Encode.main_arg5)
      ∧ r.2.mem ((c.tc : Thread Cert.Encode.nD Cert.Encode.τ).loc Cert.Encode.main_arg6) = m ((c.tc : Thread Cert.Encode.nD Cert.Encode.τ).loc Cert.Encode.main_arg6))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1))
      ∧ r.2.sem = fun _ => 0)

def quiescent_RefQuantiseIdeal [hRefQuantiseIdeal : Cert.RefQuantiseIdeal.Facts] : Prop :=
  ∀ (m : (ℓ : Loc Cert.RefQuantiseIdeal.nD Cert.RefQuantiseIdeal.τ Cert.RefQuantiseIdeal.sig) → Buf (Elt Ideal) ℓ) (g : Dev Cert.RefQuantiseIdeal.nD → PrngReg), Pre_RefQuantiseIdeal m →
    θ_run (Cert.RefQuantiseIdeal.defs (F := Ideal)) (onTc (τ := Cert.RefQuantiseIdeal.τ) (Cert.RefQuantiseIdeal.main (F := Ideal))) ⟨m, fun _ => 0, g⟩ (fun r => (∀ c : Dev Cert.RefQuantiseIdeal.nD,
      r.2.mem ((c.tc : Thread Cert.RefQuantiseIdeal.nD Cert.RefQuantiseIdeal.τ).loc Cert.RefQuantiseIdeal.main_arg0) = m ((c.tc : Thread Cert.RefQuantiseIdeal.nD Cert.RefQuantiseIdeal.τ).loc Cert.RefQuantiseIdeal.main_arg0)
      ∧ r.2.mem ((c.tc : Thread Cert.RefQuantiseIdeal.nD Cert.RefQuantiseIdeal.τ).loc Cert.RefQuantiseIdeal.main_arg1) = m ((c.tc : Thread Cert.RefQuantiseIdeal.nD Cert.RefQuantiseIdeal.τ).loc Cert.RefQuantiseIdeal.main_arg1))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5)
      ∧ r.2.mem ((c.tc : Thread Cert.Decode.nD Cert.Decode.τ).loc Cert.Decode.main_arg6) = m ((c.tc : Thread Cert.Decode.nD Cert.Decode.τ).loc Cert.Decode.main_arg6))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6))
      ∧ r.2.sem = fun _ => 0)

def quiescent_RefDecodeIdeal [hRefDecodeIdeal : Cert.RefDecodeIdeal.Facts] : Prop :=
  ∀ (m : (ℓ : Loc Cert.RefDecodeIdeal.nD Cert.RefDecodeIdeal.τ Cert.RefDecodeIdeal.sig) → Buf (Elt Ideal) ℓ) (g : Dev Cert.RefDecodeIdeal.nD → PrngReg), Pre_RefDecodeIdeal m →
    θ_run (Cert.RefDecodeIdeal.defs (F := Ideal)) (onTc (τ := Cert.RefDecodeIdeal.τ) (Cert.RefDecodeIdeal.main (F := Ideal))) ⟨m, fun _ => 0, g⟩ (fun r => (∀ c : Dev Cert.RefDecodeIdeal.nD,
      r.2.mem ((c.tc : Thread Cert.RefDecodeIdeal.nD Cert.RefDecodeIdeal.τ).loc Cert.RefDecodeIdeal.main_arg0) = m ((c.tc : Thread Cert.RefDecodeIdeal.nD Cert.RefDecodeIdeal.τ).loc Cert.RefDecodeIdeal.main_arg0)
      ∧ r.2.mem ((c.tc : Thread Cert.RefDecodeIdeal.nD Cert.RefDecodeIdeal.τ).loc Cert.RefDecodeIdeal.main_arg1) = m ((c.tc : Thread Cert.RefDecodeIdeal.nD Cert.RefDecodeIdeal.τ).loc Cert.RefDecodeIdeal.main_arg1)
      ∧ r.2.mem ((c.tc : Thread Cert.RefDecodeIdeal.nD Cert.RefDecodeIdeal.τ).loc Cert.RefDecodeIdeal.main_arg2) = m ((c.tc : Thread Cert.RefDecodeIdeal.nD Cert.RefDecodeIdeal.τ).loc Cert.RefDecodeIdeal.main_arg2)
      ∧ r.2.mem ((c.tc : Thread Cert.RefDecodeIdeal.nD Cert.RefDecodeIdeal.τ).loc Cert.RefDecodeIdeal.main_arg3) = m ((c.tc : Thread Cert.RefDecodeIdeal.nD Cert.RefDecodeIdeal.τ).loc Cert.RefDecodeIdeal.main_arg3)
      ∧ r.2.mem ((c.tc : Thread Cert.RefDecodeIdeal.nD Cert.RefDecodeIdeal.τ).loc Cert.RefDecodeIdeal.main_arg4) = m ((c.tc : Thread Cert.RefDecodeIdeal.nD Cert.RefDecodeIdeal.τ).loc Cert.RefDecodeIdeal.main_arg4)
      ∧ r.2.mem ((c.tc : Thread Cert.RefDecodeIdeal.nD Cert.RefDecodeIdeal.τ).loc Cert.RefDecodeIdeal.main_arg5) = m ((c.tc : Thread Cert.RefDecodeIdeal.nD Cert.RefDecodeIdeal.τ).loc Cert.RefDecodeIdeal.main_arg5)
      ∧ r.2.mem ((c.tc : Thread Cert.RefDecodeIdeal.nD Cert.RefDecodeIdeal.τ).loc Cert.RefDecodeIdeal.main_arg6) = m ((c.tc : Thread Cert.RefDecodeIdeal.nD Cert.RefDecodeIdeal.τ).loc Cert.RefDecodeIdeal.main_arg6))
      ∧ r.2.sem = fun _ => 0)

def preserves_Encode_EncodeIdeal : Prop :=
  True

def preserves_Quantise_QuantiseIdeal : Prop :=
  IdealRules.named_const.Statement Cert.QuantiseIdeal.κ "inv_n" .f32 0x38A72F05#32 ((1 / 12544 : ℝ) : EReal)
  ∧ IdealRules.named_const.Statement Cert.QuantiseIdeal.κ "loss_scale" .f32 0x35D0FAC7#32 ((5 / 3211264 : ℝ) : EReal)

def algebraic_QuantiseIdeal_RefQuantiseIdeal [hQuantiseIdeal : Cert.QuantiseIdeal.Facts] [hRefQuantiseIdeal : Cert.RefQuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.RefQuantiseIdeal.nD Cert.RefQuantiseIdeal.τ Cert.RefQuantiseIdeal.sig) → Buf (Elt Ideal) ℓ) (g' : Dev Cert.RefQuantiseIdeal.nD → PrngReg), Pre_QuantiseIdeal m →
    (∀ c : Dev Cert.QuantiseIdeal.nD,
      m' ((c.tc : Thread Cert.RefQuantiseIdeal.nD Cert.RefQuantiseIdeal.τ).loc Cert.RefQuantiseIdeal.main_arg0) = m ((c.tc : Thread Cert.QuantiseIdeal.nD Cert.QuantiseIdeal.τ).loc Cert.QuantiseIdeal.main_arg0)
      ∧ m' ((c.tc : Thread Cert.RefQuantiseIdeal.nD Cert.RefQuantiseIdeal.τ).loc Cert.RefQuantiseIdeal.main_arg1) = m ((c.tc : Thread Cert.QuantiseIdeal.nD Cert.QuantiseIdeal.τ).loc Cert.QuantiseIdeal.main_arg1)) →
    ∃ (v0 : (c : Dev Cert.QuantiseIdeal.nD) → Buf (Elt Ideal) ((c.tc : Thread Cert.QuantiseIdeal.nD Cert.QuantiseIdeal.τ).loc Cert.QuantiseIdeal.main_v3_0)) (v1 : (c : Dev Cert.QuantiseIdeal.nD) → Buf (Elt Ideal) ((c.tc : Thread Cert.QuantiseIdeal.nD Cert.QuantiseIdeal.τ).loc Cert.QuantiseIdeal.main_v3_1)) (v2 : (c : Dev Cert.QuantiseIdeal.nD) → Buf (Elt Ideal) ((c.tc : Thread Cert.QuantiseIdeal.nD Cert.QuantiseIdeal.τ).loc Cert.QuantiseIdeal.main_v3_2)) (v3 : (c : Dev Cert.QuantiseIdeal.nD) → Buf (Elt Ideal) ((c.tc : Thread Cert.QuantiseIdeal.nD Cert.QuantiseIdeal.τ).loc Cert.QuantiseIdeal.main_v3_3)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v3_0) = v0 c
          ∧ r.2.mem ((c.tc : Thread Cert.QuantiseIdeal.nD Cert.QuantiseIdeal.τ).loc Cert.QuantiseIdeal.main_v3_1) = v1 c
          ∧ r.2.mem ((c.tc : Thread Cert.QuantiseIdeal.nD Cert.QuantiseIdeal.τ).loc Cert.QuantiseIdeal.main_v3_2) = v2 c
          ∧ r.2.mem ((c.tc : Thread Cert.QuantiseIdeal.nD Cert.QuantiseIdeal.τ).loc Cert.QuantiseIdeal.main_v3_3) = v3 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1))
      ∧ θ_run (Cert.RefQuantiseIdeal.defs (F := Ideal)) (onTc (τ := Cert.RefQuantiseIdeal.τ) (Cert.RefQuantiseIdeal.main (F := Ideal))) ⟨m', fun _ => 0, g'⟩ (fun r => ∀ c : Dev Cert.RefQuantiseIdeal.nD,
          r.2.mem ((c.tc : Thread Cert.RefQuantiseIdeal.nD Cert.RefQuantiseIdeal.τ).loc Cert.RefQuantiseIdeal.main_v15) = v0 c
          ∧ r.2.mem ((c.tc : Thread Cert.RefQuantiseIdeal.nD Cert.RefQuantiseIdeal.τ).loc Cert.RefQuantiseIdeal.main_v16) = v1 c
          ∧ r.2.mem ((c.tc : Thread Cert.RefQuantiseIdeal.nD Cert.RefQuantiseIdeal.τ).loc Cert.RefQuantiseIdeal.main_v37) = v2 c
          ∧ r.2.mem ((c.tc : Thread Cert.RefQuantiseIdeal.nD Cert.RefQuantiseIdeal.τ).loc Cert.RefQuantiseIdeal.main_v38) = v3 c
          ∧ r.2.mem ((c.tc : Thread Cert.RefQuantiseIdeal.nD Cert.RefQuantiseIdeal.τ).loc Cert.RefQuantiseIdeal.main_arg0) = m' ((c.tc : Thread Cert.RefQuantiseIdeal.nD Cert.RefQuantiseIdeal.τ).loc Cert.RefQuantiseIdeal.main_arg0)
          ∧ r.2.mem ((c.tc : Thread Cert.RefQuantiseIdeal.nD Cert.RefQuantiseIdeal.τ).loc Cert.RefQuantiseIdeal.main_arg1) = m' ((c.tc : Thread Cert.RefQuantiseIdeal.nD Cert.RefQuantiseIdeal.τ).loc Cert.RefQuantiseIdeal.main_arg1))

def preserves_Decode_DecodeIdeal : Prop :=
  True

def algebraic_DecodeIdeal_RefDecodeIdeal [hDecodeIdeal : Cert.DecodeIdeal.Facts] [hRefDecodeIdeal : Cert.RefDecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.RefDecodeIdeal.nD Cert.RefDecodeIdeal.τ Cert.RefDecodeIdeal.sig) → Buf (Elt Ideal) ℓ) (g' : Dev Cert.RefDecodeIdeal.nD → PrngReg), Pre_DecodeIdeal m →
    (∀ c : Dev Cert.DecodeIdeal.nD,
      m' ((c.tc : Thread Cert.RefDecodeIdeal.nD Cert.RefDecodeIdeal.τ).loc Cert.RefDecodeIdeal.main_arg0) = m ((c.tc : Thread Cert.DecodeIdeal.nD Cert.DecodeIdeal.τ).loc Cert.DecodeIdeal.main_arg0)
      ∧ m' ((c.tc : Thread Cert.RefDecodeIdeal.nD Cert.RefDecodeIdeal.τ).loc Cert.RefDecodeIdeal.main_arg1) = m ((c.tc : Thread Cert.DecodeIdeal.nD Cert.DecodeIdeal.τ).loc Cert.DecodeIdeal.main_arg1)
      ∧ m' ((c.tc : Thread Cert.RefDecodeIdeal.nD Cert.RefDecodeIdeal.τ).loc Cert.RefDecodeIdeal.main_arg2) = m ((c.tc : Thread Cert.DecodeIdeal.nD Cert.DecodeIdeal.τ).loc Cert.DecodeIdeal.main_arg2)
      ∧ m' ((c.tc : Thread Cert.RefDecodeIdeal.nD Cert.RefDecodeIdeal.τ).loc Cert.RefDecodeIdeal.main_arg3) = m ((c.tc : Thread Cert.DecodeIdeal.nD Cert.DecodeIdeal.τ).loc Cert.DecodeIdeal.main_arg3)
      ∧ m' ((c.tc : Thread Cert.RefDecodeIdeal.nD Cert.RefDecodeIdeal.τ).loc Cert.RefDecodeIdeal.main_arg4) = m ((c.tc : Thread Cert.DecodeIdeal.nD Cert.DecodeIdeal.τ).loc Cert.DecodeIdeal.main_arg4)
      ∧ m' ((c.tc : Thread Cert.RefDecodeIdeal.nD Cert.RefDecodeIdeal.τ).loc Cert.RefDecodeIdeal.main_arg5) = m ((c.tc : Thread Cert.DecodeIdeal.nD Cert.DecodeIdeal.τ).loc Cert.DecodeIdeal.main_arg5)
      ∧ m' ((c.tc : Thread Cert.RefDecodeIdeal.nD Cert.RefDecodeIdeal.τ).loc Cert.RefDecodeIdeal.main_arg6) = m ((c.tc : Thread Cert.DecodeIdeal.nD Cert.DecodeIdeal.τ).loc Cert.DecodeIdeal.main_arg6)) →
    ∃ (v0 : (c : Dev Cert.DecodeIdeal.nD) → Buf (Elt Ideal) ((c.tc : Thread Cert.DecodeIdeal.nD Cert.DecodeIdeal.τ).loc Cert.DecodeIdeal.main_v160)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v160) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
          ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
          ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6))
      ∧ θ_run (Cert.RefDecodeIdeal.defs (F := Ideal)) (onTc (τ := Cert.RefDecodeIdeal.τ) (Cert.RefDecodeIdeal.main (F := Ideal))) ⟨m', fun _ => 0, g'⟩ (fun r => ∀ c : Dev Cert.RefDecodeIdeal.nD,
          r.2.mem ((c.tc : Thread Cert.RefDecodeIdeal.nD Cert.RefDecodeIdeal.τ).loc Cert.RefDecodeIdeal.main_v266) = v0 c
          ∧ r.2.mem ((c.tc : Thread Cert.RefDecodeIdeal.nD Cert.RefDecodeIdeal.τ).loc Cert.RefDecodeIdeal.main_arg0) = m' ((c.tc : Thread Cert.RefDecodeIdeal.nD Cert.RefDecodeIdeal.τ).loc Cert.RefDecodeIdeal.main_arg0)
          ∧ r.2.mem ((c.tc : Thread Cert.RefDecodeIdeal.nD Cert.RefDecodeIdeal.τ).loc Cert.RefDecodeIdeal.main_arg1) = m' ((c.tc : Thread Cert.RefDecodeIdeal.nD Cert.RefDecodeIdeal.τ).loc Cert.RefDecodeIdeal.main_arg1)
          ∧ r.2.mem ((c.tc : Thread Cert.RefDecodeIdeal.nD Cert.RefDecodeIdeal.τ).loc Cert.RefDecodeIdeal.main_arg2) = m' ((c.tc : Thread Cert.RefDecodeIdeal.nD Cert.RefDecodeIdeal.τ).loc Cert.RefDecodeIdeal.main_arg2)
          ∧ r.2.mem ((c.tc : Thread Cert.RefDecodeIdeal.nD Cert.RefDecodeIdeal.τ).loc Cert.RefDecodeIdeal.main_arg3) = m' ((c.tc : Thread Cert.RefDecodeIdeal.nD Cert.RefDecodeIdeal.τ).loc Cert.RefDecodeIdeal.main_arg3)
          ∧ r.2.mem ((c.tc : Thread Cert.RefDecodeIdeal.nD Cert.RefDecodeIdeal.τ).loc Cert.RefDecodeIdeal.main_arg4) = m' ((c.tc : Thread Cert.RefDecodeIdeal.nD Cert.RefDecodeIdeal.τ).loc Cert.RefDecodeIdeal.main_arg4)
          ∧ r.2.mem ((c.tc : Thread Cert.RefDecodeIdeal.nD Cert.RefDecodeIdeal.τ).loc Cert.RefDecodeIdeal.main_arg5) = m' ((c.tc : Thread Cert.RefDecodeIdeal.nD Cert.RefDecodeIdeal.τ).loc Cert.RefDecodeIdeal.main_arg5)
          ∧ r.2.mem ((c.tc : Thread Cert.RefDecodeIdeal.nD Cert.RefDecodeIdeal.τ).loc Cert.RefDecodeIdeal.main_arg6) = m' ((c.tc : Thread Cert.RefDecodeIdeal.nD Cert.RefDecodeIdeal.τ).loc Cert.RefDecodeIdeal.main_arg6))

def Claim : Prop :=
  ∃ (hEncode : Cert.Encode.Facts) (hEncodeIdeal : Cert.EncodeIdeal.Facts) (hQuantise : Cert.Quantise.Facts) (hQuantiseIdeal : Cert.QuantiseIdeal.Facts) (hRefQuantiseIdeal : Cert.RefQuantiseIdeal.Facts) (hDecode : Cert.Decode.Facts) (hDecodeIdeal : Cert.DecodeIdeal.Facts) (hRefDecodeIdeal : Cert.RefDecodeIdeal.Facts),
    quiescent_Encode (hEncode := hEncode)
    ∧ quiescent_EncodeIdeal (hEncodeIdeal := hEncodeIdeal)
    ∧ quiescent_Quantise (hQuantise := hQuantise)
    ∧ quiescent_QuantiseIdeal (hQuantiseIdeal := hQuantiseIdeal)
    ∧ quiescent_RefQuantiseIdeal (hRefQuantiseIdeal := hRefQuantiseIdeal)
    ∧ quiescent_Decode (hDecode := hDecode)
    ∧ quiescent_DecodeIdeal (hDecodeIdeal := hDecodeIdeal)
    ∧ quiescent_RefDecodeIdeal (hRefDecodeIdeal := hRefDecodeIdeal)
    ∧ preserves_Encode_EncodeIdeal
    ∧ preserves_Quantise_QuantiseIdeal
    ∧ algebraic_QuantiseIdeal_RefQuantiseIdeal (hQuantiseIdeal := hQuantiseIdeal) (hRefQuantiseIdeal := hRefQuantiseIdeal)
    ∧ preserves_Decode_DecodeIdeal
    ∧ algebraic_DecodeIdeal_RefDecodeIdeal (hDecodeIdeal := hDecodeIdeal) (hRefDecodeIdeal := hRefDecodeIdeal)
-- ==== Encode.lean ====
abbrev S4x3x224x224 : Shape := ⟨4, ![4, 3, 224, 224]⟩
abbrev S64x3x4x4 : Shape := ⟨4, ![64, 3, 4, 4]⟩
abbrev S64 : Shape := ⟨1, ![64]⟩
abbrev S128x64x4x4 : Shape := ⟨4, ![128, 64, 4, 4]⟩
abbrev S128 : Shape := ⟨1, ![128]⟩
abbrev S64x128x3x3 : Shape := ⟨4, ![64, 128, 3, 3]⟩
abbrev S4x224x224x3 : Shape := ⟨4, ![4, 224, 224, 3]⟩
abbrev S_ : Shape := ⟨0, ![]⟩
abbrev S4x228x228x3 : Shape := ⟨4, ![4, 228, 228, 3]⟩
abbrev S4x57x4x57x12 : Shape := ⟨5, ![4, 57, 4, 57, 12]⟩
abbrev S4x4x57x57x12 : Shape := ⟨5, ![4, 4, 57, 57, 12]⟩
abbrev S4x4x3249x12 : Shape := ⟨4, ![4, 4, 3249, 12]⟩
abbrev S4x4x3256x12 : Shape := ⟨4, ![4, 4, 3256, 12]⟩
abbrev S12x64 : Shape := ⟨2, ![12, 64]⟩
abbrev S64x3x1x1 : Shape := ⟨4, ![64, 3, 1, 1]⟩
abbrev S64x3 : Shape := ⟨2, ![64, 3]⟩
abbrev S3x64 : Shape := ⟨2, ![3, 64]⟩
abbrev S1 : Shape := ⟨1, ![1]⟩
abbrev S1x12x64 : Shape := ⟨3, ![1, 12, 64]⟩
abbrev S16x12x64 : Shape := ⟨3, ![16, 12, 64]⟩
abbrev S8x12x64 : Shape := ⟨3, ![8, 12, 64]⟩
abbrev S24x12x64 : Shape := ⟨3, ![24, 12, 64]⟩
abbrev S128x64x1x1 : Shape := ⟨4, ![128, 64, 1, 1]⟩
abbrev S128x64 : Shape := ⟨2, ![128, 64]⟩
abbrev S64x128 : Shape := ⟨2, ![64, 128]⟩
abbrev S128x128 : Shape := ⟨2, ![128, 128]⟩
abbrev S1x128x128 : Shape := ⟨3, ![1, 128, 128]⟩
abbrev S8x128x128 : Shape := ⟨3, ![8, 128, 128]⟩
abbrev S3x3x128x64 : Shape := ⟨4, ![3, 3, 128, 64]⟩
abbrev S9x128x64 : Shape := ⟨3, ![9, 128, 64]⟩
abbrev S1x64 : Shape := ⟨2, ![1, 64]⟩
abbrev S1x128 : Shape := ⟨2, ![1, 128]⟩
abbrev S4x3136x64 : Shape := ⟨3, ![4, 3136, 64]⟩
abbrev S1x4x3256x12 : Shape := ⟨4, ![1, 4, 3256, 12]⟩
abbrev S1x3136x64 : Shape := ⟨3, ![1, 3136, 64]⟩
abbrev S3312x128 : Shape := ⟨2, ![3312, 128]⟩
abbrev S3488x128 : Shape := ⟨2, ![3488, 128]⟩
abbrev S3192x64 : Shape := ⟨2, ![3192, 64]⟩
abbrev S1x1x3192x12 : Shape := ⟨4, ![1, 1, 3192, 12]⟩
abbrev S3192x12 : Shape := ⟨2, ![3192, 12]⟩
abbrev S56x64 : Shape := ⟨2, ![56, 64]⟩
abbrev S3192x128 : Shape := ⟨2, ![3192, 128]⟩
abbrev S56x128 : Shape := ⟨2, ![56, 128]⟩
abbrev S3248x64 : Shape := ⟨2, ![3248, 64]⟩
abbrev S3248x128 : Shape := ⟨2, ![3248, 128]⟩
abbrev S1x128x64 : Shape := ⟨3, ![1, 128, 64]⟩
abbrev S1x56x64 : Shape := ⟨3, ![1, 56, 64]⟩

abbrev nBuf : Space → Nat
  | .hbm => 547
  | .vmem => 13
  | .smem => 0
  | _ => 0

abbrev hbmTy0_0 (i : Nat) : BufTy := match i % 128 with
  | 0 => ⟨S4x3x224x224, .f32⟩
  | 1 => ⟨S64x3x4x4, .f32⟩
  | 2 => ⟨S64, .f32⟩
  | 3 => ⟨S128x64x4x4, .f32⟩
  | 4 => ⟨S128, .f32⟩
  | 5 => ⟨S64x128x3x3, .f32⟩
  | 6 => ⟨S64, .f32⟩
  | 7 => ⟨S4x224x224x3, .f32⟩
  | 8 => ⟨S_, .i32⟩
  | 9 => ⟨S_, .f32⟩
  | 10 => ⟨S4x228x228x3, .f32⟩
  | 11 => ⟨S4x57x4x57x12, .f32⟩
  | 12 => ⟨S4x4x57x57x12, .f32⟩
  | 13 => ⟨S4x4x3249x12, .f32⟩
  | 14 => ⟨S_, .i32⟩
  | 15 => ⟨S_, .f32⟩
  | 16 => ⟨S4x4x3256x12, .f32⟩
  | 17 => ⟨S_, .f32⟩
  | 18 => ⟨S12x64, .f32⟩
  | 19 => ⟨S64x3x1x1, .f32⟩
  | 20 => ⟨S64x3, .f32⟩
  | 21 => ⟨S3x64, .f32⟩
  | 22 => ⟨S_, .i32⟩
  | 23 => ⟨S1, .i32⟩
  | 24 => ⟨S12x64, .f32⟩
  | 25 => ⟨S64x3x1x1, .f32⟩
  | 26 => ⟨S64x3, .f32⟩
  | 27 => ⟨S3x64, .f32⟩
  | 28 => ⟨S_, .i32⟩
  | 29 => ⟨S1, .i32⟩
  | 30 => ⟨S12x64, .f32⟩
  | 31 => ⟨S64x3x1x1, .f32⟩
  | 32 => ⟨S64x3, .f32⟩
  | 33 => ⟨S3x64, .f32⟩
  | 34 => ⟨S_, .i32⟩
  | 35 => ⟨S1, .i32⟩
  | 36 => ⟨S12x64, .f32⟩
  | 37 => ⟨S64x3x1x1, .f32⟩
  | 38 => ⟨S64x3, .f32⟩
  | 39 => ⟨S3x64, .f32⟩
  | 40 => ⟨S_, .i32⟩
  | 41 => ⟨S1, .i32⟩
  | 42 => ⟨S12x64, .f32⟩
  | 43 => ⟨S_, .f32⟩
  | 44 => ⟨S12x64, .f32⟩
  | 45 => ⟨S64x3x1x1, .f32⟩
  | 46 => ⟨S64x3, .f32⟩
  | 47 => ⟨S3x64, .f32⟩
  | 48 => ⟨S_, .i32⟩
  | 49 => ⟨S1, .i32⟩
  | 50 => ⟨S12x64, .f32⟩
  | 51 => ⟨S64x3x1x1, .f32⟩
  | 52 => ⟨S64x3, .f32⟩
  | 53 => ⟨S3x64, .f32⟩
  | 54 => ⟨S_, .i32⟩
  | 55 => ⟨S1, .i32⟩
  | 56 => ⟨S12x64, .f32⟩
  | 57 => ⟨S64x3x1x1, .f32⟩
  | 58 => ⟨S64x3, .f32⟩
  | 59 => ⟨S3x64, .f32⟩
  | 60 => ⟨S_, .i32⟩
  | 61 => ⟨S1, .i32⟩
  | 62 => ⟨S12x64, .f32⟩
  | 63 => ⟨S64x3x1x1, .f32⟩
  | 64 => ⟨S64x3, .f32⟩
  | 65 => ⟨S3x64, .f32⟩
  | 66 => ⟨S_, .i32⟩
  | 67 => ⟨S1, .i32⟩
  | 68 => ⟨S12x64, .f32⟩
  | 69 => ⟨S_, .f32⟩
  | 70 => ⟨S12x64, .f32⟩
  | 71 => ⟨S64x3x1x1, .f32⟩
  | 72 => ⟨S64x3, .f32⟩
  | 73 => ⟨S3x64, .f32⟩
  | 74 => ⟨S_, .i32⟩
  | 75 => ⟨S1, .i32⟩
  | 76 => ⟨S12x64, .f32⟩
  | 77 => ⟨S64x3x1x1, .f32⟩
  | 78 => ⟨S64x3, .f32⟩
  | 79 => ⟨S3x64, .f32⟩
  | 80 => ⟨S_, .i32⟩
  | 81 => ⟨S1, .i32⟩
  | 82 => ⟨S12x64, .f32⟩
  | 83 => ⟨S64x3x1x1, .f32⟩
  | 84 => ⟨S64x3, .f32⟩
  | 85 => ⟨S3x64, .f32⟩
  | 86 => ⟨S_, .i32⟩
  | 87 => ⟨S1, .i32⟩
  | 88 => ⟨S12x64, .f32⟩
  | 89 => ⟨S64x3x1x1, .f32⟩
  | 90 => ⟨S64x3, .f32⟩
  | 91 => ⟨S3x64, .f32⟩
  | 92 => ⟨S_, .i32⟩
  | 93 => ⟨S1, .i32⟩
  | 94 => ⟨S12x64, .f32⟩
  | 95 => ⟨S_, .f32⟩
  | 96 => ⟨S12x64, .f32⟩
  | 97 => ⟨S64x3x1x1, .f32⟩
  | 98 => ⟨S64x3, .f32⟩
  | 99 => ⟨S3x64, .f32⟩
  | 100 => ⟨S_, .i32⟩
  | 101 => ⟨S1, .i32⟩
  | 102 => ⟨S12x64, .f32⟩
  | 103 => ⟨S64x3x1x1, .f32⟩
  | 104 => ⟨S64x3, .f32⟩
  | 105 => ⟨S3x64, .f32⟩
  | 106 => ⟨S_, .i32⟩
  | 107 => ⟨S1, .i32⟩
  | 108 => ⟨S12x64, .f32⟩
  | 109 => ⟨S64x3x1x1, .f32⟩
  | 110 => ⟨S64x3, .f32⟩
  | 111 => ⟨S3x64, .f32⟩
  | 112 => ⟨S_, .i32⟩
  | 113 => ⟨S1, .i32⟩
  | 114 => ⟨S12x64, .f32⟩
  | 115 => ⟨S64x3x1x1, .f32⟩
  | 116 => ⟨S64x3, .f32⟩
  | 117 => ⟨S3x64, .f32⟩
  | 118 => ⟨S_, .i32⟩
  | 119 => ⟨S1, .i32⟩
  | 120 => ⟨S12x64, .f32⟩
  | 121 => ⟨S_, .f32⟩
  | 122 => ⟨S12x64, .f32⟩
  | 123 => ⟨S64x3x1x1, .f32⟩
  | 124 => ⟨S64x3, .f32⟩
  | 125 => ⟨S3x64, .f32⟩
  | 126 => ⟨S_, .i32⟩
  | 127 => ⟨S1, .i32⟩
  | _ => ⟨S4x3x224x224, .f32⟩

abbrev hbmTy0_1 (i : Nat) : BufTy := match i % 128 with
  | 0 => ⟨S12x64, .f32⟩
  | 1 => ⟨S64x3x1x1, .f32⟩
  | 2 => ⟨S64x3, .f32⟩
  | 3 => ⟨S3x64, .f32⟩
  | 4 => ⟨S_, .i32⟩
  | 5 => ⟨S1, .i32⟩
  | 6 => ⟨S12x64, .f32⟩
  | 7 => ⟨S_, .f32⟩
  | 8 => ⟨S12x64, .f32⟩
  | 9 => ⟨S64x3x1x1, .f32⟩
  | 10 => ⟨S64x3, .f32⟩
  | 11 => ⟨S3x64, .f32⟩
  | 12 => ⟨S_, .i32⟩
  | 13 => ⟨S1, .i32⟩
  | 14 => ⟨S12x64, .f32⟩
  | 15 => ⟨S64x3x1x1, .f32⟩
  | 16 => ⟨S64x3, .f32⟩
  | 17 => ⟨S3x64, .f32⟩
  | 18 => ⟨S_, .i32⟩
  | 19 => ⟨S1, .i32⟩
  | 20 => ⟨S12x64, .f32⟩
  | 21 => ⟨S_, .f32⟩
  | 22 => ⟨S12x64, .f32⟩
  | 23 => ⟨S64x3x1x1, .f32⟩
  | 24 => ⟨S64x3, .f32⟩
  | 25 => ⟨S3x64, .f32⟩
  | 26 => ⟨S_, .i32⟩
  | 27 => ⟨S1, .i32⟩
  | 28 => ⟨S12x64, .f32⟩
  | 29 => ⟨S64x3x1x1, .f32⟩
  | 30 => ⟨S64x3, .f32⟩
  | 31 => ⟨S3x64, .f32⟩
  | 32 => ⟨S_, .i32⟩
  | 33 => ⟨S1, .i32⟩
  | 34 => ⟨S12x64, .f32⟩
  | 35 => ⟨S_, .f32⟩
  | 36 => ⟨S12x64, .f32⟩
  | 37 => ⟨S64x3x1x1, .f32⟩
  | 38 => ⟨S64x3, .f32⟩
  | 39 => ⟨S3x64, .f32⟩
  | 40 => ⟨S_, .i32⟩
  | 41 => ⟨S1, .i32⟩
  | 42 => ⟨S12x64, .f32⟩
  | 43 => ⟨S64x3x1x1, .f32⟩
  | 44 => ⟨S64x3, .f32⟩
  | 45 => ⟨S3x64, .f32⟩
  | 46 => ⟨S_, .i32⟩
  | 47 => ⟨S1, .i32⟩
  | 48 => ⟨S12x64, .f32⟩
  | 49 => ⟨S_, .f32⟩
  | 50 => ⟨S12x64, .f32⟩
  | 51 => ⟨S64x3x1x1, .f32⟩
  | 52 => ⟨S64x3, .f32⟩
  | 53 => ⟨S3x64, .f32⟩
  | 54 => ⟨S_, .i32⟩
  | 55 => ⟨S1, .i32⟩
  | 56 => ⟨S12x64, .f32⟩
  | 57 => ⟨S64x3x1x1, .f32⟩
  | 58 => ⟨S64x3, .f32⟩
  | 59 => ⟨S3x64, .f32⟩
  | 60 => ⟨S_, .i32⟩
  | 61 => ⟨S1, .i32⟩
  | 62 => ⟨S12x64, .f32⟩
  | 63 => ⟨S_, .f32⟩
  | 64 => ⟨S12x64, .f32⟩
  | 65 => ⟨S64x3x1x1, .f32⟩
  | 66 => ⟨S64x3, .f32⟩
  | 67 => ⟨S3x64, .f32⟩
  | 68 => ⟨S_, .i32⟩
  | 69 => ⟨S1, .i32⟩
  | 70 => ⟨S12x64, .f32⟩
  | 71 => ⟨S64x3x1x1, .f32⟩
  | 72 => ⟨S64x3, .f32⟩
  | 73 => ⟨S3x64, .f32⟩
  | 74 => ⟨S_, .i32⟩
  | 75 => ⟨S1, .i32⟩
  | 76 => ⟨S12x64, .f32⟩
  | 77 => ⟨S_, .f32⟩
  | 78 => ⟨S12x64, .f32⟩
  | 79 => ⟨S64x3x1x1, .f32⟩
  | 80 => ⟨S64x3, .f32⟩
  | 81 => ⟨S3x64, .f32⟩
  | 82 => ⟨S_, .i32⟩
  | 83 => ⟨S1, .i32⟩
  | 84 => ⟨S12x64, .f32⟩
  | 85 => ⟨S64x3x1x1, .f32⟩
  | 86 => ⟨S64x3, .f32⟩
  | 87 => ⟨S3x64, .f32⟩
  | 88 => ⟨S_, .i32⟩
  | 89 => ⟨S1, .i32⟩
  | 90 => ⟨S12x64, .f32⟩
  | 91 => ⟨S_, .f32⟩
  | 92 => ⟨S12x64, .f32⟩
  | 93 => ⟨S64x3x1x1, .f32⟩
  | 94 => ⟨S64x3, .f32⟩
  | 95 => ⟨S3x64, .f32⟩
  | 96 => ⟨S_, .i32⟩
  | 97 => ⟨S1, .i32⟩
  | 98 => ⟨S12x64, .f32⟩
  | 99 => ⟨S64x3x1x1, .f32⟩
  | 100 => ⟨S64x3, .f32⟩
  | 101 => ⟨S3x64, .f32⟩
  | 102 => ⟨S_, .i32⟩
  | 103 => ⟨S1, .i32⟩
  | 104 => ⟨S12x64, .f32⟩
  | 105 => ⟨S_, .f32⟩
  | 106 => ⟨S12x64, .f32⟩
  | 107 => ⟨S64x3x1x1, .f32⟩
  | 108 => ⟨S64x3, .f32⟩
  | 109 => ⟨S3x64, .f32⟩
  | 110 => ⟨S_, .i32⟩
  | 111 => ⟨S1, .i32⟩
  | 112 => ⟨S12x64, .f32⟩
  | 113 => ⟨S64x3x1x1, .f32⟩
  | 114 => ⟨S64x3, .f32⟩
  | 115 => ⟨S3x64, .f32⟩
  | 116 => ⟨S_, .i32⟩
  | 117 => ⟨S1, .i32⟩
  | 118 => ⟨S12x64, .f32⟩
  | 119 => ⟨S64x3x1x1, .f32⟩
  | 120 => ⟨S64x3, .f32⟩
  | 121 => ⟨S3x64, .f32⟩
  | 122 => ⟨S_, .i32⟩
  | 123 => ⟨S1, .i32⟩
  | 124 => ⟨S12x64, .f32⟩
  | 125 => ⟨S64x3x1x1, .f32⟩
  | 126 => ⟨S64x3, .f32⟩
  | 127 => ⟨S3x64, .f32⟩
  | _ => ⟨S4x3x224x224, .f32⟩

abbrev hbmTy0_2 (i : Nat) : BufTy := match i % 128 with
  | 0 => ⟨S_, .i32⟩
  | 1 => ⟨S1, .i32⟩
  | 2 => ⟨S12x64, .f32⟩
  | 3 => ⟨S_, .f32⟩
  | 4 => ⟨S12x64, .f32⟩
  | 5 => ⟨S64x3x1x1, .f32⟩
  | 6 => ⟨S64x3, .f32⟩
  | 7 => ⟨S3x64, .f32⟩
  | 8 => ⟨S_, .i32⟩
  | 9 => ⟨S1, .i32⟩
  | 10 => ⟨S12x64, .f32⟩
  | 11 => ⟨S64x3x1x1, .f32⟩
  | 12 => ⟨S64x3, .f32⟩
  | 13 => ⟨S3x64, .f32⟩
  | 14 => ⟨S_, .i32⟩
  | 15 => ⟨S1, .i32⟩
  | 16 => ⟨S12x64, .f32⟩
  | 17 => ⟨S64x3x1x1, .f32⟩
  | 18 => ⟨S64x3, .f32⟩
  | 19 => ⟨S3x64, .f32⟩
  | 20 => ⟨S_, .i32⟩
  | 21 => ⟨S1, .i32⟩
  | 22 => ⟨S12x64, .f32⟩
  | 23 => ⟨S64x3x1x1, .f32⟩
  | 24 => ⟨S64x3, .f32⟩
  | 25 => ⟨S3x64, .f32⟩
  | 26 => ⟨S_, .i32⟩
  | 27 => ⟨S1, .i32⟩
  | 28 => ⟨S12x64, .f32⟩
  | 29 => ⟨S_, .f32⟩
  | 30 => ⟨S12x64, .f32⟩
  | 31 => ⟨S64x3x1x1, .f32⟩
  | 32 => ⟨S64x3, .f32⟩
  | 33 => ⟨S3x64, .f32⟩
  | 34 => ⟨S_, .i32⟩
  | 35 => ⟨S1, .i32⟩
  | 36 => ⟨S12x64, .f32⟩
  | 37 => ⟨S64x3x1x1, .f32⟩
  | 38 => ⟨S64x3, .f32⟩
  | 39 => ⟨S3x64, .f32⟩
  | 40 => ⟨S_, .i32⟩
  | 41 => ⟨S1, .i32⟩
  | 42 => ⟨S12x64, .f32⟩
  | 43 => ⟨S64x3x1x1, .f32⟩
  | 44 => ⟨S64x3, .f32⟩
  | 45 => ⟨S3x64, .f32⟩
  | 46 => ⟨S_, .i32⟩
  | 47 => ⟨S1, .i32⟩
  | 48 => ⟨S12x64, .f32⟩
  | 49 => ⟨S64x3x1x1, .f32⟩
  | 50 => ⟨S64x3, .f32⟩
  | 51 => ⟨S3x64, .f32⟩
  | 52 => ⟨S_, .i32⟩
  | 53 => ⟨S1, .i32⟩
  | 54 => ⟨S12x64, .f32⟩
  | 55 => ⟨S_, .f32⟩
  | 56 => ⟨S12x64, .f32⟩
  | 57 => ⟨S64x3x1x1, .f32⟩
  | 58 => ⟨S64x3, .f32⟩
  | 59 => ⟨S3x64, .f32⟩
  | 60 => ⟨S_, .i32⟩
  | 61 => ⟨S1, .i32⟩
  | 62 => ⟨S12x64, .f32⟩
  | 63 => ⟨S64x3x1x1, .f32⟩
  | 64 => ⟨S64x3, .f32⟩
  | 65 => ⟨S3x64, .f32⟩
  | 66 => ⟨S_, .i32⟩
  | 67 => ⟨S1, .i32⟩
  | 68 => ⟨S12x64, .f32⟩
  | 69 => ⟨S64x3x1x1, .f32⟩
  | 70 => ⟨S64x3, .f32⟩
  | 71 => ⟨S3x64, .f32⟩
  | 72 => ⟨S_, .i32⟩
  | 73 => ⟨S1, .i32⟩
  | 74 => ⟨S12x64, .f32⟩
  | 75 => ⟨S64x3x1x1, .f32⟩
  | 76 => ⟨S64x3, .f32⟩
  | 77 => ⟨S3x64, .f32⟩
  | 78 => ⟨S_, .i32⟩
  | 79 => ⟨S1, .i32⟩
  | 80 => ⟨S12x64, .f32⟩
  | 81 => ⟨S_, .f32⟩
  | 82 => ⟨S12x64, .f32⟩
  | 83 => ⟨S64x3x1x1, .f32⟩
  | 84 => ⟨S64x3, .f32⟩
  | 85 => ⟨S3x64, .f32⟩
  | 86 => ⟨S_, .i32⟩
  | 87 => ⟨S1, .i32⟩
  | 88 => ⟨S12x64, .f32⟩
  | 89 => ⟨S64x3x1x1, .f32⟩
  | 90 => ⟨S64x3, .f32⟩
  | 91 => ⟨S3x64, .f32⟩
  | 92 => ⟨S_, .i32⟩
  | 93 => ⟨S1, .i32⟩
  | 94 => ⟨S12x64, .f32⟩
  | 95 => ⟨S_, .f32⟩
  | 96 => ⟨S12x64, .f32⟩
  | 97 => ⟨S64x3x1x1, .f32⟩
  | 98 => ⟨S64x3, .f32⟩
  | 99 => ⟨S3x64, .f32⟩
  | 100 => ⟨S_, .i32⟩
  | 101 => ⟨S1, .i32⟩
  | 102 => ⟨S12x64, .f32⟩
  | 103 => ⟨S64x3x1x1, .f32⟩
  | 104 => ⟨S64x3, .f32⟩
  | 105 => ⟨S3x64, .f32⟩
  | 106 => ⟨S_, .i32⟩
  | 107 => ⟨S1, .i32⟩
  | 108 => ⟨S12x64, .f32⟩
  | 109 => ⟨S_, .f32⟩
  | 110 => ⟨S12x64, .f32⟩
  | 111 => ⟨S64x3x1x1, .f32⟩
  | 112 => ⟨S64x3, .f32⟩
  | 113 => ⟨S3x64, .f32⟩
  | 114 => ⟨S_, .i32⟩
  | 115 => ⟨S1, .i32⟩
  | 116 => ⟨S12x64, .f32⟩
  | 117 => ⟨S64x3x1x1, .f32⟩
  | 118 => ⟨S64x3, .f32⟩
  | 119 => ⟨S3x64, .f32⟩
  | 120 => ⟨S_, .i32⟩
  | 121 => ⟨S1, .i32⟩
  | 122 => ⟨S12x64, .f32⟩
  | 123 => ⟨S_, .f32⟩
  | 124 => ⟨S12x64, .f32⟩
  | 125 => ⟨S64x3x1x1, .f32⟩
  | 126 => ⟨S64x3, .f32⟩
  | 127 => ⟨S3x64, .f32⟩
  | _ => ⟨S4x3x224x224, .f32⟩

abbrev hbmTy0_3 (i : Nat) : BufTy := match i % 128 with
  | 0 => ⟨S_, .i32⟩
  | 1 => ⟨S1, .i32⟩
  | 2 => ⟨S12x64, .f32⟩
  | 3 => ⟨S64x3x1x1, .f32⟩
  | 4 => ⟨S64x3, .f32⟩
  | 5 => ⟨S3x64, .f32⟩
  | 6 => ⟨S_, .i32⟩
  | 7 => ⟨S1, .i32⟩
  | 8 => ⟨S12x64, .f32⟩
  | 9 => ⟨S_, .f32⟩
  | 10 => ⟨S12x64, .f32⟩
  | 11 => ⟨S64x3x1x1, .f32⟩
  | 12 => ⟨S64x3, .f32⟩
  | 13 => ⟨S3x64, .f32⟩
  | 14 => ⟨S_, .i32⟩
  | 15 => ⟨S1, .i32⟩
  | 16 => ⟨S12x64, .f32⟩
  | 17 => ⟨S64x3x1x1, .f32⟩
  | 18 => ⟨S64x3, .f32⟩
  | 19 => ⟨S3x64, .f32⟩
  | 20 => ⟨S_, .i32⟩
  | 21 => ⟨S1, .i32⟩
  | 22 => ⟨S12x64, .f32⟩
  | 23 => ⟨S_, .f32⟩
  | 24 => ⟨S12x64, .f32⟩
  | 25 => ⟨S64x3x1x1, .f32⟩
  | 26 => ⟨S64x3, .f32⟩
  | 27 => ⟨S3x64, .f32⟩
  | 28 => ⟨S_, .i32⟩
  | 29 => ⟨S1, .i32⟩
  | 30 => ⟨S12x64, .f32⟩
  | 31 => ⟨S64x3x1x1, .f32⟩
  | 32 => ⟨S64x3, .f32⟩
  | 33 => ⟨S3x64, .f32⟩
  | 34 => ⟨S_, .i32⟩
  | 35 => ⟨S1, .i32⟩
  | 36 => ⟨S12x64, .f32⟩
  | 37 => ⟨S_, .f32⟩
  | 38 => ⟨S12x64, .f32⟩
  | 39 => ⟨S64x3x1x1, .f32⟩
  | 40 => ⟨S64x3, .f32⟩
  | 41 => ⟨S3x64, .f32⟩
  | 42 => ⟨S_, .i32⟩
  | 43 => ⟨S1, .i32⟩
  | 44 => ⟨S12x64, .f32⟩
  | 45 => ⟨S64x3x1x1, .f32⟩
  | 46 => ⟨S64x3, .f32⟩
  | 47 => ⟨S3x64, .f32⟩
  | 48 => ⟨S_, .i32⟩
  | 49 => ⟨S1, .i32⟩
  | 50 => ⟨S12x64, .f32⟩
  | 51 => ⟨S_, .f32⟩
  | 52 => ⟨S12x64, .f32⟩
  | 53 => ⟨S64x3x1x1, .f32⟩
  | 54 => ⟨S64x3, .f32⟩
  | 55 => ⟨S3x64, .f32⟩
  | 56 => ⟨S_, .i32⟩
  | 57 => ⟨S1, .i32⟩
  | 58 => ⟨S12x64, .f32⟩
  | 59 => ⟨S64x3x1x1, .f32⟩
  | 60 => ⟨S64x3, .f32⟩
  | 61 => ⟨S3x64, .f32⟩
  | 62 => ⟨S_, .i32⟩
  | 63 => ⟨S1, .i32⟩
  | 64 => ⟨S12x64, .f32⟩
  | 65 => ⟨S1x12x64, .f32⟩
  | 66 => ⟨S1x12x64, .f32⟩
  | 67 => ⟨S1x12x64, .f32⟩
  | 68 => ⟨S1x12x64, .f32⟩
  | 69 => ⟨S1x12x64, .f32⟩
  | 70 => ⟨S1x12x64, .f32⟩
  | 71 => ⟨S1x12x64, .f32⟩
  | 72 => ⟨S1x12x64, .f32⟩
  | 73 => ⟨S1x12x64, .f32⟩
  | 74 => ⟨S1x12x64, .f32⟩
  | 75 => ⟨S1x12x64, .f32⟩
  | 76 => ⟨S1x12x64, .f32⟩
  | 77 => ⟨S1x12x64, .f32⟩
  | 78 => ⟨S1x12x64, .f32⟩
  | 79 => ⟨S1x12x64, .f32⟩
  | 80 => ⟨S1x12x64, .f32⟩
  | 81 => ⟨S1x12x64, .f32⟩
  | 82 => ⟨S1x12x64, .f32⟩
  | 83 => ⟨S1x12x64, .f32⟩
  | 84 => ⟨S1x12x64, .f32⟩
  | 85 => ⟨S1x12x64, .f32⟩
  | 86 => ⟨S1x12x64, .f32⟩
  | 87 => ⟨S1x12x64, .f32⟩
  | 88 => ⟨S1x12x64, .f32⟩
  | 89 => ⟨S16x12x64, .f32⟩
  | 90 => ⟨S8x12x64, .f32⟩
  | 91 => ⟨S24x12x64, .f32⟩
  | 92 => ⟨S128x64x1x1, .f32⟩
  | 93 => ⟨S128x64, .f32⟩
  | 94 => ⟨S64x128, .f32⟩
  | 95 => ⟨S128x64x1x1, .f32⟩
  | 96 => ⟨S128x64, .f32⟩
  | 97 => ⟨S64x128, .f32⟩
  | 98 => ⟨S128x128, .f32⟩
  | 99 => ⟨S128x64x1x1, .f32⟩
  | 100 => ⟨S128x64, .f32⟩
  | 101 => ⟨S64x128, .f32⟩
  | 102 => ⟨S128x64x1x1, .f32⟩
  | 103 => ⟨S128x64, .f32⟩
  | 104 => ⟨S64x128, .f32⟩
  | 105 => ⟨S128x128, .f32⟩
  | 106 => ⟨S128x64x1x1, .f32⟩
  | 107 => ⟨S128x64, .f32⟩
  | 108 => ⟨S64x128, .f32⟩
  | 109 => ⟨S128x64x1x1, .f32⟩
  | 110 => ⟨S128x64, .f32⟩
  | 111 => ⟨S64x128, .f32⟩
  | 112 => ⟨S128x128, .f32⟩
  | 113 => ⟨S128x64x1x1, .f32⟩
  | 114 => ⟨S128x64, .f32⟩
  | 115 => ⟨S64x128, .f32⟩
  | 116 => ⟨S128x64x1x1, .f32⟩
  | 117 => ⟨S128x64, .f32⟩
  | 118 => ⟨S64x128, .f32⟩
  | 119 => ⟨S128x128, .f32⟩
  | 120 => ⟨S128x64x1x1, .f32⟩
  | 121 => ⟨S128x64, .f32⟩
  | 122 => ⟨S64x128, .f32⟩
  | 123 => ⟨S128x64x1x1, .f32⟩
  | 124 => ⟨S128x64, .f32⟩
  | 125 => ⟨S64x128, .f32⟩
  | 126 => ⟨S128x128, .f32⟩
  | 127 => ⟨S128x64x1x1, .f32⟩
  | _ => ⟨S4x3x224x224, .f32⟩

abbrev hbmTy0_4 (i : Nat) : BufTy := match i % 128 with
  | 0 => ⟨S128x64, .f32⟩
  | 1 => ⟨S64x128, .f32⟩
  | 2 => ⟨S128x64x1x1, .f32⟩
  | 3 => ⟨S128x64, .f32⟩
  | 4 => ⟨S64x128, .f32⟩
  | 5 => ⟨S128x128, .f32⟩
  | 6 => ⟨S128x64x1x1, .f32⟩
  | 7 => ⟨S128x64, .f32⟩
  | 8 => ⟨S64x128, .f32⟩
  | 9 => ⟨S128x64x1x1, .f32⟩
  | 10 => ⟨S128x64, .f32⟩
  | 11 => ⟨S64x128, .f32⟩
  | 12 => ⟨S128x128, .f32⟩
  | 13 => ⟨S128x64x1x1, .f32⟩
  | 14 => ⟨S128x64, .f32⟩
  | 15 => ⟨S64x128, .f32⟩
  | 16 => ⟨S128x64x1x1, .f32⟩
  | 17 => ⟨S128x64, .f32⟩
  | 18 => ⟨S64x128, .f32⟩
  | 19 => ⟨S128x128, .f32⟩
  | 20 => ⟨S1x128x128, .f32⟩
  | 21 => ⟨S1x128x128, .f32⟩
  | 22 => ⟨S1x128x128, .f32⟩
  | 23 => ⟨S1x128x128, .f32⟩
  | 24 => ⟨S1x128x128, .f32⟩
  | 25 => ⟨S1x128x128, .f32⟩
  | 26 => ⟨S1x128x128, .f32⟩
  | 27 => ⟨S1x128x128, .f32⟩
  | 28 => ⟨S8x128x128, .f32⟩
  | 29 => ⟨S3x3x128x64, .f32⟩
  | 30 => ⟨S9x128x64, .f32⟩
  | 31 => ⟨S1x64, .f32⟩
  | 32 => ⟨S1x128, .f32⟩
  | 33 => ⟨S1x64, .f32⟩
  | 34 => ⟨S4x3136x64, .f32⟩
  | _ => ⟨S4x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x3x224x224, .f32⟩

abbrev bufTy : (tb : Table) → Fin (tcTables nBuf tb) → BufTy
  | .hbm, ⟨i, _⟩ => hbmTy i
  | .local _ .vmem, ⟨0, _⟩ => ⟨S1x4x3256x12, .f32⟩
  | .local _ .vmem, ⟨1, _⟩ => ⟨S1x4x3256x12, .f32⟩
  | .local _ .vmem, ⟨2, _⟩ => ⟨S24x12x64, .f32⟩
  | .local _ .vmem, ⟨3, _⟩ => ⟨S1x64, .f32⟩
  | .local _ .vmem, ⟨4, _⟩ => ⟨S8x128x128, .f32⟩
  | .local _ .vmem, ⟨5, _⟩ => ⟨S1x128, .f32⟩
  | .local _ .vmem, ⟨6, _⟩ => ⟨S9x128x64, .f32⟩
  | .local _ .vmem, ⟨7, _⟩ => ⟨S1x64, .f32⟩
  | .local _ .vmem, ⟨8, _⟩ => ⟨S1x3136x64, .f32⟩
  | .local _ .vmem, ⟨9, _⟩ => ⟨S1x3136x64, .f32⟩
  | .local _ .vmem, ⟨10, _⟩ => ⟨S3312x128, .f32⟩
  | .local _ .vmem, ⟨11, _⟩ => ⟨S3312x128, .f32⟩
  | .local _ .vmem, ⟨12, _⟩ => ⟨S3488x128, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_18 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_19 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_22 : Ref sig .tc := ⟨.hbm, 132, rfl⟩
abbrev main_v99 : Ref sig .tc := ⟨.hbm, 133, rfl⟩
abbrev main_v100 : Ref sig .tc := ⟨.hbm, 134, rfl⟩
abbrev main_cst_23 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_24 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_25 : Ref sig .tc := ⟨.hbm, 146, rfl⟩
abbrev main_v110 : Ref sig .tc := ⟨.hbm, 147, rfl⟩
abbrev main_v111 : Ref sig .tc := ⟨.hbm, 148, rfl⟩
abbrev main_cst_26 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_27 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_28 : Ref sig .tc := ⟨.hbm, 160, rfl⟩
abbrev main_v121 : Ref sig .tc := ⟨.hbm, 161, rfl⟩
abbrev main_v122 : Ref sig .tc := ⟨.hbm, 162, rfl⟩
abbrev main_cst_29 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_30 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_c_31 : Ref sig .tc := ⟨.hbm, 174, rfl⟩
abbrev main_v132 : Ref sig .tc := ⟨.hbm, 175, rfl⟩
abbrev main_v133 : Ref sig .tc := ⟨.hbm, 176, rfl⟩
abbrev main_cst_32 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_33 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_34 : Ref sig .tc := ⟨.hbm, 188, rfl⟩
abbrev main_v143 : Ref sig .tc := ⟨.hbm, 189, rfl⟩
abbrev main_v144 : Ref sig .tc := ⟨.hbm, 190, rfl⟩
abbrev main_cst_35 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_c_36 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_c_37 : Ref sig .tc := ⟨.hbm, 202, rfl⟩
abbrev main_v154 : Ref sig .tc := ⟨.hbm, 203, rfl⟩
abbrev main_v155 : Ref sig .tc := ⟨.hbm, 204, rfl⟩
abbrev main_cst_38 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_c_39 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_c_40 : Ref sig .tc := ⟨.hbm, 216, rfl⟩
abbrev main_v165 : Ref sig .tc := ⟨.hbm, 217, rfl⟩
abbrev main_v166 : Ref sig .tc := ⟨.hbm, 218, rfl⟩
abbrev main_cst_41 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_42 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_c_43 : Ref sig .tc := ⟨.hbm, 230, rfl⟩
abbrev main_v176 : Ref sig .tc := ⟨.hbm, 231, rfl⟩
abbrev main_v177 : Ref sig .tc := ⟨.hbm, 232, rfl⟩
abbrev main_cst_44 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_c_45 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_c_46 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_c_47 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_c_48 : Ref sig .tc := ⟨.hbm, 256, rfl⟩
abbrev main_v197 : Ref sig .tc := ⟨.hbm, 257, rfl⟩
abbrev main_v198 : Ref sig .tc := ⟨.hbm, 258, rfl⟩
abbrev main_cst_49 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_c_50 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_c_51 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_c_52 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_c_53 : Ref sig .tc := ⟨.hbm, 282, rfl⟩
abbrev main_v218 : Ref sig .tc := ⟨.hbm, 283, rfl⟩
abbrev main_v219 : Ref sig .tc := ⟨.hbm, 284, rfl⟩
abbrev main_cst_54 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_c_55 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_c_56 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_c_57 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_c_58 : Ref sig .tc := ⟨.hbm, 308, rfl⟩
abbrev main_v239 : Ref sig .tc := ⟨.hbm, 309, rfl⟩
abbrev main_v240 : Ref sig .tc := ⟨.hbm, 310, rfl⟩
abbrev main_cst_59 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_c_60 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_c_61 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_c_62 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_c_63 : Ref sig .tc := ⟨.hbm, 334, rfl⟩
abbrev main_v260 : Ref sig .tc := ⟨.hbm, 335, rfl⟩
abbrev main_v261 : Ref sig .tc := ⟨.hbm, 336, rfl⟩
abbrev main_cst_64 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_c_65 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_c_66 : Ref sig .tc := ⟨.hbm, 348, rfl⟩
abbrev main_v271 : Ref sig .tc := ⟨.hbm, 349, rfl⟩
abbrev main_v272 : Ref sig .tc := ⟨.hbm, 350, rfl⟩
abbrev main_cst_67 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_c_68 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_c_69 : Ref sig .tc := ⟨.hbm, 362, rfl⟩
abbrev main_v282 : Ref sig .tc := ⟨.hbm, 363, rfl⟩
abbrev main_v283 : Ref sig .tc := ⟨.hbm, 364, rfl⟩
abbrev main_cst_70 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_c_71 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_c_72 : Ref sig .tc := ⟨.hbm, 376, rfl⟩
abbrev main_v293 : Ref sig .tc := ⟨.hbm, 377, rfl⟩
abbrev main_v294 : Ref sig .tc := ⟨.hbm, 378, rfl⟩
abbrev main_cst_73 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_c_74 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_c_75 : Ref sig .tc := ⟨.hbm, 390, rfl⟩
abbrev main_v304 : Ref sig .tc := ⟨.hbm, 391, rfl⟩
abbrev main_v305 : Ref sig .tc := ⟨.hbm, 392, rfl⟩
abbrev main_cst_76 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_c_77 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_c_78 : Ref sig .tc := ⟨.hbm, 404, rfl⟩
abbrev main_v315 : Ref sig .tc := ⟨.hbm, 405, rfl⟩
abbrev main_v316 : Ref sig .tc := ⟨.hbm, 406, rfl⟩
abbrev main_cst_79 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_c_80 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_c_81 : Ref sig .tc := ⟨.hbm, 418, rfl⟩
abbrev main_v326 : Ref sig .tc := ⟨.hbm, 419, rfl⟩
abbrev main_v327 : Ref sig .tc := ⟨.hbm, 420, rfl⟩
abbrev main_cst_82 : Ref sig .tc := ⟨.hbm, 421, rfl⟩
abbrev main_v328 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_c_83 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_c_84 : Ref sig .tc := ⟨.hbm, 432, rfl⟩
abbrev main_v337 : Ref sig .tc := ⟨.hbm, 433, rfl⟩
abbrev main_v338 : Ref sig .tc := ⟨.hbm, 434, rfl⟩
abbrev main_cst_85 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_c_86 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_c_87 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_v357 : Ref sig .tc := ⟨.hbm, 456, rfl⟩
abbrev main_v358 : Ref sig .tc := ⟨.hbm, 457, rfl⟩
abbrev main_v359 : Ref sig .tc := ⟨.hbm, 458, rfl⟩
abbrev main_v360 : Ref sig .tc := ⟨.hbm, 459, rfl⟩
abbrev main_v361 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_v365 : Ref sig .tc := ⟨.hbm, 464, rfl⟩
abbrev main_v366 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_v406 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_v411 : Ref sig .tc := ⟨.hbm, 510, rfl⟩
abbrev main_v412 : Ref sig .tc := ⟨.hbm, 511, rfl⟩
abbrev main_v413 : Ref sig .tc := ⟨.hbm, 512, rfl⟩
abbrev main_v414 : Ref sig .tc := ⟨.hbm, 513, rfl⟩
abbrev main_v415 : Ref sig .tc := ⟨.hbm, 514, rfl⟩
abbrev main_v416 : Ref sig .tc := ⟨.hbm, 515, rfl⟩
abbrev main_v417 : Ref sig .tc := ⟨.hbm, 516, rfl⟩
abbrev main_v418 : Ref sig .tc := ⟨.hbm, 517, rfl⟩
abbrev main_v419 : Ref sig .tc := ⟨.hbm, 518, rfl⟩
abbrev main_v420 : Ref sig .tc := ⟨.hbm, 519, rfl⟩
abbrev main_v421 : Ref sig .tc := ⟨.hbm, 520, rfl⟩
abbrev main_v422 : Ref sig .tc := ⟨.hbm, 521, rfl⟩
abbrev main_v423 : Ref sig .tc := ⟨.hbm, 522, rfl⟩
abbrev main_v424 : Ref sig .tc := ⟨.hbm, 523, rfl⟩
abbrev main_v425 : Ref sig .tc := ⟨.hbm, 524, rfl⟩
abbrev main_v426 : Ref sig .tc := ⟨.hbm, 525, rfl⟩
abbrev main_v427 : Ref sig .tc := ⟨.hbm, 526, rfl⟩
abbrev main_v428 : Ref sig .tc := ⟨.hbm, 527, rfl⟩
abbrev main_v429 : Ref sig .tc := ⟨.hbm, 528, rfl⟩
abbrev main_v430 : Ref sig .tc := ⟨.hbm, 529, rfl⟩
abbrev main_v431 : Ref sig .tc := ⟨.hbm, 530, rfl⟩
abbrev main_v432 : Ref sig .tc := ⟨.hbm, 531, rfl⟩
abbrev main_v433 : Ref sig .tc := ⟨.hbm, 532, rfl⟩
abbrev main_v434 : Ref sig .tc := ⟨.hbm, 533, rfl⟩
abbrev main_v435 : Ref sig .tc := ⟨.hbm, 534, rfl⟩
abbrev main_v436 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩
abbrev main_v444 : Ref sig .tc := ⟨.hbm, 543, rfl⟩
abbrev main_v445 : Ref sig .tc := ⟨.hbm, 544, rfl⟩
abbrev main_v446 : Ref sig .tc := ⟨.hbm, 545, rfl⟩
abbrev main_v447 : Ref sig .tc := ⟨.hbm, 546, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x3256x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x3136x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Quantise.lean ====
abbrev S12544x64 : Shape := ⟨2, ![12544, 64]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S12544x1024 : Shape := ⟨2, ![12544, 1024]⟩
abbrev S1x1 : Shape := ⟨2, ![1, 1]⟩
abbrev S896x64 : Shape := ⟨2, ![896, 64]⟩
abbrev S896x1024 : Shape := ⟨2, ![896, 1024]⟩
abbrev S1 : Shape := ⟨1, ![1]⟩
abbrev S896 : Shape := ⟨1, ![896]⟩
abbrev S896x1 : Shape := ⟨2, ![896, 1]⟩
abbrev S1x896x64 : Shape := ⟨3, ![1, 896, 64]⟩
abbrev S1x1x1 : Shape := ⟨3, ![1, 1, 1]⟩

abbrev nBuf : Space → Nat
  | .hbm => 10
  | .vmem => 11
  | .smem => 1
  | _ => 0

abbrev bufTy : (tb : Table) → Fin (tcTables nBuf tb) → BufTy
  | .hbm, ⟨0, _⟩ => ⟨S12544x64, .f32⟩
  | .hbm, ⟨1, _⟩ => ⟨S1024x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S12544x1024, .f32⟩
  | .hbm, ⟨7, _⟩ => ⟨S12544x64, .f32⟩
  | .hbm, ⟨8, _⟩ => ⟨S1x1, .f32⟩
  | .hbm, ⟨9, _⟩ => ⟨S1x1, .f32⟩
  | .local _ .vmem, ⟨0, _⟩ => ⟨S896x64, .f32⟩
  | .local _ .vmem, ⟨1, _⟩ => ⟨S896x64, .f32⟩
  | .local _ .vmem, ⟨2, _⟩ => ⟨S1x1024, .f32⟩
  | .local _ .vmem, ⟨3, _⟩ => ⟨S1024x64, .f32⟩
  | .local _ .vmem, ⟨4, _⟩ => ⟨S896x1024, .f32⟩
  | .local _ .vmem, ⟨5, _⟩ => ⟨S896x1024, .f32⟩
  | .local _ .vmem, ⟨6, _⟩ => ⟨S896x64, .f32⟩
  | .local _ .vmem, ⟨7, _⟩ => ⟨S896x64, .f32⟩
  | .local _ .vmem, ⟨8, _⟩ => ⟨S1x1, .f32⟩
  | .local _ .vmem, ⟨9, _⟩ => ⟨S1x1, .f32⟩
  | .local _ .vmem, ⟨10, _⟩ => ⟨S1x1024, .f32⟩
  | .local _ .smem, ⟨0, _⟩ => ⟨S1, .f32⟩
  | _, _ => ⟨S12544x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![14], ![false]⟩

def k0_cond3 (i : grid0.Coords) : BitVec 1 :=
  let arg0 : BitVec 32 := BitVec.ofNat 32 (i 0).val
  let c13_i32 : BitVec 32 := 13#32
  let v44 : BitVec 1 := Scalar.cmpi .eq arg0 c13_i32
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S896x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S896x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S896x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QuantiseIdeal.lean ====
variable {F : FTy → Type} [FloatOps F] [Named F]
def κ : String → Option EReal := fun
  | "inv_n" => some ((1 / 12544 : ℝ) : EReal)
  | "loss_scale" => some ((5 / 3211264 : ℝ) : EReal)
  | _ => none
-- ==== RefQuantiseIdeal.lean ====
abbrev S12544x64 : Shape := ⟨2, ![12544, 64]⟩
abbrev S1024x64 : Shape := ⟨2, ![1024, 64]⟩
abbrev S_ : Shape := ⟨0, ![]⟩
abbrev S12544 : Shape := ⟨1, ![12544]⟩
abbrev S12544x1 : Shape := ⟨2, ![12544, 1]⟩
abbrev S1024 : Shape := ⟨1, ![1024]⟩
abbrev S1x1024 : Shape := ⟨2, ![1, 1024]⟩
abbrev S12544x1024 : Shape := ⟨2, ![12544, 1024]⟩
abbrev S64x1024 : Shape := ⟨2, ![64, 1024]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S12544x64, .f32⟩
  | .hbm, ⟨1, _⟩ => ⟨S1024x64, .f32⟩
  | .hbm, ⟨2, _⟩ => ⟨S12544x64, .f32⟩
  | .hbm, ⟨3, _⟩ => ⟨S_, .f32⟩
  | .hbm, ⟨4, _⟩ => ⟨S12544, .f32⟩
  | .hbm, ⟨5, _⟩ => ⟨S12544x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S12544x1024, .f32⟩
  | .hbm, ⟨11, _⟩ => ⟨S12544x1024, .f32⟩
  | .hbm, ⟨12, _⟩ => ⟨S12544x1024, .f32⟩
  | .hbm, ⟨13, _⟩ => ⟨S64x1024, .f32⟩
  | .hbm, ⟨14, _⟩ => ⟨S12544x1024, .f32⟩
  | .hbm, ⟨15, _⟩ => ⟨S_, .f32⟩
  | .hbm, ⟨16, _⟩ => ⟨S12544x1024, .f32⟩
  | .hbm, ⟨17, _⟩ => ⟨S12544x1024, .f32⟩
  | .hbm, ⟨18, _⟩ => ⟨S12544x1024, .f32⟩
  | .hbm, ⟨19, _⟩ => ⟨S12544x1024, .i32⟩
  | .hbm, ⟨20, _⟩ => ⟨S_, .f32⟩
  | .hbm, ⟨21, _⟩ => ⟨S_, .i32⟩
  | .hbm, ⟨22, _⟩ => ⟨S12544, .f32⟩
  | .hbm, ⟨23, _⟩ => ⟨S12544, .i32⟩
  | .hbm, ⟨24, _⟩ => ⟨S12544x1, .i32⟩
  | .hbm, ⟨25, _⟩ => ⟨S1x1024, .i32⟩
  | .hbm, ⟨26, _⟩ => ⟨S12544x1024, .i32⟩
  | .hbm, ⟨27, _⟩ => ⟨S12544x1024, .i32⟩
  | .hbm, ⟨28, _⟩ => ⟨S12544x1024, .i1⟩
  | .hbm, ⟨29, _⟩ => ⟨S12544x1024, .f32⟩
  | .hbm, ⟨30, _⟩ => ⟨S12544x64, .f32⟩
  | .hbm, ⟨31, _⟩ => ⟨S12544x64, .f32⟩
  | .hbm, ⟨32, _⟩ => ⟨S12544x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S12544x64, .f32⟩
  | .hbm, ⟨38, _⟩ => ⟨S12544x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1, .f32⟩
  | .hbm, ⟨61, _⟩ => ⟨S1x1, .f32⟩
  | _, _ => ⟨S12544x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Decode.lean ====
abbrev S12544x64 : Shape := ⟨2, ![12544, 64]⟩
abbrev S128x64x3x3 : Shape := ⟨4, ![128, 64, 3, 3]⟩
abbrev S128 : Shape := ⟨1, ![128]⟩
abbrev S128x64x4x4 : Shape := ⟨4, ![128, 64, 4, 4]⟩
abbrev S64 : Shape := ⟨1, ![64]⟩
abbrev S64x3x4x4 : Shape := ⟨4, ![64, 3, 4, 4]⟩
abbrev S3 : Shape := ⟨1, ![3]⟩
abbrev S4x64x3136 : Shape := ⟨3, ![4, 64, 3136]⟩
abbrev S4x3136x64 : Shape := ⟨3, ![4, 3136, 64]⟩
abbrev S3x3x64x128 : Shape := ⟨4, ![3, 3, 64, 128]⟩
abbrev S9x64x128 : Shape := ⟨3, ![9, 64, 128]⟩
abbrev S128x64x1x1 : Shape := ⟨4, ![128, 64, 1, 1]⟩
abbrev S128x64 : Shape := ⟨2, ![128, 64]⟩
abbrev S1x128x64 : Shape := ⟨3, ![1, 128, 64]⟩
abbrev S16x128x64 : Shape := ⟨3, ![16, 128, 64]⟩
abbrev S_ : Shape := ⟨0, ![]⟩
abbrev S9x64x12 : Shape := ⟨3, ![9, 64, 12]⟩
abbrev S64x3x1x1 : Shape := ⟨4, ![64, 3, 1, 1]⟩
abbrev S64x3 : Shape := ⟨2, ![64, 3]⟩
abbrev S1 : Shape := ⟨1, ![1]⟩
abbrev S2 : Shape := ⟨1, ![2]⟩
abbrev S1x128 : Shape := ⟨2, ![1, 128]⟩
abbrev S1x64 : Shape := ⟨2, ![1, 64]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S4x12768x12 : Shape := ⟨3, ![4, 12768, 12]⟩
abbrev S1x3136x64 : Shape := ⟨3, ![1, 3136, 64]⟩
abbrev S1x12768x12 : Shape := ⟨3, ![1, 12768, 12]⟩
abbrev S3488x64 : Shape := ⟨2, ![3488, 64]⟩
abbrev S3488x128 : Shape := ⟨2, ![3488, 128]⟩
abbrev S13232x64 : Shape := ⟨2, ![13232, 64]⟩
abbrev S1x56x64 : Shape := ⟨3, ![1, 56, 64]⟩
abbrev S56x64 : Shape := ⟨2, ![56, 64]⟩
abbrev S3248x128 : Shape := ⟨2, ![3248, 128]⟩
abbrev S3248x64 : Shape := ⟨2, ![3248, 64]⟩
abbrev S1x64x128 : Shape := ⟨3, ![1, 64, 128]⟩
abbrev S64x128 : Shape := ⟨2, ![64, 128]⟩
abbrev S56x128 : Shape := ⟨2, ![56, 128]⟩
abbrev S56x58x64 : Shape := ⟨3, ![56, 58, 64]⟩
abbrev S56x56x64 : Shape := ⟨3, ![56, 56, 64]⟩
abbrev S56x56x1x64 : Shape := ⟨4, ![56, 56, 1, 64]⟩
abbrev S56x56x2x64 : Shape := ⟨4, ![56, 56, 2, 64]⟩
abbrev S56x112x64 : Shape := ⟨3, ![56, 112, 64]⟩
abbrev S1x112x64 : Shape := ⟨3, ![1, 112, 64]⟩
abbrev S112x64 : Shape := ⟨2, ![112, 64]⟩
abbrev S12768x12 : Shape := ⟨2, ![12768, 12]⟩
abbrev S12768x64 : Shape := ⟨2, ![12768, 64]⟩
abbrev S1x64x12 : Shape := ⟨3, ![1, 64, 12]⟩
abbrev S64x12 : Shape := ⟨2, ![64, 12]⟩
abbrev S4x112x114x2x2x3 : Shape := ⟨6, ![4, 112, 114, 2, 2, 3]⟩
abbrev S4x112x112x2x2x3 : Shape := ⟨6, ![4, 112, 112, 2, 2, 3]⟩
abbrev S4x3x112x2x112x2 : Shape := ⟨6, ![4, 3, 112, 2, 112, 2]⟩
abbrev S4x3x224x224 : Shape := ⟨4, ![4, 3, 224, 224]⟩

abbrev nBuf : Space → Nat
  | .hbm => 201
  | .vmem => 13
  | .smem => 0
  | _ => 0

abbrev hbmTy0_0 (i : Nat) : BufTy := match i % 128 with
  | 0 => ⟨S12544x64, .f32⟩
  | 1 => ⟨S128x64x3x3, .f32⟩
  | 2 => ⟨S128, .f32⟩
  | 3 => ⟨S128x64x4x4, .f32⟩
  | 4 => ⟨S64, .f32⟩
  | 5 => ⟨S64x3x4x4, .f32⟩
  | 6 => ⟨S3, .f32⟩
  | 7 => ⟨S4x64x3136, .f32⟩
  | 8 => ⟨S4x3136x64, .f32⟩
  | 9 => ⟨S3x3x64x128, .f32⟩
  | 10 => ⟨S9x64x128, .f32⟩
  | 11 => ⟨S128x64x1x1, .f32⟩
  | 12 => ⟨S128x64, .f32⟩
  | 13 => ⟨S128x64x1x1, .f32⟩
  | 14 => ⟨S128x64, .f32⟩
  | 15 => ⟨S128x64x1x1, .f32⟩
  | 16 => ⟨S128x64, .f32⟩
  | 17 => ⟨S128x64x1x1, .f32⟩
  | 18 => ⟨S128x64, .f32⟩
  | 19 => ⟨S128x64x1x1, .f32⟩
  | 20 => ⟨S128x64, .f32⟩
  | 21 => ⟨S128x64x1x1, .f32⟩
  | 22 => ⟨S128x64, .f32⟩
  | 23 => ⟨S128x64x1x1, .f32⟩
  | 24 => ⟨S128x64, .f32⟩
  | 25 => ⟨S128x64x1x1, .f32⟩
  | 26 => ⟨S128x64, .f32⟩
  | 27 => ⟨S128x64x1x1, .f32⟩
  | 28 => ⟨S128x64, .f32⟩
  | 29 => ⟨S128x64x1x1, .f32⟩
  | 30 => ⟨S128x64, .f32⟩
  | 31 => ⟨S128x64x1x1, .f32⟩
  | 32 => ⟨S128x64, .f32⟩
  | 33 => ⟨S128x64x1x1, .f32⟩
  | 34 => ⟨S128x64, .f32⟩
  | 35 => ⟨S128x64x1x1, .f32⟩
  | 36 => ⟨S128x64, .f32⟩
  | 37 => ⟨S128x64x1x1, .f32⟩
  | 38 => ⟨S128x64, .f32⟩
  | 39 => ⟨S128x64x1x1, .f32⟩
  | 40 => ⟨S128x64, .f32⟩
  | 41 => ⟨S128x64x1x1, .f32⟩
  | 42 => ⟨S128x64, .f32⟩
  | 43 => ⟨S1x128x64, .f32⟩
  | 44 => ⟨S1x128x64, .f32⟩
  | 45 => ⟨S1x128x64, .f32⟩
  | 46 => ⟨S1x128x64, .f32⟩
  | 47 => ⟨S1x128x64, .f32⟩
  | 48 => ⟨S1x128x64, .f32⟩
  | 49 => ⟨S1x128x64, .f32⟩
  | 50 => ⟨S1x128x64, .f32⟩
  | 51 => ⟨S1x128x64, .f32⟩
  | 52 => ⟨S1x128x64, .f32⟩
  | 53 => ⟨S1x128x64, .f32⟩
  | 54 => ⟨S1x128x64, .f32⟩
  | 55 => ⟨S1x128x64, .f32⟩
  | 56 => ⟨S1x128x64, .f32⟩
  | 57 => ⟨S1x128x64, .f32⟩
  | 58 => ⟨S1x128x64, .f32⟩
  | 59 => ⟨S16x128x64, .f32⟩
  | 60 => ⟨S_, .f32⟩
  | 61 => ⟨S9x64x12, .f32⟩
  | 62 => ⟨S64x3x1x1, .f32⟩
  | 63 => ⟨S64x3, .f32⟩
  | 64 => ⟨S_, .i32⟩
  | 65 => ⟨S1, .i32⟩
  | 66 => ⟨S_, .i32⟩
  | 67 => ⟨S1, .i32⟩
  | 68 => ⟨S2, .i32⟩
  | 69 => ⟨S9x64x12, .f32⟩
  | 70 => ⟨S64x3x1x1, .f32⟩
  | 71 => ⟨S64x3, .f32⟩
  | 72 => ⟨S_, .i32⟩
  | 73 => ⟨S1, .i32⟩
  | 74 => ⟨S_, .i32⟩
  | 75 => ⟨S1, .i32⟩
  | 76 => ⟨S2, .i32⟩
  | 77 => ⟨S9x64x12, .f32⟩
  | 78 => ⟨S64x3x1x1, .f32⟩
  | 79 => ⟨S64x3, .f32⟩
  | 80 => ⟨S_, .i32⟩
  | 81 => ⟨S1, .i32⟩
  | 82 => ⟨S_, .i32⟩
  | 83 => ⟨S1, .i32⟩
  | 84 => ⟨S2, .i32⟩
  | 85 => ⟨S9x64x12, .f32⟩
  | 86 => ⟨S64x3x1x1, .f32⟩
  | 87 => ⟨S64x3, .f32⟩
  | 88 => ⟨S_, .i32⟩
  | 89 => ⟨S1, .i32⟩
  | 90 => ⟨S_, .i32⟩
  | 91 => ⟨S1, .i32⟩
  | 92 => ⟨S2, .i32⟩
  | 93 => ⟨S9x64x12, .f32⟩
  | 94 => ⟨S64x3x1x1, .f32⟩
  | 95 => ⟨S64x3, .f32⟩
  | 96 => ⟨S_, .i32⟩
  | 97 => ⟨S1, .i32⟩
  | 98 => ⟨S_, .i32⟩
  | 99 => ⟨S1, .i32⟩
  | 100 => ⟨S2, .i32⟩
  | 101 => ⟨S9x64x12, .f32⟩
  | 102 => ⟨S64x3x1x1, .f32⟩
  | 103 => ⟨S64x3, .f32⟩
  | 104 => ⟨S_, .i32⟩
  | 105 => ⟨S1, .i32⟩
  | 106 => ⟨S_, .i32⟩
  | 107 => ⟨S1, .i32⟩
  | 108 => ⟨S2, .i32⟩
  | 109 => ⟨S9x64x12, .f32⟩
  | 110 => ⟨S64x3x1x1, .f32⟩
  | 111 => ⟨S64x3, .f32⟩
  | 112 => ⟨S_, .i32⟩
  | 113 => ⟨S1, .i32⟩
  | 114 => ⟨S_, .i32⟩
  | 115 => ⟨S1, .i32⟩
  | 116 => ⟨S2, .i32⟩
  | 117 => ⟨S9x64x12, .f32⟩
  | 118 => ⟨S64x3x1x1, .f32⟩
  | 119 => ⟨S64x3, .f32⟩
  | 120 => ⟨S_, .i32⟩
  | 121 => ⟨S1, .i32⟩
  | 122 => ⟨S_, .i32⟩
  | 123 => ⟨S1, .i32⟩
  | 124 => ⟨S2, .i32⟩
  | 125 => ⟨S9x64x12, .f32⟩
  | 126 => ⟨S64x3x1x1, .f32⟩
  | 127 => ⟨S64x3, .f32⟩
  | _ => ⟨S12544x64, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S9x64x12, .f32⟩
  | 6 => ⟨S64x3x1x1, .f32⟩
  | 7 => ⟨S64x3, .f32⟩
  | 8 => ⟨S_, .i32⟩
  | 9 => ⟨S1, .i32⟩
  | 10 => ⟨S_, .i32⟩
  | 11 => ⟨S1, .i32⟩
  | 12 => ⟨S2, .i32⟩
  | 13 => ⟨S9x64x12, .f32⟩
  | 14 => ⟨S64x3x1x1, .f32⟩
  | 15 => ⟨S64x3, .f32⟩
  | 16 => ⟨S_, .i32⟩
  | 17 => ⟨S1, .i32⟩
  | 18 => ⟨S_, .i32⟩
  | 19 => ⟨S1, .i32⟩
  | 20 => ⟨S2, .i32⟩
  | 21 => ⟨S9x64x12, .f32⟩
  | 22 => ⟨S64x3x1x1, .f32⟩
  | 23 => ⟨S64x3, .f32⟩
  | 24 => ⟨S_, .i32⟩
  | 25 => ⟨S1, .i32⟩
  | 26 => ⟨S_, .i32⟩
  | 27 => ⟨S1, .i32⟩
  | 28 => ⟨S2, .i32⟩
  | 29 => ⟨S9x64x12, .f32⟩
  | 30 => ⟨S64x3x1x1, .f32⟩
  | 31 => ⟨S64x3, .f32⟩
  | 32 => ⟨S_, .i32⟩
  | 33 => ⟨S1, .i32⟩
  | 34 => ⟨S_, .i32⟩
  | 35 => ⟨S1, .i32⟩
  | 36 => ⟨S2, .i32⟩
  | 37 => ⟨S9x64x12, .f32⟩
  | 38 => ⟨S64x3x1x1, .f32⟩
  | 39 => ⟨S64x3, .f32⟩
  | 40 => ⟨S_, .i32⟩
  | 41 => ⟨S1, .i32⟩
  | 42 => ⟨S_, .i32⟩
  | 43 => ⟨S1, .i32⟩
  | 44 => ⟨S2, .i32⟩
  | 45 => ⟨S9x64x12, .f32⟩
  | 46 => ⟨S64x3x1x1, .f32⟩
  | 47 => ⟨S64x3, .f32⟩
  | 48 => ⟨S_, .i32⟩
  | 49 => ⟨S1, .i32⟩
  | 50 => ⟨S_, .i32⟩
  | 51 => ⟨S1, .i32⟩
  | 52 => ⟨S2, .i32⟩
  | 53 => ⟨S9x64x12, .f32⟩
  | 54 => ⟨S64x3x1x1, .f32⟩
  | 55 => ⟨S64x3, .f32⟩
  | 56 => ⟨S_, .i32⟩
  | 57 => ⟨S1, .i32⟩
  | 58 => ⟨S_, .i32⟩
  | 59 => ⟨S1, .i32⟩
  | 60 => ⟨S2, .i32⟩
  | 61 => ⟨S9x64x12, .f32⟩
  | 62 => ⟨S1x128, .f32⟩
  | 63 => ⟨S1x64, .f32⟩
  | 64 => ⟨S1x3, .f32⟩
  | 65 => ⟨S4x3, .f32⟩
  | 66 => ⟨S12, .f32⟩
  | 67 => ⟨S1x12, .f32⟩
  | 68 => ⟨S4x12768x12, .f32⟩
  | 69 => ⟨S4x112x114x2x2x3, .f32⟩
  | 70 => ⟨S4x112x112x2x2x3, .f32⟩
  | 71 => ⟨S4x3x112x2x112x2, .f32⟩
  | 72 => ⟨S4x3x224x224, .f32⟩
  | _ => ⟨S12544x64, .f32⟩

abbrev hbmTy (i : Nat) : BufTy := match i / 128 with
  | 0 => hbmTy0_0 i
  | 1 => hbmTy0_1 i
  | _ => ⟨S12544x64, .f32⟩

abbrev bufTy : (tb : Table) → Fin (tcTables nBuf tb) → BufTy
  | .hbm, ⟨i, _⟩ => hbmTy i
  | .local _ .vmem, ⟨0, _⟩ => ⟨S1x3136x64, .f32⟩
  | .local _ .vmem, ⟨1, _⟩ => ⟨S1x3136x64, .f32⟩
  | .local _ .vmem, ⟨2, _⟩ => ⟨S9x64x128, .f32⟩
  | .local _ .vmem, ⟨3, _⟩ => ⟨S1x128, .f32⟩
  | .local _ .vmem, ⟨4, _⟩ => ⟨S16x128x64, .f32⟩
  | .local _ .vmem, ⟨5, _⟩ => ⟨S1x64, .f32⟩
  | .local _ .vmem, ⟨6, _⟩ => ⟨S9x64x12, .f32⟩
  | .local _ .vmem, ⟨7, _⟩ => ⟨S1x12, .f32⟩
  | .local _ .vmem, ⟨8, _⟩ => ⟨S1x12768x12, .f32⟩
  | .local _ .vmem, ⟨9, _⟩ => ⟨S1x12768x12, .f32⟩
  | .local _ .vmem, ⟨10, _⟩ => ⟨S3488x64, .f32⟩
  | .local _ .vmem, ⟨11, _⟩ => ⟨S3488x128, .f32⟩
  | .local _ .vmem, ⟨12, _⟩ => ⟨S13232x64, .f32⟩
  | _, _ => ⟨S12544x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_c : Ref sig .tc := ⟨.hbm, 64, rfl⟩
abbrev main_v56 : Ref sig .tc := ⟨.hbm, 65, rfl⟩
abbrev main_c_0 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_c_1 : Ref sig .tc := ⟨.hbm, 72, rfl⟩
abbrev main_v62 : Ref sig .tc := ⟨.hbm, 73, rfl⟩
abbrev main_c_2 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c_3 : Ref sig .tc := ⟨.hbm, 80, rfl⟩
abbrev main_v68 : Ref sig .tc := ⟨.hbm, 81, rfl⟩
abbrev main_c_4 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_c_5 : Ref sig .tc := ⟨.hbm, 88, rfl⟩
abbrev main_v74 : Ref sig .tc := ⟨.hbm, 89, rfl⟩
abbrev main_c_6 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_c_7 : Ref sig .tc := ⟨.hbm, 96, rfl⟩
abbrev main_v80 : Ref sig .tc := ⟨.hbm, 97, rfl⟩
abbrev main_c_8 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_9 : Ref sig .tc := ⟨.hbm, 104, rfl⟩
abbrev main_v86 : Ref sig .tc := ⟨.hbm, 105, rfl⟩
abbrev main_c_10 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c_11 : Ref sig .tc := ⟨.hbm, 112, rfl⟩
abbrev main_v92 : Ref sig .tc := ⟨.hbm, 113, rfl⟩
abbrev main_c_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_c_13 : Ref sig .tc := ⟨.hbm, 120, rfl⟩
abbrev main_v98 : Ref sig .tc := ⟨.hbm, 121, rfl⟩
abbrev main_c_14 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_c_15 : Ref sig .tc := ⟨.hbm, 128, rfl⟩
abbrev main_v104 : Ref sig .tc := ⟨.hbm, 129, rfl⟩
abbrev main_c_16 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_c_17 : Ref sig .tc := ⟨.hbm, 136, rfl⟩
abbrev main_v110 : Ref sig .tc := ⟨.hbm, 137, rfl⟩
abbrev main_c_18 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_c_19 : Ref sig .tc := ⟨.hbm, 144, rfl⟩
abbrev main_v116 : Ref sig .tc := ⟨.hbm, 145, rfl⟩
abbrev main_c_20 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_c_21 : Ref sig .tc := ⟨.hbm, 152, rfl⟩
abbrev main_v122 : Ref sig .tc := ⟨.hbm, 153, rfl⟩
abbrev main_c_22 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_c_23 : Ref sig .tc := ⟨.hbm, 160, rfl⟩
abbrev main_v128 : Ref sig .tc := ⟨.hbm, 161, rfl⟩
abbrev main_c_24 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_25 : Ref sig .tc := ⟨.hbm, 168, rfl⟩
abbrev main_v134 : Ref sig .tc := ⟨.hbm, 169, rfl⟩
abbrev main_c_26 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_27 : Ref sig .tc := ⟨.hbm, 176, rfl⟩
abbrev main_v140 : Ref sig .tc := ⟨.hbm, 177, rfl⟩
abbrev main_c_28 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_c_29 : Ref sig .tc := ⟨.hbm, 184, rfl⟩
abbrev main_v146 : Ref sig .tc := ⟨.hbm, 185, rfl⟩
abbrev main_c_30 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x64x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x12768x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefDecodeIdeal.lean ====
abbrev S12544x64 : Shape := ⟨2, ![12544, 64]⟩
abbrev S128x64x3x3 : Shape := ⟨4, ![128, 64, 3, 3]⟩
abbrev S128 : Shape := ⟨1, ![128]⟩
abbrev S128x64x4x4 : Shape := ⟨4, ![128, 64, 4, 4]⟩
abbrev S64 : Shape := ⟨1, ![64]⟩
abbrev S64x3x4x4 : Shape := ⟨4, ![64, 3, 4, 4]⟩
abbrev S3 : Shape := ⟨1, ![3]⟩
abbrev S4x64x56x56 : Shape := ⟨4, ![4, 64, 56, 56]⟩
abbrev S_ : Shape := ⟨0, ![]⟩
abbrev S4x64x58x58 : Shape := ⟨4, ![4, 64, 58, 58]⟩
abbrev S128x64x1x1 : Shape := ⟨4, ![128, 64, 1, 1]⟩
abbrev S128x64 : Shape := ⟨2, ![128, 64]⟩
abbrev S128x4x56x56 : Shape := ⟨4, ![128, 4, 56, 56]⟩
abbrev S4x128x56x56 : Shape := ⟨4, ![4, 128, 56, 56]⟩
abbrev S1x128x1x1 : Shape := ⟨4, ![1, 128, 1, 1]⟩
abbrev S4x128x115x115 : Shape := ⟨4, ![4, 128, 115, 115]⟩
abbrev S4x128x112x112 : Shape := ⟨4, ![4, 128, 112, 112]⟩
abbrev S64x4x112x112 : Shape := ⟨4, ![64, 4, 112, 112]⟩
abbrev S4x64x112x112 : Shape := ⟨4, ![4, 64, 112, 112]⟩
abbrev S1x64x1x1 : Shape := ⟨4, ![1, 64, 1, 1]⟩
abbrev S4x64x227x227 : Shape := ⟨4, ![4, 64, 227, 227]⟩
abbrev S4x64x224x224 : Shape := ⟨4, ![4, 64, 224, 224]⟩
abbrev S64x3x1x1 : Shape := ⟨4, ![64, 3, 1, 1]⟩
abbrev S64x3 : Shape := ⟨2, ![64, 3]⟩
abbrev S3x4x224x224 : Shape := ⟨4, ![3, 4, 224, 224]⟩
abbrev S4x3x224x224 : Shape := ⟨4, ![4, 3, 224, 224]⟩
abbrev S1x3x1x1 : Shape := ⟨4, ![1, 3, 1, 1]⟩

abbrev nBuf : Space → Nat
  | .hbm => 282
  | .vmem => 0
  | .smem => 0
  | _ => 0

abbrev hbmTy0_0 (i : Nat) : BufTy := match i % 128 with
  | 0 => ⟨S12544x64, .f32⟩
  | 1 => ⟨S128x64x3x3, .f32⟩
  | 2 => ⟨S128, .f32⟩
  | 3 => ⟨S128x64x4x4, .f32⟩
  | 4 => ⟨S64, .f32⟩
  | 5 => ⟨S64x3x4x4, .f32⟩
  | 6 => ⟨S3, .f32⟩
  | 7 => ⟨S4x64x56x56, .f32⟩
  | 8 => ⟨S_, .f32⟩
  | 9 => ⟨S4x64x58x58, .f32⟩
  | 10 => ⟨S4x64x56x56, .f32⟩
  | 11 => ⟨S128x64x1x1, .f32⟩
  | 12 => ⟨S128x64, .f32⟩
  | 13 => ⟨S128x4x56x56, .f32⟩
  | 14 => ⟨S4x128x56x56, .f32⟩
  | 15 => ⟨S_, .f32⟩
  | 16 => ⟨S4x128x56x56, .f32⟩
  | 17 => ⟨S4x128x56x56, .f32⟩
  | 18 => ⟨S4x64x56x56, .f32⟩
  | 19 => ⟨S128x64x1x1, .f32⟩
  | 20 => ⟨S128x64, .f32⟩
  | 21 => ⟨S128x4x56x56, .f32⟩
  | 22 => ⟨S4x128x56x56, .f32⟩
  | 23 => ⟨S4x128x56x56, .f32⟩
  | 24 => ⟨S4x64x56x56, .f32⟩
  | 25 => ⟨S128x64x1x1, .f32⟩
  | 26 => ⟨S128x64, .f32⟩
  | 27 => ⟨S128x4x56x56, .f32⟩
  | 28 => ⟨S4x128x56x56, .f32⟩
  | 29 => ⟨S4x128x56x56, .f32⟩
  | 30 => ⟨S4x64x56x56, .f32⟩
  | 31 => ⟨S128x64x1x1, .f32⟩
  | 32 => ⟨S128x64, .f32⟩
  | 33 => ⟨S128x4x56x56, .f32⟩
  | 34 => ⟨S4x128x56x56, .f32⟩
  | 35 => ⟨S4x128x56x56, .f32⟩
  | 36 => ⟨S4x64x56x56, .f32⟩
  | 37 => ⟨S128x64x1x1, .f32⟩
  | 38 => ⟨S128x64, .f32⟩
  | 39 => ⟨S128x4x56x56, .f32⟩
  | 40 => ⟨S4x128x56x56, .f32⟩
  | 41 => ⟨S4x128x56x56, .f32⟩
  | 42 => ⟨S4x64x56x56, .f32⟩
  | 43 => ⟨S128x64x1x1, .f32⟩
  | 44 => ⟨S128x64, .f32⟩
  | 45 => ⟨S128x4x56x56, .f32⟩
  | 46 => ⟨S4x128x56x56, .f32⟩
  | 47 => ⟨S4x128x56x56, .f32⟩
  | 48 => ⟨S4x64x56x56, .f32⟩
  | 49 => ⟨S128x64x1x1, .f32⟩
  | 50 => ⟨S128x64, .f32⟩
  | 51 => ⟨S128x4x56x56, .f32⟩
  | 52 => ⟨S4x128x56x56, .f32⟩
  | 53 => ⟨S4x128x56x56, .f32⟩
  | 54 => ⟨S4x64x56x56, .f32⟩
  | 55 => ⟨S128x64x1x1, .f32⟩
  | 56 => ⟨S128x64, .f32⟩
  | 57 => ⟨S128x4x56x56, .f32⟩
  | 58 => ⟨S4x128x56x56, .f32⟩
  | 59 => ⟨S4x128x56x56, .f32⟩
  | 60 => ⟨S4x64x56x56, .f32⟩
  | 61 => ⟨S128x64x1x1, .f32⟩
  | 62 => ⟨S128x64, .f32⟩
  | 63 => ⟨S128x4x56x56, .f32⟩
  | 64 => ⟨S4x128x56x56, .f32⟩
  | 65 => ⟨S4x128x56x56, .f32⟩
  | 66 => ⟨S1x128x1x1, .f32⟩
  | 67 => ⟨S4x128x56x56, .f32⟩
  | 68 => ⟨S4x128x56x56, .f32⟩
  | 69 => ⟨S_, .f32⟩
  | 70 => ⟨S4x128x56x56, .f32⟩
  | 71 => ⟨S4x128x56x56, .f32⟩
  | 72 => ⟨S_, .f32⟩
  | 73 => ⟨S4x128x115x115, .f32⟩
  | 74 => ⟨S4x128x112x112, .f32⟩
  | 75 => ⟨S128x64x1x1, .f32⟩
  | 76 => ⟨S128x64, .f32⟩
  | 77 => ⟨S64x4x112x112, .f32⟩
  | 78 => ⟨S4x64x112x112, .f32⟩
  | 79 => ⟨S_, .f32⟩
  | 80 => ⟨S4x64x112x112, .f32⟩
  | 81 => ⟨S4x64x112x112, .f32⟩
  | 82 => ⟨S4x128x112x112, .f32⟩
  | 83 => ⟨S128x64x1x1, .f32⟩
  | 84 => ⟨S128x64, .f32⟩
  | 85 => ⟨S64x4x112x112, .f32⟩
  | 86 => ⟨S4x64x112x112, .f32⟩
  | 87 => ⟨S4x64x112x112, .f32⟩
  | 88 => ⟨S4x128x112x112, .f32⟩
  | 89 => ⟨S128x64x1x1, .f32⟩
  | 90 => ⟨S128x64, .f32⟩
  | 91 => ⟨S64x4x112x112, .f32⟩
  | 92 => ⟨S4x64x112x112, .f32⟩
  | 93 => ⟨S4x64x112x112, .f32⟩
  | 94 => ⟨S4x128x112x112, .f32⟩
  | 95 => ⟨S128x64x1x1, .f32⟩
  | 96 => ⟨S128x64, .f32⟩
  | 97 => ⟨S64x4x112x112, .f32⟩
  | 98 => ⟨S4x64x112x112, .f32⟩
  | 99 => ⟨S4x64x112x112, .f32⟩
  | 100 => ⟨S4x128x112x112, .f32⟩
  | 101 => ⟨S128x64x1x1, .f32⟩
  | 102 => ⟨S128x64, .f32⟩
  | 103 => ⟨S64x4x112x112, .f32⟩
  | 104 => ⟨S4x64x112x112, .f32⟩
  | 105 => ⟨S4x64x112x112, .f32⟩
  | 106 => ⟨S4x128x112x112, .f32⟩
  | 107 => ⟨S128x64x1x1, .f32⟩
  | 108 => ⟨S128x64, .f32⟩
  | 109 => ⟨S64x4x112x112, .f32⟩
  | 110 => ⟨S4x64x112x112, .f32⟩
  | 111 => ⟨S4x64x112x112, .f32⟩
  | 112 => ⟨S4x128x112x112, .f32⟩
  | 113 => ⟨S128x64x1x1, .f32⟩
  | 114 => ⟨S128x64, .f32⟩
  | 115 => ⟨S64x4x112x112, .f32⟩
  | 116 => ⟨S4x64x112x112, .f32⟩
  | 117 => ⟨S4x64x112x112, .f32⟩
  | 118 => ⟨S4x128x112x112, .f32⟩
  | 119 => ⟨S128x64x1x1, .f32⟩
  | 120 => ⟨S128x64, .f32⟩
  | 121 => ⟨S64x4x112x112, .f32⟩
  | 122 => ⟨S4x64x112x112, .f32⟩
  | 123 => ⟨S4x64x112x112, .f32⟩
  | 124 => ⟨S4x128x112x112, .f32⟩
  | 125 => ⟨S128x64x1x1, .f32⟩
  | 126 => ⟨S128x64, .f32⟩
  | 127 => ⟨S64x4x112x112, .f32⟩
  | _ => ⟨S12544x64, .f32⟩

abbrev hbmTy0_1 (i : Nat) : BufTy := match i % 128 with
  | 0 => ⟨S4x64x112x112, .f32⟩
  | 1 => ⟨S4x64x112x112, .f32⟩
  | 2 => ⟨S4x128x112x112, .f32⟩
  | 3 => ⟨S128x64x1x1, .f32⟩
  | 4 => ⟨S128x64, .f32⟩
  | 5 => ⟨S64x4x112x112, .f32⟩
  | 6 => ⟨S4x64x112x112, .f32⟩
  | 7 => ⟨S4x64x112x112, .f32⟩
  | 8 => ⟨S4x128x112x112, .f32⟩
  | 9 => ⟨S128x64x1x1, .f32⟩
  | 10 => ⟨S128x64, .f32⟩
  | 11 => ⟨S64x4x112x112, .f32⟩
  | 12 => ⟨S4x64x112x112, .f32⟩
  | 13 => ⟨S4x64x112x112, .f32⟩
  | 14 => ⟨S4x128x112x112, .f32⟩
  | 15 => ⟨S128x64x1x1, .f32⟩
  | 16 => ⟨S128x64, .f32⟩
  | 17 => ⟨S64x4x112x112, .f32⟩
  | 18 => ⟨S4x64x112x112, .f32⟩
  | 19 => ⟨S4x64x112x112, .f32⟩
  | 20 => ⟨S4x128x112x112, .f32⟩
  | 21 => ⟨S128x64x1x1, .f32⟩
  | 22 => ⟨S128x64, .f32⟩
  | 23 => ⟨S64x4x112x112, .f32⟩
  | 24 => ⟨S4x64x112x112, .f32⟩
  | 25 => ⟨S4x64x112x112, .f32⟩
  | 26 => ⟨S4x128x112x112, .f32⟩
  | 27 => ⟨S128x64x1x1, .f32⟩
  | 28 => ⟨S128x64, .f32⟩
  | 29 => ⟨S64x4x112x112, .f32⟩
  | 30 => ⟨S4x64x112x112, .f32⟩
  | 31 => ⟨S4x64x112x112, .f32⟩
  | 32 => ⟨S4x128x112x112, .f32⟩
  | 33 => ⟨S128x64x1x1, .f32⟩
  | 34 => ⟨S128x64, .f32⟩
  | 35 => ⟨S64x4x112x112, .f32⟩
  | 36 => ⟨S4x64x112x112, .f32⟩
  | 37 => ⟨S4x64x112x112, .f32⟩
  | 38 => ⟨S4x128x112x112, .f32⟩
  | 39 => ⟨S128x64x1x1, .f32⟩
  | 40 => ⟨S128x64, .f32⟩
  | 41 => ⟨S64x4x112x112, .f32⟩
  | 42 => ⟨S4x64x112x112, .f32⟩
  | 43 => ⟨S4x64x112x112, .f32⟩
  | 44 => ⟨S1x64x1x1, .f32⟩
  | 45 => ⟨S4x64x112x112, .f32⟩
  | 46 => ⟨S4x64x112x112, .f32⟩
  | 47 => ⟨S_, .f32⟩
  | 48 => ⟨S4x64x112x112, .f32⟩
  | 49 => ⟨S4x64x112x112, .f32⟩
  | 50 => ⟨S_, .f32⟩
  | 51 => ⟨S4x64x227x227, .f32⟩
  | 52 => ⟨S4x64x224x224, .f32⟩
  | 53 => ⟨S64x3x1x1, .f32⟩
  | 54 => ⟨S64x3, .f32⟩
  | 55 => ⟨S3x4x224x224, .f32⟩
  | 56 => ⟨S4x3x224x224, .f32⟩
  | 57 => ⟨S_, .f32⟩
  | 58 => ⟨S4x3x224x224, .f32⟩
  | 59 => ⟨S4x3x224x224, .f32⟩
  | 60 => ⟨S4x64x224x224, .f32⟩
  | 61 => ⟨S64x3x1x1, .f32⟩
  | 62 => ⟨S64x3, .f32⟩
  | 63 => ⟨S3x4x224x224, .f32⟩
  | 64 => ⟨S4x3x224x224, .f32⟩
  | 65 => ⟨S4x3x224x224, .f32⟩
  | 66 => ⟨S4x64x224x224, .f32⟩
  | 67 => ⟨S64x3x1x1, .f32⟩
  | 68 => ⟨S64x3, .f32⟩
  | 69 => ⟨S3x4x224x224, .f32⟩
  | 70 => ⟨S4x3x224x224, .f32⟩
  | 71 => ⟨S4x3x224x224, .f32⟩
  | 72 => ⟨S4x64x224x224, .f32⟩
  | 73 => ⟨S64x3x1x1, .f32⟩
  | 74 => ⟨S64x3, .f32⟩
  | 75 => ⟨S3x4x224x224, .f32⟩
  | 76 => ⟨S4x3x224x224, .f32⟩
  | 77 => ⟨S4x3x224x224, .f32⟩
  | 78 => ⟨S4x64x224x224, .f32⟩
  | 79 => ⟨S64x3x1x1, .f32⟩
  | 80 => ⟨S64x3, .f32⟩
  | 81 => ⟨S3x4x224x224, .f32⟩
  | 82 => ⟨S4x3x224x224, .f32⟩
  | 83 => ⟨S4x3x224x224, .f32⟩
  | 84 => ⟨S4x64x224x224, .f32⟩
  | 85 => ⟨S64x3x1x1, .f32⟩
  | 86 => ⟨S64x3, .f32⟩
  | 87 => ⟨S3x4x224x224, .f32⟩
  | 88 => ⟨S4x3x224x224, .f32⟩
  | 89 => ⟨S4x3x224x224, .f32⟩
  | 90 => ⟨S4x64x224x224, .f32⟩
  | 91 => ⟨S64x3x1x1, .f32⟩
  | 92 => ⟨S64x3, .f32⟩
  | 93 => ⟨S3x4x224x224, .f32⟩
  | 94 => ⟨S4x3x224x224, .f32⟩
  | 95 => ⟨S4x3x224x224, .f32⟩
  | 96 => ⟨S4x64x224x224, .f32⟩
  | 97 => ⟨S64x3x1x1, .f32⟩
  | 98 => ⟨S64x3, .f32⟩
  | 99 => ⟨S3x4x224x224, .f32⟩
  | 100 => ⟨S4x3x224x224, .f32⟩
  | 101 => ⟨S4x3x224x224, .f32⟩
  | 102 => ⟨S4x64x224x224, .f32⟩
  | 103 => ⟨S64x3x1x1, .f32⟩
  | 104 => ⟨S64x3, .f32⟩
  | 105 => ⟨S3x4x224x224, .f32⟩
  | 106 => ⟨S4x3x224x224, .f32⟩
  | 107 => ⟨S4x3x224x224, .f32⟩
  | 108 => ⟨S4x64x224x224, .f32⟩
  | 109 => ⟨S64x3x1x1, .f32⟩
  | 110 => ⟨S64x3, .f32⟩
  | 111 => ⟨S3x4x224x224, .f32⟩
  | 112 => ⟨S4x3x224x224, .f32⟩
  | 113 => ⟨S4x3x224x224, .f32⟩
  | 114 => ⟨S4x64x224x224, .f32⟩
  | 115 => ⟨S64x3x1x1, .f32⟩
  | 116 => ⟨S64x3, .f32⟩
  | 117 => ⟨S3x4x224x224, .f32⟩
  | 118 => ⟨S4x3x224x224, .f32⟩
  | 119 => ⟨S4x3x224x224, .f32⟩
  | 120 => ⟨S4x64x224x224, .f32⟩
  | 121 => ⟨S64x3x1x1, .f32⟩
  | 122 => ⟨S64x3, .f32⟩
  | 123 => ⟨S3x4x224x224, .f32⟩
  | 124 => ⟨S4x3x224x224, .f32⟩
  | 125 => ⟨S4x3x224x224, .f32⟩
  | 126 => ⟨S4x64x224x224, .f32⟩
  | 127 => ⟨S64x3x1x1, .f32⟩
  | _ => ⟨S12544x64, .f32⟩

abbrev hbmTy0_2 (i : Nat) : BufTy := match i % 128 with
  | 0 => ⟨S64x3, .f32⟩
  | 1 => ⟨S3x4x224x224, .f32⟩
  | 2 => ⟨S4x3x224x224, .f32⟩
  | 3 => ⟨S4x3x224x224, .f32⟩
  | 4 => ⟨S4x64x224x224, .f32⟩
  | 5 => ⟨S64x3x1x1, .f32⟩
  | 6 => ⟨S64x3, .f32⟩
  | 7 => ⟨S3x4x224x224, .f32⟩
  | 8 => ⟨S4x3x224x224, .f32⟩
  | 9 => ⟨S4x3x224x224, .f32⟩
  | 10 => ⟨S4x64x224x224, .f32⟩
  | 11 => ⟨S64x3x1x1, .f32⟩
  | 12 => ⟨S64x3, .f32⟩
  | 13 => ⟨S3x4x224x224, .f32⟩
  | 14 => ⟨S4x3x224x224, .f32⟩
  | 15 => ⟨S4x3x224x224, .f32⟩
  | 16 => ⟨S4x64x224x224, .f32⟩
  | 17 => ⟨S64x3x1x1, .f32⟩
  | 18 => ⟨S64x3, .f32⟩
  | 19 => ⟨S3x4x224x224, .f32⟩
  | 20 => ⟨S4x3x224x224, .f32⟩
  | 21 => ⟨S4x3x224x224, .f32⟩
  | 22 => ⟨S1x3x1x1, .f32⟩
  | 23 => ⟨S4x3x224x224, .f32⟩
  | 24 => ⟨S4x3x224x224, .f32⟩
  | 25 => ⟨S4x3x224x224, .f32⟩
  | _ => ⟨S12544x64, .f32⟩

abbrev hbmTy (i : Nat) : BufTy := match i / 128 with
  | 0 => hbmTy0_0 i
  | 1 => hbmTy0_1 i
  | 2 => hbmTy0_2 i
  | _ => ⟨S12544x64, .f32⟩

abbrev bufTy : (tb : Table) → Fin (tcTables nBuf tb) → BufTy
  | .hbm, ⟨i, _⟩ => hbmTy i
  | _, _ => ⟨S12544x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_1 : Ref sig .tc := ⟨.hbm, 69, rfl⟩
abbrev main_v60 : Ref sig .tc := ⟨.hbm, 70, rfl⟩
abbrev main_v61 : Ref sig .tc := ⟨.hbm, 71, rfl⟩
abbrev main_cst_2 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_3 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_cst_4 : Ref sig .tc := ⟨.hbm, 175, rfl⟩
abbrev main_v163 : Ref sig .tc := ⟨.hbm, 176, rfl⟩
abbrev main_v164 : Ref sig .tc := ⟨.hbm, 177, rfl⟩
abbrev main_cst_5 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_cst_6 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩

abbrev nD : Nat := 1
abbrev τ : Topo := Topo.v7x

variable {F : FTy → Type} [FloatOps F]
-- ==== Proof.Vq.lean ====
/-
  The arithmetic of vector quantisation over the extended reals, stated once for both programs:
  squared distances to the codebook, the first nearest codeword, the encodings, the quantised
  vectors, the loss and the perplexity.
-/
module

public import Idealize.ShloMosaic.Lib.Pointwise
public import Idealize.ShloMosaic.Lib.Pipeline.ValueKit
public import Idealize.ShloMosaic.PureOps.Ideal.Laws
public import Idealize.ShloMosaic.PureOps.Reduce

@[expose] public section

noncomputable section

namespace Cert.Vq

open Idealize.ShloMosaic

/-- `i` is the first place at which `d` takes its least value. -/
def FirstMin {n : ℕ} (d : Fin n → EReal) (i : Fin n) : Prop :=
  ∀ k, d i < d k ∨ (d i = d k ∧ i ≤ k)

theorem FirstMin.unique {n : ℕ} {d : Fin n → EReal} {i j : Fin n} (hi : FirstMin d i) (hj : FirstMin d j) : i = j := by
  rcases hi j with h | ⟨h, h'⟩ <;> rcases hj i with g | ⟨g, g'⟩
  · exact absurd h (lt_asymm g)
  · exact absurd h (by rw [g]; exact lt_irrefl _)
  · exact absurd g (by rw [h]; exact lt_irrefl _)
  · exact le_antisymm h' g'

theorem exists_firstMin {n : ℕ} (d : Fin (n + 1) → EReal) : ∃ i, FirstMin d i := by
  obtain ⟨m, -, hm⟩ := Finset.exists_min_image Finset.univ d ⟨0, Finset.mem_univ _⟩
  obtain ⟨i, hi, hi'⟩ := Finset.exists_min_image (Finset.univ.filter fun k => d k = d m) (fun k => k)
    ⟨m, by simp⟩
  rw [Finset.mem_filter] at hi
  refine ⟨i, fun k => ?_⟩
  rcases lt_or_eq_of_le (hm k (Finset.mem_univ k)) with h | h
  · left; rw [hi.2]; exact h
  · right; exact ⟨by rw [hi.2, h], hi' k (by simp [h])⟩

/-- The first nearest codeword's number. -/
def first (d : Fin 1024 → EReal) : Fin 1024 := Classical.choose (exists_firstMin d)

theorem first_spec (d : Fin 1024 → EReal) : FirstMin d (first d) := Classical.choose_spec (exists_firstMin d)

theorem first_eq {d : Fin 1024 → EReal} {i : Fin 1024} (h : FirstMin d i) : first d = i := (first_spec d).unique h

/-- The squared distance of a row `x` to codeword `w`, expanded. -/
def dist (x w : Fin 64 → EReal) : EReal :=
  ((∑ d, x d * x d) + ∑ d, w d * w d) - (2 : EReal) * ∑ d, x d * w d

/-- The nearest codeword of a row. -/
def near (x : Fin 64 → EReal) (C : Fin 1024 → Fin 64 → EReal) : Fin 1024 := first fun k => dist x (C k)

/-- One row of the encodings. -/
def enc (x : Fin 64 → EReal) (C : Fin 1024 → Fin 64 → EReal) (k : Fin 1024) : EReal := if k = near x C then 1 else 0

/-- One row of the quantised vectors. -/
def quant (x : Fin 64 → EReal) (C : Fin 1024 → Fin 64 → EReal) (d : Fin 64) : EReal := ∑ k, enc x C k * C k d

/-- One row's squared error. -/
def err (x : Fin 64 → EReal) (C : Fin 1024 → Fin 64 → EReal) : EReal :=
  ∑ d, (quant x C d - x d) * (quant x C d - x d)

/-- The squared error of the first `n` rows. -/
def total (X : ℕ → Fin 64 → EReal) (C : Fin 1024 → Fin 64 → EReal) (n : ℕ) : EReal :=
  ∑ r ∈ Finset.range n, err (X r) C

/-- How many of the first `n` rows took codeword `k`. -/
def count (X : ℕ → Fin 64 → EReal) (C : Fin 1024 → Fin 64 → EReal) (n : ℕ) (k : Fin 1024) : EReal :=
  ∑ r ∈ Finset.range n, enc (X r) C k

/-! ## The printed ways of finding the first nearest codeword -/

theorem two_eq : Ideal.ofBits FTy.f32 1073741824#32 = (2 : EReal) := by
  simp [Ideal.ofBits, Ideal.ieee, -EReal.coe_mul]; norm_num; rfl

theorem top_eq : Ideal.ofBits FTy.f32 2139095040#32 = (⊤ : EReal) := by
  simp [Ideal.ofBits, Ideal.ieee]

theorem fold_min_eq (d : Fin 1024 → EReal) : Finset.univ.fold min (⊤ : EReal) d = d (first d) := by
  apply le_antisymm
  · rw [Finset.fold_min_le]; exact Or.inr ⟨_, Finset.mem_univ _, le_rfl⟩
  · rw [Finset.le_fold_min]
    refine ⟨le_top, fun k _ => ?_⟩
    rcases first_spec d k with h | ⟨h, -⟩
    · exact h.le
    · exact h.le

theorem minsi_toInt (x y : BitVec 32) : (IntOp.minsi x y).toInt = min x.toInt y.toInt := by
  unfold IntOp.minsi
  simp only [BitVec.slt_iff_toInt_lt]
  split <;> omega

theorem toInt_ofNat_small (k : ℕ) (h : k < 2048) : (BitVec.ofNat 32 k).toInt = (k : ℤ) := by
  rw [BitVec.toInt_eq_toNat_cond]; simp only [BitVec.toNat_ofNat]; split <;> omega

/-- The least of the numbers of the places holding the least value, as the signed words fold it. -/
theorem fold_word (d : Fin 1024 → EReal) :
    Finset.univ.fold IntOp.minsi (2147483647#32)
      (fun k : Fin 1024 => if d k = Finset.univ.fold min (⊤ : EReal) d then BitVec.ofNat 32 k.val else 1024#32)
      = BitVec.ofNat 32 (first d).val := by
  apply BitVec.eq_of_toInt_eq
  rw [← Finset.fold_hom (op' := min) (m := BitVec.toInt) minsi_toInt, toInt_ofNat_small (first d).val (by omega), fold_min_eq]
  apply le_antisymm
  · rw [Finset.fold_min_le]
    refine Or.inr ⟨first d, Finset.mem_univ _, ?_⟩
    rw [if_pos rfl, toInt_ofNat_small (first d).val (by omega)]
  · rw [Finset.le_fold_min]
    have hl := (first d).isLt
    refine ⟨?_, fun k _ => ?_⟩
    · show _ ≤ (2147483647#32 : BitVec 32).toInt
      rw [show (2147483647#32 : BitVec 32).toInt = 2147483647 by decide]; omega
    split
    · rename_i h
      rw [toInt_ofNat_small k.val (by omega)]
      rcases first_spec d k with h' | ⟨-, h'⟩
      · exact absurd h' (by rw [h]; exact lt_irrefl _)
      · exact_mod_cast h'
    · rw [show (1024#32 : BitVec 32).toInt = 1024 by decide]; omega

theorem ofNat_eq_iff (j k : Fin 1024) : BitVec.ofNat 32 j.val = BitVec.ofNat 32 k.val ↔ j = k := by
  constructor
  · intro h
    have := congrArg BitVec.toNat h
    simp only [BitVec.toNat_ofNat] at this
    apply Fin.ext; omega
  · rintro rfl; rfl

theorem onehot_signed (j k : Fin 1024) :
    (FloatOps.sitofp FTy.f32 (BitVec.setWidth 32 (IntOp.cmpi CmpIPredicate.eq (BitVec.ofNat 32 j.val) (BitVec.ofNat 32 k.val))) : Ideal .f32)
      = if j = k then (1 : EReal) else 0 := by
  by_cases h : j = k
  · subst h
    show (((BitVec.setWidth 32 (BitVec.ofBool (BitVec.ofNat 32 j.val == BitVec.ofNat 32 j.val))).toInt : ℝ) : EReal) = _
    rw [beq_self_eq_true, if_pos rfl, show (BitVec.setWidth 32 (BitVec.ofBool true)).toInt = 1 by decide]
    norm_num
  · have g : (BitVec.ofNat 32 j.val == BitVec.ofNat 32 k.val) = false :=
      beq_eq_false_iff_ne.mpr fun g => h ((ofNat_eq_iff j k).mp g)
    show (((BitVec.setWidth 32 (BitVec.ofBool (BitVec.ofNat 32 j.val == BitVec.ofNat 32 k.val))).toInt : ℝ) : EReal) = _
    rw [g, if_neg h]
    norm_num

theorem onehot_unsigned (j k : Fin 1024) :
    (FloatOps.uitofp FTy.f32 (IntOp.cmpi CmpIPredicate.eq (BitVec.ofNat 32 j.val) (BitVec.ofNat 32 k.val)) : Ideal .f32)
      = if k = j then (1 : EReal) else 0 := by
  by_cases h : k = j
  · subst h
    show (((BitVec.ofBool (BitVec.ofNat 32 k.val == BitVec.ofNat 32 k.val)).toNat : ℝ) : EReal) = _
    rw [beq_self_eq_true, if_pos rfl, show (BitVec.ofBool true).toNat = 1 by decide]
    norm_num
  · have g : (BitVec.ofNat 32 j.val == BitVec.ofNat 32 k.val) = false :=
      beq_eq_false_iff_ne.mpr fun g => h ((ofNat_eq_iff j k).mp g).symm
    show (((BitVec.ofBool (BitVec.ofNat 32 j.val == BitVec.ofNat 32 k.val)).toNat : ℝ) : EReal) = _
    rw [g, if_neg h]
    norm_num

/-- The order by value, then by index word. -/
def Le (p r : EReal × BitVec 32) : Prop := p.1 < r.1 ∨ (p.1 = r.1 ∧ p.2.toInt ≤ r.2.toInt)

theorem Le.refl (p : EReal × BitVec 32) : Le p p := Or.inr ⟨rfl, le_rfl⟩

theorem Le.trans {p q r : EReal × BitVec 32} (h : Le p q) (g : Le q r) : Le p r := by
  rcases h with h | ⟨h, h'⟩ <;> rcases g with g | ⟨g, g'⟩
  · exact Or.inl (h.trans g)
  · exact Or.inl (by rw [← g]; exact h)
  · exact Or.inl (by rw [h]; exact g)
  · exact Or.inr ⟨h.trans g, h'.trans g'⟩

/-- A left fold by a step that keeps one of its two pairs, the lesser, ends at the least of all. -/
theorem foldl_least (f : EReal × BitVec 32 → EReal × BitVec 32 → EReal × BitVec 32)
    (hf : ∀ a b, (f a b = a ∨ f a b = b) ∧ Le (f a b) a ∧ Le (f a b) b) :
    ∀ (L : List (EReal × BitVec 32)) (a : EReal × BitVec 32),
      (L.foldl f a = a ∨ L.foldl f a ∈ L) ∧ Le (L.foldl f a) a ∧ ∀ p ∈ L, Le (L.foldl f a) p
  | [], a => ⟨Or.inl rfl, Le.refl a, by simp⟩
  | b :: L, a => by
      obtain ⟨h1, h2, h3⟩ := foldl_least f hf L (f a b)
      obtain ⟨g1, g2, g3⟩ := hf a b
      rw [List.foldl_cons]
      refine ⟨?_, h2.trans g2, ?_⟩
      · rcases h1 with h | h
        · rw [h]; rcases g1 with g | g
          · exact Or.inl g
          · right; rw [g]; exact List.mem_cons_self
        · exact Or.inr (List.mem_cons_of_mem _ h)
      · intro p hp
        rcases List.mem_cons.mp hp with rfl | hp
        · exact h2.trans g3
        · exact h3 p hp

/-- Folding over the pairs of each value with its number, from the pair of the top value and number 0, ends at the
    first least value's number. -/
theorem foldl_first (f : EReal × BitVec 32 → EReal × BitVec 32 → EReal × BitVec 32)
    (hf : ∀ a b, (f a b = a ∨ f a b = b) ∧ Le (f a b) a ∧ Le (f a b) b)
    (d : Fin 1024 → EReal) (L : List (EReal × BitVec 32))
    (hL : ∀ p, p ∈ L ↔ ∃ k, p = (d k, BitVec.ofNat 32 k.val)) :
    (L.foldl f ((⊤ : EReal), 0#32)).2 = BitVec.ofNat 32 (first d).val := by
  obtain ⟨h1, h2, h3⟩ := foldl_least f hf L ((⊤ : EReal), 0#32)
  have key : L.foldl f ((⊤ : EReal), 0#32) ∈ L := by
    rcases h1 with h | h
    · have g := h3 _ ((hL _).mpr ⟨0, rfl⟩)
      rw [h] at g
      rcases g with g | ⟨g, -⟩
      · exact absurd g (not_lt.mpr le_top)
      · rw [h, hL]; exact ⟨0, Prod.ext g rfl⟩
    · exact h
  obtain ⟨i, hi⟩ := (hL _).mp key
  rw [hi]
  refine congrArg (fun k : Fin 1024 => BitVec.ofNat 32 k.val) (first_eq fun k => ?_).symm
  have g := h3 _ ((hL _).mpr ⟨k, rfl⟩)
  rw [hi] at g
  rcases g with g | ⟨g, g'⟩
  · exact Or.inl g
  · refine Or.inr ⟨g, ?_⟩
    rw [toInt_ofNat_small i.val (by omega), toInt_ofNat_small k.val (by omega)] at g'
    exact_mod_cast g'

end Cert.Vq

end
-- ==== Proof.VqSum.lean ====
/-
  The loss and the perplexity over the extended reals: the two programs' ways of scaling, and sums of rows by blocks.
-/
module

public import proofs.«01_k».proof.Proof.Vq

@[expose] public section

noncomputable section

namespace Cert.Vq

open Idealize.ShloMosaic

/-- The loss of a total squared error. -/
def lossOf (T : EReal) : EReal := T * ((5 / 3211264 : ℝ) : EReal)

/-- The perplexity of the codewords' counts. -/
def perpOf (n : Fin 1024 → EReal) : EReal :=
  Ideal.exp (-∑ k, (n k * ((1 / 12544 : ℝ) : EReal)) * Ideal.log (n k * ((1 / 12544 : ℝ) : EReal) + Ideal.ofBits FTy.f32 786163455#32))

theorem quarter_eq : Ideal.ofBits FTy.f32 1048576000#32 = ((1 / 4 : ℝ) : EReal) := by
  simp [Ideal.ofBits, Ideal.ieee, -EReal.coe_mul]; norm_num

theorem size_eq : Ideal.ofBits FTy.f32 1229193216#32 = ((802816 : ℝ) : EReal) := by
  simp [Ideal.ofBits, Ideal.ieee, -EReal.coe_mul]; norm_num

theorem rows_eq : Ideal.ofBits FTy.f32 1178861568#32 = ((12544 : ℝ) : EReal) := by
  simp [Ideal.ofBits, Ideal.ieee, -EReal.coe_mul]; norm_num

theorem sq_nonneg' (x : EReal) : 0 ≤ x * x := by
  rcases le_total 0 x with h | h
  · exact mul_nonneg h h
  · have g : 0 ≤ -x := EReal.neg_nonneg.mpr h
    have := mul_nonneg g g
    rwa [neg_mul_neg] at this

theorem total_nonneg (X : ℕ → Fin 64 → EReal) (C : Fin 1024 → Fin 64 → EReal) (n : ℕ) : 0 ≤ total X C n :=
  Finset.sum_nonneg fun _ _ => Finset.sum_nonneg fun _ _ => sq_nonneg' _

/-- A quarter of the mean squared error plus the mean squared error is the loss. -/
theorem loss_eq {T : EReal} (h : 0 ≤ T) :
    Ideal.ofBits FTy.f32 1048576000#32 * Ideal.div T (Ideal.ofBits FTy.f32 1229193216#32)
      + Ideal.div T (Ideal.ofBits FTy.f32 1229193216#32) = lossOf T := by
  rw [quarter_eq, size_eq, Ideal.div_coe (by norm_num), lossOf]
  induction T using EReal.rec with
  | bot => exact absurd h (by simp)
  | coe t =>
    rw [← EReal.coe_mul, ← EReal.coe_mul, ← EReal.coe_add, ← EReal.coe_mul]
    congr 1; ring
  | top =>
    rw [EReal.top_mul_coe_of_pos (by norm_num), EReal.top_mul_coe_of_pos (by norm_num), EReal.coe_mul_top_of_pos (by norm_num)]
    rfl

theorem perp_eq (n : Fin 1024 → EReal) :
    Ideal.exp (-∑ k, Ideal.div (n k) (Ideal.ofBits FTy.f32 1178861568#32)
        * Ideal.log (Ideal.div (n k) (Ideal.ofBits FTy.f32 1178861568#32) + Ideal.ofBits FTy.f32 786163455#32)) = perpOf n := by
  simp only [rows_eq, Ideal.div_coe (show (12544 : ℝ) ≠ 0 by norm_num)]
  rfl

theorem total_add (X : ℕ → Fin 64 → EReal) (C : Fin 1024 → Fin 64 → EReal) (n m : ℕ) :
    total X C (n + m) = total X C n + ∑ r : Fin m, err (X (n + r.val)) C := by
  unfold total
  rw [Finset.sum_range_add, Finset.sum_range fun i => err (X (n + i)) C]

theorem count_add (X : ℕ → Fin 64 → EReal) (C : Fin 1024 → Fin 64 → EReal) (n m : ℕ) (k : Fin 1024) :
    count X C (n + m) k = count X C n k + ∑ r : Fin m, enc (X (n + r.val)) C k := by
  unfold count
  rw [Finset.sum_range_add, Finset.sum_range fun i => enc (X (n + i)) C k]

end Cert.Vq

end
-- ==== Proof.VqKernel.lean ====
/-
  The vector-quantising kernel: what its grid points store, and the four arrays it ends with.
-/
module

public import proofs.«01_k».proof.Proof.VqSum
public import proofs.«01_k».proof.Proof.Gen.QuantiseIdeal.Value
public import Idealize.ShloMosaic.Lib.Pipeline.ReadBack

@[expose] public section

set_option maxRecDepth 16384

noncomputable section

namespace Cert.VqKernel

open Idealize.ShloMosaic Idealize.ShloMosaic.TcCoe Idealize.SL.Sem
open Cert.QuantiseIdeal Cert.QuantiseIdeal.Gen Cert.QuantiseIdeal.Value

/-- The rows as a function of a number and a coordinate. -/
def rows (A : S12544x64.Idx → EReal) (n : ℕ) (d : Fin 64) : EReal := if h : n < 12544 then A (ix2 ⟨n, h⟩ d) else 0

/-- The codebook as a function of a number and a coordinate. -/
def book (B : S1024x64.Idx → EReal) (k : Fin 1024) (d : Fin 64) : EReal := B (ix2 k d)

/-! ## One block -/

section Block
variable (x : Vec Ideal S896x64 .f32) (n2 : Vec Ideal S1x1024 .f32) (C : Vec Ideal S1024x64 .f32)

/-- The block's second operand holds the codewords' squared lengths. -/
def Norms : Prop := ∀ k : Fin 1024, n2 (ix2 0 k) = ∑ d : Fin 64, C (ix2 k d) * C (ix2 k d)

theorem pay6_apply (h : Norms n2 C) (r : Fin 896) (k : Fin 1024) :
    k0_pay6 x n2 C (ix2 r k) = Vq.enc (fun d => x (ix2 r d)) (book C) k := by
  pointwise [k0_pay6]
  simp only [h _, Vq.two_eq, Vq.top_eq]
  have e := Vq.fold_word fun k => Vq.dist (fun d => x (ix2 r d)) (book C k)
  simp only [Vq.dist, book] at e
  rw [e]
  exact Vq.onehot_signed _ _

theorem pay7_apply (h : Norms n2 C) (r : Fin 896) (d : Fin 64) :
    k0_pay7 x n2 C (ix2 r d) = Vq.quant (fun d => x (ix2 r d)) (book C) d := by
  have e : k0_pay7 x n2 C (ix2 r d) = ∑ k, k0_pay6 x n2 C (ix2 r k) * C (ix2 k d) := by pointwise [k0_pay7]
  rw [e]
  simp only [pay6_apply x n2 C h]
  rfl

theorem pay9_apply (h : Norms n2 C) (k : Fin 1024) :
    k0_pay9 x n2 C (ix2 0 k) = ∑ r : Fin 896, Vq.enc (fun d => x (ix2 r d)) (book C) k := by
  have e : k0_pay9 x n2 C (ix2 0 k) = ∑ r, k0_pay6 x n2 C (ix2 r k) := by pointwise [k0_pay9]
  rw [e]
  simp only [pay6_apply x n2 C h]

theorem pay8_eq (h : Norms n2 C) :
    k0_pay8 x n2 C = ∑ r : Fin 896, Vq.err (fun d => x (ix2 r d)) (book C) := by
  have e : k0_pay8 x n2 C = ∑ r : Fin 896, ∑ d : Fin 64, (k0_pay7 x n2 C (ix2 r d) - x (ix2 r d)) * (k0_pay7 x n2 C (ix2 r d) - x (ix2 r d)) := by
    pointwise [k0_pay8]
  rw [e]
  simp only [pay7_apply x n2 C h]
  rfl

end Block

/-! ## The grid points -/

section Points
variable (m : (ℓ : Loc nD τ sig) → Buf (Elt Ideal) ℓ) (c : Dev nD)

/-- The rows the program is given. -/
def arg0 : S12544x64.Idx → EReal := m ((c.tc : Thread nD τ).loc main_arg0)
/-- The codebook the program is given. -/
def arg1 : S1024x64.Idx → EReal := m ((c.tc : Thread nD τ).loc main_arg1)

theorem idx : ∀ t : Fin cfg0.N, win0_0.index t = ![t.val, 0] ∧ win0_1.index t = ![0, 0] ∧ win0_2.index t = ![0, 0] :=
  (by decide +kernel : ∀ t : Fin grid0.N, _)

theorem block0 (t : Fin cfg0.N) (r : Fin 896) (d : Fin 64) :
    iblk m c 0 t (ix2 r d) = rows (arg0 m c) (896 * t.val + r.val) d := by
  have hN : cfg0.N = 14 := N_0
  have ht := t.isLt
  have hr := r.isLt
  have h : 896 * t.val + r.val < 12544 := by omega
  have e : iblk m c 0 t (ix2 r d) = m ((c : Thread nD τ).loc main_arg0) (ix2 ⟨t.val * 896 + r.val, by omega⟩ d) := by
    blk_ext [iblk, V, idx t]
  rw [e, rows, dif_pos h, arg0]
  congr 3
  omega

theorem block2 (t : Fin cfg0.N) (k : Fin 1024) (d : Fin 64) : iblk m c 2 t (ix2 k d) = arg1 m c (ix2 k d) := by
  have e : iblk m c 2 t (ix2 k d) = m ((c : Thread nD τ).loc main_arg1) (ix2 k d) := by blk_ext [iblk, V, idx t]
  exact e

theorem book2 (t : Fin cfg0.N) : book (iblk m c 2 t) = book (arg1 m c) := by
  funext k d; exact block2 m c t k d

theorem norms (t : Fin cfg0.N) : Norms (iblk m c 1 t) (iblk m c 2 t) := by
  intro k
  simp only [block2 m c t]
  blk_simp [iblk, V, idx t]
  entry_read
  pointwise
  have e : ((View.whole main_v2).slice (win0_1.rect t)).emb (ix2 0 k) 1 = k := by
    apply Fin.ext
    blk_simp [idx t]
  rw [e]
  rfl

/-- What the point has stored: the encodings and quantised vectors of its rows. -/
theorem row_eq (t : Fin cfg0.N) (r : Fin 896) : (fun d => iblk m c 0 t (ix2 r d)) = rows (arg0 m c) (896 * t.val + r.val) := by
  funext d; exact block0 m c t r d

abbrev St := Vec Ideal S896x1024 .f32 × Vec Ideal S896x64 .f32 × Vec Ideal S1x1 .f32 × Vec Ideal S1x1 .f32 × Vec Ideal S1x1024 .f32 × Vec Ideal S1 .f32

/-- What is held after point `n` : its rows' encodings and quantised vectors, and the counts and total error so far. -/
structure Held (n : ℕ) (o : St) : Prop where
  enc : ∀ (r : Fin 896) (k : Fin 1024), o.1 (ix2 r k) = Vq.enc (rows (arg0 m c) (896 * n + r.val)) (book (arg1 m c)) k
  quant : ∀ (r : Fin 896) (d : Fin 64), o.2.1 (ix2 r d) = Vq.quant (rows (arg0 m c) (896 * n + r.val)) (book (arg1 m c)) d
  count : ∀ k : Fin 1024, o.2.2.2.2.1 (ix2 0 k) = Vq.count (rows (arg0 m c)) (book (arg1 m c)) (896 * n + 896) k
  total : ∀ i : S1.Idx, o.2.2.2.2.2 i = Vq.total (rows (arg0 m c)) (book (arg1 m c)) (896 * n + 896)

theorem held_A (t : Fin cfg0.N) (h0 : t.val % 14 = 0) (h1 : ¬1 ≤ t.val) (h2 : ¬t.val % 14 = 13) :
    Held m c t.val (outsAt0 m c t.val t.isLt) := by
  have hn := norms m c t
  have z : t.val = 0 := by omega
  rw [outsAt0_A m c t h0 h1 h2]
  frame_out
  refine ⟨fun r k => ?_, fun r d => ?_, fun k => ?_, fun i => ?_⟩
  · exact (pay6_apply _ _ _ hn r k).trans (by rw [row_eq, book2])
  · exact (pay7_apply _ _ _ hn r d).trans (by rw [row_eq, book2])
  · have e : k0_pay1 (k0_pay9 (iblk m c 0 t) (iblk m c 1 t) (iblk m c 2 t)) (ix2 0 k) = k0_pay9 (iblk m c 0 t) (iblk m c 1 t) (iblk m c 2 t) (ix2 0 k) := by
      pointwise [k0_pay1]
    refine e.trans ?_
    rw [Vq.count_add, pay9_apply _ _ _ hn]
    simp only [row_eq, book2, z]
    simp [Vq.count]
  · refine (pay8_eq _ _ _ hn).trans ?_
    rw [Vq.total_add]
    simp only [row_eq, book2, z]
    simp [Vq.total]

theorem pay2_apply (a b : Vec Ideal S1x1024 .f32) (k : Fin 1024) :
    k0_pay2 a b (ix2 0 k) = (b (ix2 0 k) : EReal) + a (ix2 0 k) := by
  pointwise [k0_pay2]

theorem pay3_apply (a b : Ideal .f32) : k0_pay3 a b = (b : EReal) + a := by
  pointwise [k0_pay3]

/-- A later point adds its block's counts and error to what was held. -/
theorem counts_step (t : Fin cfg0.N) (o : St) (hz : 1 ≤ t.val) (ho : Held m c (t.val - 1) o) (k : Fin 1024) :
    k0_pay2 (k0_pay9 (iblk m c 0 t) (iblk m c 1 t) (iblk m c 2 t)) o.2.2.2.2.1 (ix2 0 k)
      = Vq.count (rows (arg0 m c)) (book (arg1 m c)) (896 * t.val + 896) k := by
  rw [pay2_apply, ho.count, pay9_apply _ _ _ (norms m c t), Vq.count_add _ _ (896 * t.val) 896]
  simp only [row_eq, book2, show 896 * (t.val - 1) + 896 = 896 * t.val by omega]

theorem total_step (t : Fin cfg0.N) (o : St) (hz : 1 ≤ t.val) (ho : Held m c (t.val - 1) o) (i : S1.Idx) :
    k0_pay3 (k0_pay8 (iblk m c 0 t) (iblk m c 1 t) (iblk m c 2 t)) (o.2.2.2.2.2 i)
      = Vq.total (rows (arg0 m c)) (book (arg1 m c)) (896 * t.val + 896) := by
  rw [pay3_apply, ho.total, pay8_eq _ _ _ (norms m c t), Vq.total_add _ _ (896 * t.val) 896]
  simp only [row_eq, book2, show 896 * (t.val - 1) + 896 = 896 * t.val by omega]

theorem held_B (t : Fin cfg0.N) (h0 : ¬t.val % 14 = 0) (h1 : 1 ≤ t.val) (h2 : ¬t.val % 14 = 13)
    (ho : Held m c (t.val - 1) (outsAt0 m c (t.val - 1) (by omega))) :
    Held m c t.val (outsAt0 m c t.val t.isLt) := by
  have hn := norms m c t
  rw [outsAt0_B m c t h0 h1 h2]
  frame_out
  simp only [read_unread_whole]
  refine ⟨fun r k => ?_, fun r d => ?_, fun k => ?_, fun i => ?_⟩
  · exact (pay6_apply _ _ _ hn r k).trans (by rw [row_eq, book2])
  · exact (pay7_apply _ _ _ hn r d).trans (by rw [row_eq, book2])
  · exact counts_step m c t _ h1 ho k
  · exact total_step m c t _ h1 ho _

/-- The last point also holds the loss and the perplexity. -/
theorem held_C (t : Fin cfg0.N) (h0 : ¬t.val % 14 = 0) (h1 : 1 ≤ t.val) (h2 : t.val % 14 = 13)
    (ho : Held m c (t.val - 1) (outsAt0 m c (t.val - 1) (by omega))) :
    Held m c t.val (outsAt0 m c t.val t.isLt)
      ∧ (∀ i j, (outsAt0 m c t.val t.isLt).2.2.1 (ix2 i j) = Vq.lossOf (Vq.total (rows (arg0 m c)) (book (arg1 m c)) (896 * t.val + 896)))
      ∧ ∀ i j, (outsAt0 m c t.val t.isLt).2.2.2.1 (ix2 i j) = Vq.perpOf (Vq.count (rows (arg0 m c)) (book (arg1 m c)) (896 * t.val + 896)) := by
  have hn := norms m c t
  rw [outsAt0_C m c t h0 h1 h2]
  frame_out
  simp only [read_unread_whole]
  refine ⟨⟨fun r k => ?_, fun r d => ?_, fun k => ?_, fun i => ?_⟩, fun i j => ?_, fun i j => ?_⟩
  · exact (pay6_apply _ _ _ hn r k).trans (by rw [row_eq, book2])
  · exact (pay7_apply _ _ _ hn r d).trans (by rw [row_eq, book2])
  · exact counts_step m c t _ h1 ho k
  · exact total_step m c t _ h1 ho _
  · have e : ∀ v : Ideal .f32, k0_pay5 v (ix2 i j) = (v : EReal) * ((5 / 3211264 : ℝ) : EReal) := by
      intro v
      pointwise [k0_pay5]
      rw [IdealRules.named_const.ideal_named_scalar _ _ _ _ rfl]
    refine (e _).trans ?_
    rw [total_step m c t _ h1 ho _]
    rfl
  · have e : ∀ v : Vec Ideal S1x1024 .f32, k0_pay4 v (ix2 i j) = Vq.perpOf fun k => v (ix2 0 k) := by
      intro v
      pointwise [k0_pay4]
      simp only [IdealRules.named_const.ideal_named_scalar κ "inv_n" _ ((1 / 12544 : ℝ) : EReal) rfl, zero_sub]
      rfl
    refine (e _).trans ?_
    congr 1
    funext k
    exact counts_step m c t _ h1 ho k

theorem held (n : ℕ) (hn : n < cfg0.N) : Held m c n (outsAt0 m c n hn) := by
  have hN : cfg0.N = 14 := N_0
  induction n with
  | zero => exact held_A m c ⟨0, hn⟩ (by show 0 % 14 = 0; decide) (by show ¬1 ≤ 0; decide) (by show ¬0 % 14 = 13; decide)
  | succ n ih =>
    have ho := ih (by omega)
    by_cases h : n = 12
    · exact (held_C m c ⟨n + 1, hn⟩ (by show ¬(n + 1) % 14 = 0; omega) (by show 1 ≤ n + 1; omega) (by show (n + 1) % 14 = 13; omega) ho).1
    · exact held_B m c ⟨n + 1, hn⟩ (by show ¬(n + 1) % 14 = 0; omega) (by show 1 ≤ n + 1; omega) (by show ¬(n + 1) % 14 = 13; omega) ho

theorem last : (∀ i j, (outsAt0 m c 13 (lt_of_lt_of_eq (by decide) N_0.symm)).2.2.1 (ix2 i j) = Vq.lossOf (Vq.total (rows (arg0 m c)) (book (arg1 m c)) 12544))
      ∧ ∀ i j, (outsAt0 m c 13 (lt_of_lt_of_eq (by decide) N_0.symm)).2.2.2.1 (ix2 i j) = Vq.perpOf (Vq.count (rows (arg0 m c)) (book (arg1 m c)) 12544) :=
  (held_C m c ⟨13, lt_of_lt_of_eq (by decide) N_0.symm⟩ (by decide) (by decide) (by decide) (held m c 12 _)).2

/-! ## The arrays -/

theorem G3_apply (n : Fin 12544) (k : Fin 1024) :
    G3 m c (ix2 n k) = Vq.enc (rows (arg0 m c) n.val) (book (arg1 m c)) k := by
  have hN : cfg0.N = 14 := N_0
  have hn := n.isLt
  have hk := k.isLt
  have hp : pt3Of (ix2 n k) = n.val / 896 := by
    show 1 * (n.val / 896 - 0) + 1 * (k.val / 1024 - 0) = _
    omega
  have hl : loc3Of (ix2 n k) = ix2 ⟨n.val % 896, Nat.mod_lt _ (by decide)⟩ k := by
    funext a; apply Fin.ext
    match a with
    | ⟨0, _⟩ => rfl
    | ⟨1, _⟩ => show k.val % 1024 = k.val; omega
  unfold G3
  rw [dif_pos (by rw [hp]; omega), hl, fold0_congr m c _ _ _ (by omega) hp, ← outsAt0_sweep m c (n.val / 896) (by omega),
    (held m c (n.val / 896) (by omega)).enc]
  congr 2
  show 896 * (n.val / 896) + n.val % 896 = n.val
  omega

theorem G4_apply (n : Fin 12544) (d : Fin 64) :
    G4 m c (ix2 n d) = Vq.quant (rows (arg0 m c) n.val) (book (arg1 m c)) d := by
  have hN : cfg0.N = 14 := N_0
  have hn := n.isLt
  have hd := d.isLt
  have hp : pt4Of (ix2 n d) = n.val / 896 := by
    show 1 * (n.val / 896 - 0) + 1 * (d.val / 64 - 0) = _
    omega
  have hl : loc4Of (ix2 n d) = ix2 ⟨n.val % 896, Nat.mod_lt _ (by decide)⟩ d := by
    funext a; apply Fin.ext
    match a with
    | ⟨0, _⟩ => rfl
    | ⟨1, _⟩ => show d.val % 64 = d.val; omega
  unfold G4
  rw [dif_pos (by rw [hp]; omega), hl, fold0_congr m c _ _ _ (by omega) hp, ← outsAt0_sweep m c (n.val / 896) (by omega),
    (held m c (n.val / 896) (by omega)).quant]
  congr 2
  show 896 * (n.val / 896) + n.val % 896 = n.val
  omega

theorem G5_apply (i j : Fin 1) : G5 m c (ix2 i j) = Vq.lossOf (Vq.total (rows (arg0 m c)) (book (arg1 m c)) 12544) := by
  rw [G5_last, ← outsAt0_sweep m c 13]
  exact (last m c).1 i j

theorem G6_apply (i j : Fin 1) : G6 m c (ix2 i j) = Vq.perpOf (Vq.count (rows (arg0 m c)) (book (arg1 m c)) 12544) := by
  rw [G6_last, ← outsAt0_sweep m c 13]
  exact (last m c).2 i j

end Points

end Cert.VqKernel

end
-- ==== Proof.VqArg.lean ====
/-
  The host's arg-min along the second axis of an array of rows: the first place of each row's least value.
-/
module

public import proofs.«01_k».proof.Proof.Vq

@[expose] public section

noncomputable section

namespace Cert.Vq

open Idealize.ShloMosaic

/-- The host's arg-min (or arg-max) along the second axis: the index words. -/
def arg {s t u : Shape} {axes : List (Fin s.rank)} (f : EReal × BitVec 32 → EReal × BitVec 32 → EReal × BitVec 32)
    (D : FVec Ideal s .f32) (y : IVec s 32) (ix : FVec Ideal u .f32) (iy : IVec u 32) (h : s.ReducesTo axes t)
    (hu : 0 < u.numel) : IVec t 32 :=
  fun j => (Host.argReduce (F := Ideal) f D y ix iy h hu j).2

/-- An arg-min along the second axis whose body keeps the lesser pair is the first place of the row's least value. -/
theorem arg_first {N : ℕ} {u : Shape} (f : EReal × BitVec 32 → EReal × BitVec 32 → EReal × BitVec 32)
    (hf : ∀ a b, (f a b = a ∨ f a b = b) ∧ Le (f a b) a ∧ Le (f a b) b)
    (D : FVec Ideal ⟨2, ![N, 1024]⟩ .f32) (y : IVec ⟨2, ![N, 1024]⟩ 32) (hy : ∀ n k, y (ix2 n k) = BitVec.ofNat 32 k.val)
    (ix : FVec Ideal u .f32) (iy : IVec u 32) (h : (⟨2, ![N, 1024]⟩ : Shape).ReducesTo [1] ⟨1, ![N]⟩) (hu : 0 < u.numel)
    (hx : ix (Shape.Idx.first hu) = (⊤ : EReal)) (hi : iy (Shape.Idx.first hu) = 0#32) (n : Fin N) :
    arg f D y ix iy h hu (ix1 n) = BitVec.ofNat 32 (first fun k => D (ix2 n k)).val := by
  unfold arg
  rw [Ideal.argReduce_eq_reduce2, Host.reduce2_eq_foldl_fiber, hx, hi]
  refine foldl_first f hf _ _ fun p => ?_
  unfold Host.argReduceFiber
  simp only [List.mem_map, List.mem_filter, List.mem_finRange, true_and, decide_eq_true_eq]
  constructor
  · rintro ⟨i, hi, rfl⟩
    rw [Shape.ReducesTo.fiber_r2_a1] at hi
    obtain ⟨k, hk⟩ := hi
    refine ⟨k, ?_⟩
    rw [← hk]
    exact Prod.ext rfl (hy _ _)
  · rintro ⟨k, rfl⟩
    refine ⟨(⟨2, ![N, 1024]⟩ : Shape).rowMajor (ix2 n k), ?_, ?_⟩
    · rw [Equiv.symm_apply_apply, Shape.ReducesTo.fiber_r2_a1]; exact ⟨k, rfl⟩
    · rw [Equiv.symm_apply_apply]; exact Prod.ext rfl (hy _ _)

end Cert.Vq

end
-- ==== Proof.VqRef.lean ====
/-
  The reference of the vector quantisation: its run, and its four results at an index.
-/
module

public import proofs.«01_k».proof.Proof.VqArg
public import proofs.«01_k».proof.Proof.Gen.RefQuantiseIdeal
public import Idealize.ShloMosaic.Adequacy
public import Idealize.ShloMosaic.Init

@[expose] public section

set_option maxRecDepth 16384

noncomputable section

namespace Cert.VqRef

open Idealize.ShloMosaic Idealize.SL.Sem
open Cert.RefQuantiseIdeal Cert.RefQuantiseIdeal.Gen

abbrev Rows := FVec Ideal S12544x64 .f32
abbrev Book := FVec Ideal S1024x64 .f32

/-- The distances of every row to every codeword. -/
def dists (A : Rows) (B : Book) : FVec Ideal S12544x1024 .f32 :=
  subf (addf
      (broadcastInDim S12544x1024 ![0, 1] bcast_S12544x1_S12544x1024_0_1
        (broadcastInDim S12544x1 ![0] bcast_S12544_S12544x1_0
          (Host.reduceAdd (mulf A A) (constant (F := Ideal) S_ .f32 0x00000000#32) reducesTo_S12544x64_S12544_d1 h_S_)))
      (broadcastInDim S12544x1024 ![0, 1] bcast_S1x1024_S12544x1024_0_1
        (broadcastInDim S1x1024 ![1] bcast_S1024_S1x1024_1
          (Host.reduceAdd (mulf B B) (constant (F := Ideal) S_ .f32 0x00000000#32) reducesTo_S1024x64_S1024_d1 h_S_))))
    (mulf (broadcastInDim S12544x1024 ![] bcast_S_S12544x1024 (constant (F := Ideal) S_ .f32 0x40000000#32))
      (Host.dotGeneral dot_S12544x64_S64x1024_S12544x1024_1_0_0_1_n_n none A
        (transpose S64x1024 [1, 0] B transposes_S1024x64_S64x1024_1_0)))

/-- The numbers of the nearest codewords. -/
def idx (D : FVec Ideal S12544x1024 .f32) : IVec S12544 32 :=
  Vq.arg (reducer_argmin_f32_i32 (F := Ideal)) D (iotaInDim S12544x1024 32 1) (constant (F := Ideal) S_ .f32 0x7F800000#32)
    (constantI S_ 32 0#32) reducesTo_S12544x1024_S12544_d1 h_S_

/-- The encodings of numbers. -/
def hot (i : IVec S12544 32) : FVec Ideal S12544x1024 .f32 :=
  uitofp .f32 (cmpi .eq
    (broadcastInDim S12544x1024 ![0, 1] bcast_S12544x1_S12544x1024_0_1 (broadcastInDim S12544x1 ![0] bcast_S12544_S12544x1_0 i))
    (broadcastInDim S12544x1024 ![0, 1] bcast_S1x1024_S12544x1024_0_1 (iotaInDim S1x1024 32 1)))

/-- The quantised rows. -/
def quants (E : FVec Ideal S12544x1024 .f32) (B : Book) : Rows :=
  Host.dotGeneral dot_S12544x1024_S1024x64_S12544x64_1_0_0_1_n_n none E B

/-- The mean squared error. -/
def mse (A Q : Rows) : FVec Ideal S_ .f32 :=
  Host.divf (Host.reduceAdd (mulf (subf Q A) (subf Q A)) (constant (F := Ideal) S_ .f32 0x00000000#32) reducesTo_S12544x64_S_d0_1 h_S_)
    (constant (F := Ideal) S_ .f32 0x49440000#32)

/-- The loss. -/
def loss (A Q : Rows) : FVec Ideal S1x1 .f32 :=
  shapeCast S1x1 (addf (mulf (constant (F := Ideal) S_ .f32 0x3E800000#32) (mse A Q)) (mse A Q)) shapeCasts_S_S1x1

/-- The codewords' frequencies. -/
def freq (E : FVec Ideal S12544x1024 .f32) : FVec Ideal S1024 .f32 :=
  Host.divf (Host.reduceAdd E (constant (F := Ideal) S_ .f32 0x00000000#32) reducesTo_S12544x1024_S1024_d0 h_S_)
    (broadcastInDim S1024 ![] bcast_S_S1024 (constant (F := Ideal) S_ .f32 0x46440000#32))

/-- The perplexity. -/
def perp (E : FVec Ideal S12544x1024 .f32) : FVec Ideal S1x1 .f32 :=
  shapeCast S1x1 (Host.exp (Host.negf (Host.reduceAdd
    (mulf (freq E) (Host.log (addf (freq E) (broadcastInDim S1024 ![] bcast_S_S1024 (constant (F := Ideal) S_ .f32 0x2EDBE6FF#32)))))
    (constant (F := Ideal) S_ .f32 0x00000000#32) reducesTo_S1024_S_d0 h_S_))) shapeCasts_S_S1x1

/-- The encodings of the rows. -/
def encs (A : Rows) (B : Book) : FVec Ideal S12544x1024 .f32 := hot (idx (dists A B))

theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v15) = encs (m ((c.tc : Thread nD τ).loc main_arg0)) (m ((c.tc : Thread nD τ).loc main_arg1))
      ∧ r.2.mem ((c.tc : Thread nD τ).loc main_v16) = quants (encs (m ((c.tc : Thread nD τ).loc main_arg0)) (m ((c.tc : Thread nD τ).loc main_arg1))) (m ((c.tc : Thread nD τ).loc main_arg1))
      ∧ r.2.mem ((c.tc : Thread nD τ).loc main_v37) = loss (m ((c.tc : Thread nD τ).loc main_arg0)) (quants (encs (m ((c.tc : Thread nD τ).loc main_arg0)) (m ((c.tc : Thread nD τ).loc main_arg1))) (m ((c.tc : Thread nD τ).loc main_arg1)))
      ∧ r.2.mem ((c.tc : Thread nD τ).loc main_v38) = perp (encs (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  all_goals simp -implicitDefEqProofs only [StableHlo.TRef.toBuf, StableHlo.TRef.ofBuf, cast_cast, cast_eq]
  all_goals exact rfl

end Cert.VqRef

end
-- ==== Proof.VqRefAt.lean ====
/-
  The reference of the vector quantisation: its four results at an index.
-/
module

public import proofs.«01_k».proof.Proof.Vq
public import proofs.«01_k».proof.Proof.VqRef
public import proofs.«01_k».proof.Proof.VqSum
public import Idealize.ShloMosaic.Adequacy
public import Idealize.ShloMosaic.Init

@[expose] public section

set_option maxRecDepth 16384

noncomputable section

namespace Cert.VqRef

open Idealize.ShloMosaic Idealize.SL.Sem
open Cert.RefQuantiseIdeal Cert.RefQuantiseIdeal.Gen

attribute [local irreducible] Vq.arg

theorem dists_apply (A : Rows) (B : Book) (n : Fin 12544) (k : Fin 1024) :
    dists A B (ix2 n k) = Vq.dist (fun d => A (ix2 n d)) (fun d => B (ix2 k d)) := by
  pointwise [dists, Vq.dist, Vq.two_eq]

theorem quants_apply (E : FVec Ideal S12544x1024 .f32) (B : Book) (n : Fin 12544) (d : Fin 64) :
    quants E B (ix2 n d) = ∑ k, E (ix2 n k) * B (ix2 k d) := by
  pointwise [quants]

theorem reducer_least (a b : Ideal .f32 × BitVec 32) :
    (reducer_argmin_f32_i32 (F := Ideal) a b = a ∨ reducer_argmin_f32_i32 (F := Ideal) a b = b)
      ∧ Vq.Le (reducer_argmin_f32_i32 (F := Ideal) a b) a ∧ Vq.Le (reducer_argmin_f32_i32 (F := Ideal) a b) b := by
  obtain ⟨x, i⟩ := a
  obtain ⟨y, j⟩ := b
  have hr : reducer_argmin_f32_i32 (F := Ideal) (x, i) (y, j)
      = if x < y then (x, i) else if x = y ∧ i.toInt < j.toInt then (x, i) else (y, j) := by
    simp only [reducer_argmin_f32_i32, Scalar.select, Ideal.cmpf_def, Ideal.cmp, IntOp.cmpi, BitVec.slt]
    rcases lt_trichotomy (x : EReal) y with h | h | h
    · have e : (1#1 ||| BitVec.ofBool (decide ((x : EReal) = y)) &&& BitVec.ofBool (decide (i.toInt < j.toInt))) = 1#1 := by
        rw [show decide ((x : EReal) = y) = false from decide_eq_false h.ne]; cases decide (i.toInt < j.toInt) <;> rfl
      simp [h, IntOp.ori, IntOp.andi, BitVec.ofBool] at e ⊢
      simp [e]
    · subst h
      by_cases g : i.toInt < j.toInt <;> simp [IntOp.ori, IntOp.andi, BitVec.ofBool, g]
    · simp [h, h.ne', not_lt_of_gt h, IntOp.ori, IntOp.andi, BitVec.ofBool]
  rw [hr]
  by_cases h : (x : EReal) < y
  · rw [if_pos h]; exact ⟨Or.inl rfl, Vq.Le.refl _, Or.inl h⟩
  · rw [if_neg h]
    by_cases g : x = y ∧ i.toInt < j.toInt
    · rw [if_pos g]; exact ⟨Or.inl rfl, Vq.Le.refl _, Or.inr ⟨g.1, g.2.le⟩⟩
    · rw [if_neg g]
      refine ⟨Or.inr rfl, ?_, Vq.Le.refl _⟩
      rcases lt_or_eq_of_le (not_lt.mp h) with h' | h'
      · exact Or.inl h'
      · exact Or.inr ⟨h', not_lt.mp fun e => g ⟨h'.symm, e⟩⟩

theorem idx_apply (D : FVec Ideal S12544x1024 .f32) (n : Fin 12544) :
    idx D (ix1 n) = BitVec.ofNat 32 (Vq.first fun k => D (ix2 n k)).val :=
  Vq.arg_first _ reducer_least D _ (fun _ _ => rfl) _ _ _ _ Vq.top_eq rfl n

theorem hot_apply (i : IVec S12544 32) (n : Fin 12544) (k : Fin 1024) :
    hot i (ix2 n k) = FloatOps.uitofp (F := Ideal) FTy.f32 (IntOp.cmpi .eq (i (ix1 n)) (BitVec.ofNat 32 k.val)) := by
  pointwise [hot]

theorem encs_apply (A : Rows) (B : Book) (n : Fin 12544) (k : Fin 1024) :
    encs A B (ix2 n k) = Vq.enc (fun d => A (ix2 n d)) (fun k d => B (ix2 k d)) k := by
  rw [encs, hot_apply, idx_apply]
  simp only [dists_apply]
  exact Vq.onehot_unsigned _ _

theorem loss_apply (A Q : Rows) (i j : Fin 1) (h : (0 : EReal) ≤ ∑ n : Fin 12544, ∑ d : Fin 64, (Q (ix2 n d) - A (ix2 n d)) * (Q (ix2 n d) - A (ix2 n d))) :
    loss A Q (ix2 i j) = Vq.lossOf (∑ n : Fin 12544, ∑ d : Fin 64, (Q (ix2 n d) - A (ix2 n d)) * (Q (ix2 n d) - A (ix2 n d))) := by
  pointwise [loss, mse]
  exact Vq.loss_eq h

theorem perp_apply (E : FVec Ideal S12544x1024 .f32) (i j : Fin 1) :
    perp E (ix2 i j) = Vq.perpOf fun k => ∑ n : Fin 12544, E (ix2 n k) := by
  pointwise [perp, freq]
  exact Vq.perp_eq _

end Cert.VqRef

end
-- ==== Proof.VqEq.lean ====
/-
  The vector-quantising kernel's four arrays are the reference's four results.
-/
module

public import proofs.«01_k».proof.Proof.VqKernel
public import proofs.«01_k».proof.Proof.VqRefAt

@[expose] public section

set_option maxRecDepth 16384

noncomputable section

namespace Cert.VqEq

open Idealize.ShloMosaic Idealize.SL.Sem

theorem rows_val (A : QuantiseIdeal.S12544x64.Idx → EReal) (n : Fin 12544) : VqKernel.rows A n.val = fun d => A (ix2 n d) := by
  funext d; exact dif_pos n.isLt

variable (m : (ℓ : Loc QuantiseIdeal.nD QuantiseIdeal.τ QuantiseIdeal.sig) → Buf (Elt Ideal) ℓ) (c : Dev QuantiseIdeal.nD)

/-- The kernel's encodings at an index are the reference's. -/
theorem enc_at (n : Fin 12544) (k : Fin 1024) :
    Vq.enc (VqKernel.rows (VqKernel.arg0 m c) n.val) (VqKernel.book (VqKernel.arg1 m c)) k
      = VqRef.encs (VqKernel.arg0 m c) (VqKernel.arg1 m c) (ix2 n k) := by
  rw [rows_val]
  exact (VqRef.encs_apply _ _ n k).symm

/-- The kernel's quantised rows at an index are the reference's. -/
theorem quant_at (n : Fin 12544) (d : Fin 64) :
    Vq.quant (VqKernel.rows (VqKernel.arg0 m c) n.val) (VqKernel.book (VqKernel.arg1 m c)) d
      = VqRef.quants (VqRef.encs (VqKernel.arg0 m c) (VqKernel.arg1 m c)) (VqKernel.arg1 m c) (ix2 n d) := by
  rw [VqRef.quants_apply, Vq.quant]
  refine Finset.sum_congr rfl fun k _ => ?_
  rw [enc_at]
  rfl

theorem enc_eq : QuantiseIdeal.Value.G3 m c = VqRef.encs (VqKernel.arg0 m c) (VqKernel.arg1 m c) := by
  have key (n : Fin 12544) (k : Fin 1024) := (VqKernel.G3_apply m c n k).trans (enc_at m c n k)
  funext i
  exact (congrArg _ (eq_ix2 i)).trans ((key (i 0) (i 1)).trans (congrArg _ (eq_ix2 i).symm))

theorem quant_eq :
    QuantiseIdeal.Value.G4 m c = VqRef.quants (VqRef.encs (VqKernel.arg0 m c) (VqKernel.arg1 m c)) (VqKernel.arg1 m c) := by
  have key (n : Fin 12544) (d : Fin 64) := (VqKernel.G4_apply m c n d).trans (quant_at m c n d)
  funext i
  exact (congrArg _ (eq_ix2 i)).trans ((key (i 0) (i 1)).trans (congrArg _ (eq_ix2 i).symm))

/-- The reference's squared error is the kernel's total. -/
theorem total_eq :
    (∑ n : Fin 12544, ∑ d : Fin 64,
      (VqRef.quants (VqRef.encs (VqKernel.arg0 m c) (VqKernel.arg1 m c)) (VqKernel.arg1 m c) (ix2 n d) - VqKernel.arg0 m c (ix2 n d))
        * (VqRef.quants (VqRef.encs (VqKernel.arg0 m c) (VqKernel.arg1 m c)) (VqKernel.arg1 m c) (ix2 n d) - VqKernel.arg0 m c (ix2 n d)))
      = Vq.total (VqKernel.rows (VqKernel.arg0 m c)) (VqKernel.book (VqKernel.arg1 m c)) 12544 := by
  rw [Vq.total, Finset.sum_range]
  refine Finset.sum_congr rfl fun n _ => ?_
  rw [Vq.err]
  refine Finset.sum_congr rfl fun d _ => ?_
  rw [quant_at, rows_val]

theorem loss_eq :
    QuantiseIdeal.Value.G5 m c
      = VqRef.loss (VqKernel.arg0 m c) (VqRef.quants (VqRef.encs (VqKernel.arg0 m c) (VqKernel.arg1 m c)) (VqKernel.arg1 m c)) := by
  have key (a b : Fin 1) : QuantiseIdeal.Value.G5 m c (ix2 a b)
      = VqRef.loss (VqKernel.arg0 m c) (VqRef.quants (VqRef.encs (VqKernel.arg0 m c) (VqKernel.arg1 m c)) (VqKernel.arg1 m c)) (ix2 a b) := by
    refine (VqKernel.G5_apply m c a b).trans ?_
    rw [VqRef.loss_apply _ _ a b (by rw [total_eq]; exact Vq.total_nonneg _ _ _), total_eq]
  funext i
  exact (congrArg _ (eq_ix2 i)).trans ((key (i 0) (i 1)).trans (congrArg _ (eq_ix2 i).symm))

theorem perp_eq : QuantiseIdeal.Value.G6 m c = VqRef.perp (VqRef.encs (VqKernel.arg0 m c) (VqKernel.arg1 m c)) := by
  have key (a b : Fin 1) : QuantiseIdeal.Value.G6 m c (ix2 a b)
      = VqRef.perp (VqRef.encs (VqKernel.arg0 m c) (VqKernel.arg1 m c)) (ix2 a b) := by
    refine (VqKernel.G6_apply m c a b).trans ?_
    rw [VqRef.perp_apply]
    refine congrArg Vq.perpOf (funext fun k => ?_)
    rw [Vq.count, Finset.sum_range]
    exact Finset.sum_congr rfl fun n _ => enc_at m c n k
  funext i
  exact (congrArg _ (eq_ix2 i)).trans ((key (i 0) (i 1)).trans (congrArg _ (eq_ix2 i).symm))

end Cert.VqEq

end
-- ==== Proof.DecSpec.lean ====
/-
  The decoder's mathematics: images as functions of a row, a column and a channel, the convolution, the transposed convolution of stride two, and a
  padded image laid out row after row.
-/
module

public import proofs.«01_k».proof.Proof.Vq

@[expose] public section

noncomputable section

namespace Cert.Dec

open Idealize.ShloMosaic

/-- An image: a value at a row, a column and a channel. -/
abbrev Img := ℕ → ℕ → ℕ → EReal

/-- The image with a border of zeros, one wide; its rows and columns count from one. -/
def pad (H W : ℕ) (X : Img) : Img := fun i j c => if 1 ≤ i ∧ i ≤ H ∧ 1 ≤ j ∧ j ≤ W then X (i - 1) (j - 1) c else 0

/-- One tap: the channels of one place of the padded image, weighed and added up. -/
def tap (H W C : ℕ) (X : Img) (i j : ℕ) (w : ℕ → EReal) : EReal := ∑ c : Fin C, pad H W X i j c.val * w c.val

/-- The convolution with a three by three kernel `w` (out, in, row, column) and a bias. -/
def conv (H W C : ℕ) (X : Img) (w : ℕ → ℕ → ℕ → ℕ → EReal) (b : ℕ → EReal) : Img := fun y x o =>
  let T := fun ky kx => tap H W C X (y + ky) (x + kx) fun c => w o c ky kx
  0 + T 0 0 + T 0 1 + T 0 2 + T 1 0 + T 1 1 + T 1 2 + T 2 0 + T 2 1 + T 2 2 + b o

/-- The transposed convolution of stride two with a four by four kernel `w` (in, out, row, column) and a bias: the four taps that meet the image. -/
def upconv (H W C : ℕ) (X : Img) (w : ℕ → ℕ → ℕ → ℕ → EReal) (b : ℕ → EReal) : Img := fun y x o =>
  let T := fun t s => tap H W C X (y / 2 + y % 2 + t) (x / 2 + x % 2 + s) fun c => w c o (3 - 2 * t - y % 2) (3 - 2 * s - x % 2)
  0 + T 0 0 + T 0 1 + T 1 0 + T 1 1 + b o

/-- The positive part of an image. -/
def relu (X : Img) : Img := fun y x o => max (X y x o) 0

/-- The padded image laid out row after row, `P` places to a row. -/
def strip (P H W : ℕ) (X : Img) (r c : ℕ) : EReal := pad H W X (r / P) (r % P) c

theorem strip_at (P H W : ℕ) (X : Img) (i j c : ℕ) (hj : j < P) : strip P H W X (i * P + j) c = pad H W X i j c := by
  have h1 : (i * P + j) / P = i := by
    rw [Nat.add_comm, Nat.add_mul_div_right _ _ (by omega), Nat.div_eq_of_lt hj, Nat.zero_add]
  have h2 : (i * P + j) % P = j := by rw [Nat.add_comm, Nat.add_mul_mod_self_right, Nat.mod_eq_of_lt hj]
  rw [strip, h1, h2]

/-- The piece `p` stores row `k` of the image into its place in the layout. -/
structure RowAt {N C : ℕ} (P W : ℕ) (X : Img) (p : View.Piece (Elt Ideal) (⟨2, ![N, C]⟩ : Shape) .f32) (k : ℕ) : Prop where
  stride : ∀ a, p.1.stride a = 1
  off0 : p.1.off (0 : Fin 2) = (k + 1) * P + 1
  off1 : p.1.off (1 : Fin 2) = 0
  size0 : p.1.size (0 : Fin 2) = W
  size1 : p.1.size (1 : Fin 2) = C
  val : ∀ x : p.1.shape.Idx, p.2 x = X k (x (0 : Fin 2)).val (x (1 : Fin 2)).val

/-- The pieces before `L0` store the rows that the second list numbers. -/
inductive Rows {N C : ℕ} (P W : ℕ) (X : Img) (L0 : List (View.Piece (Elt Ideal) (⟨2, ![N, C]⟩ : Shape) .f32)) : List (View.Piece (Elt Ideal) (⟨2, ![N, C]⟩ : Shape) .f32) → List ℕ → Prop
  | base : Rows P W X L0 L0 []
  | cons {p : View.Piece (Elt Ideal) (⟨2, ![N, C]⟩ : Shape) .f32} {L : List (View.Piece (Elt Ideal) (⟨2, ![N, C]⟩ : Shape) .f32)} {k : ℕ} {ks : List ℕ} (h : RowAt P W X p k) (t : Rows P W X L0 L ks) :
    Rows P W X L0 (p :: L) (k :: ks)

theorem Rows.split {N C P W : ℕ} {X : Img} {L0 L : List (View.Piece (Elt Ideal) (⟨2, ![N, C]⟩ : Shape) .f32)} {ks : List ℕ} (h : Rows P W X L0 L ks) :
    ∃ L1, L = L1 ++ L0 ∧ (∀ p ∈ L1, ∃ k ∈ ks, RowAt P W X p k) ∧ ∀ k ∈ ks, ∃ p ∈ L1, RowAt P W X p k := by
  induction h with
  | base => exact ⟨[], rfl, fun p hp => absurd hp List.not_mem_nil, fun k hk => absurd hk List.not_mem_nil⟩
  | @cons p L k ks r _ ih =>
    obtain ⟨L1, e, h1, h2⟩ := ih
    refine ⟨p :: L1, by rw [e]; rfl, fun q hq => ?_, fun j hj => ?_⟩
    · rcases List.mem_cons.mp hq with rfl | hq
      · exact ⟨k, List.mem_cons_self, r⟩
      · obtain ⟨j, a, b⟩ := h1 q hq
        exact ⟨j, List.mem_cons_of_mem _ a, b⟩
    · rcases List.mem_cons.mp hj with rfl | hj
      · exact ⟨p, List.mem_cons_self, r⟩
      · obtain ⟨q, a, b⟩ := h2 j hj
        exact ⟨q, List.mem_cons_of_mem _ a, b⟩

/-- Inside the border. -/
def Inside (P H W r : ℕ) : Prop := 1 ≤ r / P ∧ r / P ≤ H ∧ 1 ≤ r % P ∧ r % P ≤ W

theorem strip_of_not (P H W : ℕ) (X : Img) (r c : ℕ) (h : ¬ Inside P H W r) : strip P H W X r c = 0 := if_neg h

theorem strip_of (P H W : ℕ) (X : Img) (r c : ℕ) (h : Inside P H W r) : strip P H W X r c = X (r / P - 1) (r % P - 1) c := if_pos h

/-- Rows stored over a layout whose border is zero leave the padded image. -/
theorem rows_read {sig : RefSig} {κ : Kind} {sp : Space} {N C P H W : ℕ} (v : View sig κ sp (⟨2, ![N, C]⟩ : Shape) .f32) (f : v.ty.Contents (Elt Ideal))
    (X : Img) (L0 L : List (View.Piece (Elt Ideal) (⟨2, ![N, C]⟩ : Shape) .f32)) (ks : List ℕ) (h : Rows P W X L0 L ks) (hk : ∀ k, k < H → k ∈ ks)
    (hH : ∀ k ∈ ks, k < H) (hW : W + 1 < P)
    (h0 : ∀ y : (⟨2, ![N, C]⟩ : Shape).Idx, ¬ Inside P H W (y (0 : Fin 2)).val → v.read (Elt Ideal) (v.writes (Elt Ideal) f L0) y = (0 : EReal))
    (y : (⟨2, ![N, C]⟩ : Shape).Idx) :
    v.read (Elt Ideal) (v.writes (Elt Ideal) f L) y = strip P H W X (y (0 : Fin 2)).val (y (1 : Fin 2)).val := by
  obtain ⟨L1, rfl, hm, he⟩ := h.split
  rw [View.writes_append]
  by_cases hy : ∃ p ∈ L1, y ∈ p.1.set
  · refine View.read_writes_apply_of_pieces v _ (fun y => strip P H W X (y (0 : Fin 2)).val (y (1 : Fin 2)).val) L1 (fun p hp x => ?_) y hy
    obtain ⟨k, hk', r⟩ := hm p hp
    have hkH := hH k hk'
    have e0 : (p.1.emb x (0 : Fin 2)).val = (k + 1) * P + (1 + (x (0 : Fin 2)).val) := by
      show p.1.off (0 : Fin 2) + p.1.stride (0 : Fin 2) * (x (0 : Fin 2)).val = _
      rw [r.off0, r.stride]; omega
    have e1 : (p.1.emb x (1 : Fin 2)).val = (x (1 : Fin 2)).val := by
      show p.1.off (1 : Fin 2) + p.1.stride (1 : Fin 2) * (x (1 : Fin 2)).val = _
      rw [r.off1, r.stride]; omega
    have hx : (x (0 : Fin 2)).val < W := by
      have := (x (0 : Fin 2)).isLt
      exact lt_of_lt_of_eq this r.size0
    rw [r.val x]
    show _ = strip P H W X (p.1.emb x (0 : Fin 2)).val (p.1.emb x (1 : Fin 2)).val
    rw [e0, e1, strip_at _ _ _ _ _ _ _ (by omega), pad, if_pos ⟨by omega, by omega, by omega, by omega⟩]
    congr 1
    omega
  · rw [View.read_writes_apply_of_forall_not_mem v _ y L1 fun p hp hm => hy ⟨p, hp, hm⟩]
    have hn : ¬ Inside P H W (y (0 : Fin 2)).val := fun hi => by
      apply hy
      obtain ⟨p, hp, r⟩ := he ((y (0 : Fin 2)).val / P - 1) (hk _ (by have := hi.1; have := hi.2.1; omega))
      refine ⟨p, hp, p.1.mem_set.mpr fun a => ?_⟩
      have hd := Nat.div_add_mod (y (0 : Fin 2)).val P
      obtain ⟨a1, a2, a3, a4⟩ := hi
      match a with
      | ⟨0, _⟩ =>
        refine ⟨(y (0 : Fin 2)).val % P - 1, lt_of_lt_of_eq (show _ < W by omega) r.size0.symm, ?_⟩
        show (y (0 : Fin 2)).val = p.1.off (0 : Fin 2) + p.1.stride (0 : Fin 2) * _
        rw [r.off0, r.stride, Nat.sub_add_cancel a1, Nat.mul_comm _ P]
        omega
      | ⟨1, _⟩ =>
        refine ⟨(y (1 : Fin 2)).val, lt_of_lt_of_eq (y (1 : Fin 2)).isLt r.size1.symm, ?_⟩
        show (y (1 : Fin 2)).val = p.1.off (1 : Fin 2) + p.1.stride (1 : Fin 2) * _
        rw [r.off1, r.stride]
        omega
    rw [h0 y hn, strip_of_not _ _ _ _ _ _ hn]

end Cert.Dec

end
-- ==== Proof.DecBody.lean ====
/-
  The decoder's body: its payloads at an index, in terms of the padded images its loads read.
-/
module

public import proofs.«01_k».proof.Proof.DecSpec
public import proofs.«01_k».proof.Proof.Gen.DecodeIdeal.Skeleton

@[expose] public section

set_option maxRecDepth 16384

noncomputable section

namespace Cert.Dec

open Idealize.ShloMosaic
open Cert.DecodeIdeal Cert.DecodeIdeal.Gen

/-- A matrix at two numbers. -/
def get2 {N M : ℕ} (a : (⟨2, ![N, M]⟩ : Shape).Idx → EReal) (i j : ℕ) : EReal := if h : i < N ∧ j < M then a (ix2 ⟨i, h.1⟩ ⟨j, h.2⟩) else 0

/-- A box at three numbers. -/
def get3 {N M K : ℕ} (a : (⟨3, ![N, M, K]⟩ : Shape).Idx → EReal) (i j k : ℕ) : EReal :=
  if h : i < N ∧ j < M ∧ k < K then a (ix3 ⟨i, h.1⟩ ⟨j, h.2.1⟩ ⟨k, h.2.2⟩) else 0

theorem get2_ix {N M : ℕ} (a : (⟨2, ![N, M]⟩ : Shape).Idx → EReal) (i : Fin N) (j : Fin M) : get2 a i.val j.val = a (ix2 i j) :=
  dif_pos ⟨i.isLt, j.isLt⟩

theorem get3_ix {N M K : ℕ} (a : (⟨3, ![N, M, K]⟩ : Shape).Idx → EReal) (i : Fin N) (j : Fin M) (k : Fin K) :
    get3 a i.val j.val k.val = a (ix3 i j k) :=
  dif_pos ⟨i.isLt, j.isLt, k.isLt⟩

/-- A matrix of consecutive rows of the layout, from row `off` on. -/
def Load {R C : ℕ} (P H W : ℕ) (X : Img) (off : ℕ) (F : (⟨2, ![R, C]⟩ : Shape).Idx → EReal) : Prop :=
  ∀ (r : Fin R) (c : Fin C), F (ix2 r c) = strip P H W X (off + r.val) c.val

theorem Load.tap {R C O P H W : ℕ} {X : Img} {off : ℕ} {F : (⟨2, ![R, C]⟩ : Shape).Idx → EReal} (h : Load P H W X off F)
    (g : (⟨3, ![1, C, O]⟩ : Shape).Idx → EReal) (w : ℕ → ℕ → EReal) (hg : ∀ (c : Fin C) (o : Fin O), g (ix3 0 c o) = w c.val o.val)
    (ky kx y x : ℕ) (ho : off = ky * P + kx) (r : Fin R) (hr : r.val = y * P + x) (hx : x + kx < P) (o : Fin O) :
    (∑ c : Fin C, F (ix2 r c) * g (ix3 0 c o)) = Dec.tap H W C X (y + ky) (x + kx) fun c => w c o.val := by
  refine Finset.sum_congr rfl fun c _ => ?_
  rw [h r c, hg c o, show off + r.val = (y + ky) * P + (x + kx) by rw [ho, hr]; ring, strip_at _ _ _ _ _ _ _ hx]

/-- The first layer at a point, before its positive part. -/
theorem pay_l1 (F0 F1 F2 F3 F4 F5 F6 F7 F8 : FVec Ideal S3248x64 .f32) (W0 W1 W2 W3 W4 W5 W6 W7 W8 : FVec Ideal S1x64x128 .f32)
    (b : FVec Ideal S1x128 .f32) (r : Fin 3248) (o : Fin 128) :
    k0_pay68 (F := Ideal) (k0_pay67 (k0_pay66 F0 W0 F1 W1 F2 W2) F3 W3 F4 W4 F5 W5 F6 W6 F7 W7) F8 W8 b (ix2 r o)
      = max (0 + (∑ c : Fin 64, F0 (ix2 r c) * W0 (ix3 0 c o)) + (∑ c : Fin 64, F1 (ix2 r c) * W1 (ix3 0 c o)) + (∑ c : Fin 64, F2 (ix2 r c) * W2 (ix3 0 c o))
        + (∑ c : Fin 64, F3 (ix2 r c) * W3 (ix3 0 c o)) + (∑ c : Fin 64, F4 (ix2 r c) * W4 (ix3 0 c o)) + (∑ c : Fin 64, F5 (ix2 r c) * W5 (ix3 0 c o))
        + (∑ c : Fin 64, F6 (ix2 r c) * W6 (ix3 0 c o)) + (∑ c : Fin 64, F7 (ix2 r c) * W7 (ix3 0 c o)) + (∑ c : Fin 64, F8 (ix2 r c) * W8 (ix3 0 c o))
        + b (ix2 0 o)) 0 := by
  pointwise [k0_pay68, k0_pay67, k0_pay66]

/-- The row of the layout that a place of the second layer's input starts from. -/
def row58 (u w : Fin 56) : Fin 3248 := ⟨u.val * 58 + w.val, by omega⟩

/-- The second layer's even rows and even columns. -/
theorem pay_l2_00 (F0 F1 F2 F3 : FVec Ideal S3248x128 .f32) (W0 W1 W2 W3 : FVec Ideal S1x128x64 .f32) (b : FVec Ideal S1x64 .f32)
    (u w : Fin 56) (o : Fin 64) :
    k0_pay130 (F := Ideal) (k0_pay129 F0 W0) F1 W1 F2 W2 F3 W3 b (ix3 u w o)
      = max (0 + (∑ c : Fin 128, F0 (ix2 (row58 u w) c) * W0 (ix3 0 c o)) + (∑ c : Fin 128, F1 (ix2 (row58 u w) c) * W1 (ix3 0 c o))
        + (∑ c : Fin 128, F2 (ix2 (row58 u w) c) * W2 (ix3 0 c o)) + (∑ c : Fin 128, F3 (ix2 (row58 u w) c) * W3 (ix3 0 c o)) + b (ix2 0 o)) 0 := by
  unfold row58
  pointwise [k0_pay130, k0_pay129]

/-- The second layer's odd rows and even columns. -/
theorem pay_l2_10 (F0 F1 F2 F3 : FVec Ideal S3248x128 .f32) (W0 W1 W2 W3 : FVec Ideal S1x128x64 .f32) (b : FVec Ideal S1x64 .f32)
    (u w : Fin 56) (o : Fin 64) :
    k0_pay198 (F := Ideal) (k0_pay197 F0 W0 F1 W1 F2 W2 F3 W3) b (ix3 u w o)
      = max (0 + (∑ c : Fin 128, F0 (ix2 (row58 u w) c) * W0 (ix3 0 c o)) + (∑ c : Fin 128, F1 (ix2 (row58 u w) c) * W1 (ix3 0 c o))
        + (∑ c : Fin 128, F2 (ix2 (row58 u w) c) * W2 (ix3 0 c o)) + (∑ c : Fin 128, F3 (ix2 (row58 u w) c) * W3 (ix3 0 c o)) + b (ix2 0 o)) 0 := by
  unfold row58
  pointwise [k0_pay198, k0_pay197]

/-- The second layer's even rows: even columns come from the phase before. -/
theorem pay_l2_0x (P : FVec Ideal S56x56x64 .f32) (F0 F1 F2 F3 : FVec Ideal S3248x128 .f32) (W0 W1 W2 W3 : FVec Ideal S1x128x64 .f32)
    (b : FVec Ideal S1x64 .f32) (u w : Fin 56) (o : Fin 64) :
    k0_pay132 (F := Ideal) P (k0_pay131 F0 W0) F1 W1 F2 W2 F3 W3 b (ix3 u ⟨2 * w.val, by omega⟩ o) = P (ix3 u w o) := by
  pointwise [k0_pay132, k0_pay131]
  exact dif_pos (by omega)

/-- The second layer's even rows and odd columns. -/
theorem pay_l2_01 (P : FVec Ideal S56x56x64 .f32) (F0 F1 F2 F3 : FVec Ideal S3248x128 .f32) (W0 W1 W2 W3 : FVec Ideal S1x128x64 .f32)
    (b : FVec Ideal S1x64 .f32) (u w : Fin 56) (o : Fin 64) :
    k0_pay132 (F := Ideal) P (k0_pay131 F0 W0) F1 W1 F2 W2 F3 W3 b (ix3 u ⟨2 * w.val + 1, by omega⟩ o)
      = max (0 + (∑ c : Fin 128, F0 (ix2 (row58 u w) c) * W0 (ix3 0 c o)) + (∑ c : Fin 128, F1 (ix2 (row58 u w) c) * W1 (ix3 0 c o))
        + (∑ c : Fin 128, F2 (ix2 (row58 u w) c) * W2 (ix3 0 c o)) + (∑ c : Fin 128, F3 (ix2 (row58 u w) c) * W3 (ix3 0 c o)) + b (ix2 0 o)) 0 := by
  unfold row58
  pointwise [k0_pay132, k0_pay131]
  exact dif_neg (by omega)

/-- The second layer's odd rows: even columns come from the phase before. -/
theorem pay_l2_1x (P : FVec Ideal S56x56x64 .f32) (A : FVec Ideal S3248x64 .f32) (u w : Fin 56) (o : Fin 64) :
    k0_pay200 (F := Ideal) P A (ix3 u ⟨2 * w.val, by omega⟩ o) = P (ix3 u w o) := by
  pointwise [k0_pay200]
  exact dif_pos (by omega)

/-- The second layer's odd rows and odd columns. -/
theorem pay_l2_11 (P : FVec Ideal S56x56x64 .f32) (F0 F1 F2 F3 : FVec Ideal S3248x128 .f32) (W0 W1 W2 W3 : FVec Ideal S1x128x64 .f32)
    (b : FVec Ideal S1x64 .f32) (u w : Fin 56) (o : Fin 64) :
    k0_pay200 (F := Ideal) P (k0_pay199 F0 W0 F1 W1 F2 W2 F3 W3 b) (ix3 u ⟨2 * w.val + 1, by omega⟩ o)
      = max (0 + (∑ c : Fin 128, F0 (ix2 (row58 u w) c) * W0 (ix3 0 c o)) + (∑ c : Fin 128, F1 (ix2 (row58 u w) c) * W1 (ix3 0 c o))
        + (∑ c : Fin 128, F2 (ix2 (row58 u w) c) * W2 (ix3 0 c o)) + (∑ c : Fin 128, F3 (ix2 (row58 u w) c) * W3 (ix3 0 c o)) + b (ix2 0 o)) 0 := by
  unfold row58
  pointwise [k0_pay200, k0_pay199]
  exact dif_neg (by omega)

/-- The third layer at a point. -/
theorem pay_l3 (F0 F1 F2 F3 F4 F5 F6 F7 F8 : FVec Ideal S12768x64 .f32) (W0 W1 W2 W3 W4 W5 W6 W7 W8 : FVec Ideal S1x64x12 .f32)
    (b : FVec Ideal S1x12 .f32) (r : Fin 12768) (o : Fin 12) :
    k0_pay1 (F := Ideal) (k0_pay264 (k0_pay263 (k0_pay261 F0 W0) (k0_pay262 F1 W1) F2 W2 F3 W3 F4 W4 F5 W5 F6 W6) F7 W7 F8 W8) b (ix3 0 r o)
      = Ideal.tanh (0 + (∑ c : Fin 64, F0 (ix2 r c) * W0 (ix3 0 c o)) + (∑ c : Fin 64, F1 (ix2 r c) * W1 (ix3 0 c o)) + (∑ c : Fin 64, F2 (ix2 r c) * W2 (ix3 0 c o))
        + (∑ c : Fin 64, F3 (ix2 r c) * W3 (ix3 0 c o)) + (∑ c : Fin 64, F4 (ix2 r c) * W4 (ix3 0 c o)) + (∑ c : Fin 64, F5 (ix2 r c) * W5 (ix3 0 c o))
        + (∑ c : Fin 64, F6 (ix2 r c) * W6 (ix3 0 c o)) + (∑ c : Fin 64, F7 (ix2 r c) * W7 (ix3 0 c o)) + (∑ c : Fin 64, F8 (ix2 r c) * W8 (ix3 0 c o))
        + b (ix2 0 o)) := by
  pointwise [k0_pay1, k0_pay264, k0_pay263, k0_pay262, k0_pay261]

/-- The first layer on the image `X`, from the kernel's weights. -/
def K1 (X : Img) (g : FVec Ideal S9x64x128 .f32) (b : FVec Ideal S1x128 .f32) : Img := relu fun y x o =>
  let T := fun ky kx => Dec.tap 56 56 64 X (y + ky) (x + kx) fun c => get3 g (ky * 3 + kx) c o
  0 + T 0 0 + T 0 1 + T 0 2 + T 1 0 + T 1 1 + T 1 2 + T 2 0 + T 2 1 + T 2 2 + get2 b 0 o

/-- The second layer on the image `Y`, from the kernel's weights. -/
def K2 (Y : Img) (g : FVec Ideal S16x128x64 .f32) (b : FVec Ideal S1x64 .f32) : Img := relu fun y x o =>
  let T := fun t s => Dec.tap 56 56 128 Y (y / 2 + y % 2 + t) (x / 2 + x % 2 + s) fun c => get3 g (((y % 2 * 2 + x % 2) * 2 + t) * 2 + s) c o
  0 + T 0 0 + T 0 1 + T 1 0 + T 1 1 + get2 b 0 o

/-- The third layer on the image `Z`, from the kernel's weights: twelve columns at a place. -/
def K3 (Z : Img) (g : FVec Ideal S9x64x12 .f32) (b : FVec Ideal S1x12 .f32) : Img := fun y x o =>
  let T := fun ky kx => Dec.tap 112 112 64 Z (y + ky) (x + kx) fun c => get3 g (ky * 3 + kx) c o
  Ideal.tanh (0 + T 0 0 + T 0 1 + T 0 2 + T 1 0 + T 1 1 + T 1 2 + T 2 0 + T 2 1 + T 2 2 + get2 b 0 o)

/-- A block of weights: the block `t` of all of them. -/
def Wgt {N C O : ℕ} (g : (⟨3, ![N, C, O]⟩ : Shape).Idx → EReal) (t : ℕ) (W : (⟨3, ![1, C, O]⟩ : Shape).Idx → EReal) : Prop :=
  ∀ (c : Fin C) (o : Fin O), W (ix3 0 c o) = get3 g t c.val o.val

/-- The first layer's payload is the first layer. -/
theorem l1 (X : Img) (g : FVec Ideal S9x64x128 .f32) (b0 b : FVec Ideal S1x128 .f32) (F0 F1 F2 F3 F4 F5 F6 F7 F8 : FVec Ideal S3248x64 .f32)
    (W0 W1 W2 W3 W4 W5 W6 W7 W8 : FVec Ideal S1x64x128 .f32)
    (hF0 : Load 58 56 56 X 0 F0) (hF1 : Load 58 56 56 X 1 F1) (hF2 : Load 58 56 56 X 2 F2) (hF3 : Load 58 56 56 X 58 F3) (hF4 : Load 58 56 56 X 59 F4)
    (hF5 : Load 58 56 56 X 60 F5) (hF6 : Load 58 56 56 X 116 F6) (hF7 : Load 58 56 56 X 117 F7) (hF8 : Load 58 56 56 X 118 F8)
    (hW0 : Wgt g 0 W0) (hW1 : Wgt g 1 W1) (hW2 : Wgt g 2 W2) (hW3 : Wgt g 3 W3) (hW4 : Wgt g 4 W4) (hW5 : Wgt g 5 W5) (hW6 : Wgt g 6 W6)
    (hW7 : Wgt g 7 W7) (hW8 : Wgt g 8 W8) (hb : ∀ o : Fin 128, b (ix2 0 o) = b0 (ix2 0 o)) (y x : ℕ) (hy : y < 56) (hx : x < 56) (o : Fin 128) :
    k0_pay68 (F := Ideal) (k0_pay67 (k0_pay66 F0 W0 F1 W1 F2 W2) F3 W3 F4 W4 F5 W5 F6 W6 F7 W7) F8 W8 b (ix2 (⟨y * 58 + x, by omega⟩ : Fin 3248) o)
      = K1 X g b0 y x o.val := by
  rw [pay_l1, hF0.tap _ _ hW0 0 0 y x rfl _ rfl (by omega), hF1.tap _ _ hW1 0 1 y x rfl _ rfl (by omega), hF2.tap _ _ hW2 0 2 y x rfl _ rfl (by omega),
    hF3.tap _ _ hW3 1 0 y x rfl _ rfl (by omega), hF4.tap _ _ hW4 1 1 y x rfl _ rfl (by omega), hF5.tap _ _ hW5 1 2 y x rfl _ rfl (by omega),
    hF6.tap _ _ hW6 2 0 y x rfl _ rfl (by omega), hF7.tap _ _ hW7 2 1 y x rfl _ rfl (by omega), hF8.tap _ _ hW8 2 2 y x rfl _ rfl (by omega),
    hb o, ← get2_ix b0 0 o]
  rfl

/-- The third layer's payload is the third layer. -/
theorem l3 (X : Img) (g : FVec Ideal S9x64x12 .f32) (b0 b : FVec Ideal S1x12 .f32) (F0 F1 F2 F3 F4 F5 F6 F7 F8 : FVec Ideal S12768x64 .f32)
    (W0 W1 W2 W3 W4 W5 W6 W7 W8 : FVec Ideal S1x64x12 .f32)
    (hF0 : Load 114 112 112 X 0 F0) (hF1 : Load 114 112 112 X 1 F1) (hF2 : Load 114 112 112 X 2 F2) (hF3 : Load 114 112 112 X 114 F3)
    (hF4 : Load 114 112 112 X 115 F4) (hF5 : Load 114 112 112 X 116 F5) (hF6 : Load 114 112 112 X 228 F6) (hF7 : Load 114 112 112 X 229 F7)
    (hF8 : Load 114 112 112 X 230 F8)
    (hW0 : Wgt g 0 W0) (hW1 : Wgt g 1 W1) (hW2 : Wgt g 2 W2) (hW3 : Wgt g 3 W3) (hW4 : Wgt g 4 W4) (hW5 : Wgt g 5 W5) (hW6 : Wgt g 6 W6)
    (hW7 : Wgt g 7 W7) (hW8 : Wgt g 8 W8) (hb : ∀ o : Fin 12, b (ix2 0 o) = b0 (ix2 0 o)) (y x : ℕ) (hy : y < 112) (hx : x < 112) (o : Fin 12) :
    k0_pay1 (F := Ideal) (k0_pay264 (k0_pay263 (k0_pay261 F0 W0) (k0_pay262 F1 W1) F2 W2 F3 W3 F4 W4 F5 W5 F6 W6) F7 W7 F8 W8) b
        (ix3 0 (⟨y * 114 + x, by omega⟩ : Fin 12768) o)
      = K3 X g b0 y x o.val := by
  rw [pay_l3, hF0.tap _ _ hW0 0 0 y x rfl _ rfl (by omega), hF1.tap _ _ hW1 0 1 y x rfl _ rfl (by omega), hF2.tap _ _ hW2 0 2 y x rfl _ rfl (by omega),
    hF3.tap _ _ hW3 1 0 y x rfl _ rfl (by omega), hF4.tap _ _ hW4 1 1 y x rfl _ rfl (by omega), hF5.tap _ _ hW5 1 2 y x rfl _ rfl (by omega),
    hF6.tap _ _ hW6 2 0 y x rfl _ rfl (by omega), hF7.tap _ _ hW7 2 1 y x rfl _ rfl (by omega), hF8.tap _ _ hW8 2 2 y x rfl _ rfl (by omega),
    hb o, ← get2_ix b0 0 o]
  rfl

/-- Four taps of the second layer, at a place of one of its four phases, are the second layer. -/
theorem l2_phase (Y : Img) (g : FVec Ideal S16x128x64 .f32) (b0 b : FVec Ideal S1x64 .f32) (F0 F1 F2 F3 : FVec Ideal S3248x128 .f32)
    (W0 W1 W2 W3 : FVec Ideal S1x128x64 .f32) (py px o0 o1 o2 o3 w0 w1 w2 w3 : ℕ)
    (hF0 : Load 58 56 56 Y o0 F0) (hF1 : Load 58 56 56 Y o1 F1) (hF2 : Load 58 56 56 Y o2 F2) (hF3 : Load 58 56 56 Y o3 F3)
    (hW0 : Wgt g w0 W0) (hW1 : Wgt g w1 W1) (hW2 : Wgt g w2 W2) (hW3 : Wgt g w3 W3) (hb : ∀ o : Fin 64, b (ix2 0 o) = b0 (ix2 0 o))
    (hpy : py < 2) (hpx : px < 2) (e0 : o0 = py * 58 + px) (e1 : o1 = py * 58 + (px + 1)) (e2 : o2 = (py + 1) * 58 + px)
    (e3 : o3 = (py + 1) * 58 + (px + 1)) (d0 : w0 = (py * 2 + px) * 4) (d1 : w1 = (py * 2 + px) * 4 + 1) (d2 : w2 = (py * 2 + px) * 4 + 2)
    (d3 : w3 = (py * 2 + px) * 4 + 3) (u w : Fin 56) (o : Fin 64) :
    max (0 + (∑ c : Fin 128, F0 (ix2 (row58 u w) c) * W0 (ix3 0 c o)) + (∑ c : Fin 128, F1 (ix2 (row58 u w) c) * W1 (ix3 0 c o))
        + (∑ c : Fin 128, F2 (ix2 (row58 u w) c) * W2 (ix3 0 c o)) + (∑ c : Fin 128, F3 (ix2 (row58 u w) c) * W3 (ix3 0 c o)) + b (ix2 0 o)) 0
      = K2 Y g b0 (2 * u.val + py) (2 * w.val + px) o.val := by
  rw [hF0.tap _ _ hW0 py px u.val w.val e0 _ rfl (by omega), hF1.tap _ _ hW1 py (px + 1) u.val w.val e1 _ rfl (by omega),
    hF2.tap _ _ hW2 (py + 1) px u.val w.val e2 _ rfl (by omega), hF3.tap _ _ hW3 (py + 1) (px + 1) u.val w.val e3 _ rfl (by omega),
    hb o, ← get2_ix b0 0 o, K2, relu]
  have a1 : (2 * u.val + py) / 2 = u.val := by omega
  have a2 : (2 * u.val + py) % 2 = py := by omega
  have a3 : (2 * w.val + px) / 2 = w.val := by omega
  have a4 : (2 * w.val + px) % 2 = px := by omega
  have c0 : ((py * 2 + px) * 2 + 0) * 2 + 0 = w0 := by omega
  have c1 : ((py * 2 + px) * 2 + 0) * 2 + 1 = w1 := by omega
  have c2 : ((py * 2 + px) * 2 + 1) * 2 + 0 = w2 := by omega
  have c3 : ((py * 2 + px) * 2 + 1) * 2 + 1 = w3 := by omega
  simp only [a1, a2, a3, a4, c0, c1, c2, c3]
  rfl

end Cert.Dec

end
-- ==== Proof.DecStep.lean ====
module

public import proofs.«01_k».proof.Proof.DecBody
public import proofs.«01_k».proof.Proof.Gen.DecodeIdeal.Frame

/-! The loads and the stores of the decoder kernel, one by one. -/

@[expose] public section

set_option maxRecDepth 16384

namespace Cert.Dec

open Idealize.ShloMosaic
open Cert.DecodeIdeal Cert.DecodeIdeal.Gen

noncomputable section

/-- A load of one block of the weights. -/
theorem wload {N C O : ℕ} (a : Memref sig .tc .vmem (⟨3, ![N, C, O]⟩ : Shape) .f32) (ha : a.IsWhole)
    (x : (⟨3, ![N, C, O]⟩ : Shape).Idx → EReal) (t : ℕ) (inb : ∀ k, (![t, 0, 0] : Fin 3 → ℕ) k + (⟨3, ![1, C, O]⟩ : Shape).size k ≤ (⟨3, ![N, C, O]⟩ : Shape).size k) :
    Wgt x t (View.readAt (Elt Ideal) a.view (Rect.unit (s := (⟨3, ![N, C, O]⟩ : Shape)) ![t, 0, 0] (⟨3, ![1, C, O]⟩ : Shape).size inb).toLoadRect
      (ha.unread x)) := by
  intro c o
  have ht : t < N := by
    have := inb 0
    simp at this
    omega
  rw [View.readAt_apply, Memref.IsWhole.read_unread]
  refine Eq.trans (congrArg x ?_) (get3_ix x ⟨t, ht⟩ c o).symm
  funext k
  refine Fin.ext ?_
  match k with
  | 0 => rfl
  | 1 => exact (Nat.zero_add _).trans (Nat.one_mul _)
  | 2 => exact (Nat.zero_add _).trans (Nat.one_mul _)

/-- A load of the whole of a bias. -/
theorem bload {C : ℕ} (a : Memref sig .tc .vmem (⟨2, ![1, C]⟩ : Shape) .f32) (ha : a.IsWhole)
    (x : (⟨2, ![1, C]⟩ : Shape).Idx → EReal) (inb : ∀ k, (![0, 0] : Fin 2 → ℕ) k + (⟨2, ![1, C]⟩ : Shape).size k ≤ (⟨2, ![1, C]⟩ : Shape).size k) (o : Fin C) :
    View.readAt (Elt Ideal) a.view (Rect.unit (s := (⟨2, ![1, C]⟩ : Shape)) ![0, 0] (⟨2, ![1, C]⟩ : Shape).size inb).toLoadRect
      (ha.unread x) (ix2 0 o) = x (ix2 0 o) := by
  rw [View.readAt_apply, Memref.IsWhole.read_unread]
  refine congrArg x ?_
  funext k
  refine Fin.ext ?_
  match k with
  | 0 => rfl
  | 1 => exact (Nat.zero_add _).trans (Nat.one_mul _)

/-- A load of a run of rows of a scratch. -/
theorem sload {R N C P H W : ℕ} {sp : Space} (v : View sig .tc sp (⟨2, ![N, C]⟩ : Shape) .f32) (f : v.ty.Contents (Elt Ideal)) (X : Img)
    (h : ∀ y, v.read (Elt Ideal) f y = strip P H W X (y (0 : Fin 2)).val (y (1 : Fin 2)).val) (off : ℕ)
    (inb : ∀ k, (![off, 0] : Fin 2 → ℕ) k + (⟨2, ![R, C]⟩ : Shape).size k ≤ (⟨2, ![N, C]⟩ : Shape).size k) :
    Load P H W X off (R := R) (C := C) (View.readAt (Elt Ideal) v (Rect.unit (s := (⟨2, ![N, C]⟩ : Shape)) ![off, 0] (⟨2, ![R, C]⟩ : Shape).size inb).toLoadRect f) := by
  intro r c
  rw [View.readAt_apply]
  refine (h _).trans ?_
  have e0 : off + 1 * r.val = off + r.val := by omega
  have e1 : 0 + 1 * c.val = c.val := by omega
  exact congrArg₂ (strip P H W X) e0 e1

theorem cast_row (g : FVec Ideal S1x56x64 .f32) (h1 h2 : _) (i : Fin 56) (j : Fin 64) :
    shapeCast S56x64 (shapeCast S56x64 g h1) h2 (ix2 i j) = g (ix3 0 i j) := by
  pointwise

theorem slice_row (g : FVec Ideal S3248x128 .f32) (n : ℕ) (h1 h2 : _) (i : Fin 56) (j : Fin 128) (hn : n + i.val < 3248) :
    shapeCast S56x128 (extractStridedSlice S56x128 ![n, 0] g h1) h2 (ix2 i j) = g (ix2 ⟨n + i.val, hn⟩ j) := by
  pointwise

theorem inter_row (g : FVec Ideal S56x112x64 .f32) (n : ℕ) (h1 h2 h3 : _) (i : Fin 112) (j : Fin 64) (hn : n < 56) :
    shapeCast S112x64 (shapeCast S112x64 (extractStridedSlice S1x112x64 ![n, 0, 0] g h1) h2) h3 (ix2 i j) = g (ix3 ⟨n, hn⟩ i j) := by
  pointwise

/-- The image of a block of the input. -/
def img (x : FVec Ideal S1x3136x64 .f32) : Img := fun y i c => get3 x 0 (y * 56 + i) c

/-- A row of the input stored in the first scratch. -/
theorem row_q (a : Memref sig .tc .vmem S1x3136x64 .f32) (ha : a.IsWhole) (x : FVec Ideal S1x3136x64 .f32) (k o o1 : ℕ) (hk : k < 56)
    (ho : o = (k + 1) * 58 + 1) (ho1 : o1 = k * 56) (inb inb1 h1 h2 : _) :
    RowAt 58 56 (img x) (⟨Rect.unit (s := S3488x64) ![o, 0] S56x64.size inb, shapeCast S56x64 (shapeCast S56x64
      (View.readAt (Elt Ideal) a.view (Rect.unit (s := S1x3136x64) ![0, o1, 0] S1x56x64.size inb1).toLoadRect (ha.unread x)) h1) h2⟩ :
        View.Piece (Elt Ideal) S3488x64 .f32) k := by
  refine ⟨fun _ => rfl, ho, rfl, rfl, rfl, fun y => ?_⟩
  have hy : y = ix2 (y (0 : Fin 2) : Fin 56) (y (1 : Fin 2) : Fin 64) := eq_ix2 y
  refine (congrArg _ hy).trans ((cast_row (View.readAt (Elt Ideal) a.view (Rect.unit (s := S1x3136x64) ![0, o1, 0] S1x56x64.size inb1).toLoadRect (ha.unread x)) h1 h2 _ _).trans ?_)
  rw [View.readAt_apply, Memref.IsWhole.read_unread]
  have l0 : (y (0 : Fin 2)).val < 56 := (y (0 : Fin 2)).isLt
  have l1 : (y (1 : Fin 2)).val < 64 := (y (1 : Fin 2)).isLt
  refine Eq.trans (congrArg x ?_) (get3_ix x (0 : Fin 1) ⟨k * 56 + (y (0 : Fin 2)).val, by omega⟩ ⟨_, l1⟩).symm
  funext q
  refine Fin.ext ?_
  match q with
  | 0 => rfl
  | 1 => exact (congrArg₂ (· + ·) ho1 (Nat.one_mul _))
  | 2 => exact (Nat.zero_add _).trans (Nat.one_mul _)

/-- A row of the first layer stored in the second scratch. -/
theorem row_slice (X : Img) (A : FVec Ideal S3248x128 .f32) (hA : ∀ (y x : ℕ) (hy : y < 56) (hx : x < 56) (o : Fin 128), A (ix2 (⟨y * 58 + x, by omega⟩ : Fin 3248) o) = X y x o.val)
    (k o n : ℕ) (hk : k < 56) (ho : o = (k + 1) * 58 + 1) (hn : n = k * 58) (inb h1 h2 : _) :
    RowAt 58 56 X (⟨Rect.unit (s := S3488x128) ![o, 0] S56x128.size inb, shapeCast S56x128 (extractStridedSlice S56x128 ![n, 0] A h1) h2⟩ :
        View.Piece (Elt Ideal) S3488x128 .f32) k := by
  subst hn
  refine ⟨fun _ => rfl, ho, rfl, rfl, rfl, fun y => ?_⟩
  have hy : y = ix2 (y (0 : Fin 2) : Fin 56) (y (1 : Fin 2) : Fin 128) := eq_ix2 y
  have l0 : (y (0 : Fin 2)).val < 56 := (y (0 : Fin 2)).isLt
  refine (congrArg _ hy).trans ((slice_row A _ h1 h2 _ _ (by omega)).trans ?_)
  exact hA k _ hk l0 _

/-- A row of the second layer stored in the third scratch. -/
theorem row_inter (X : Img) (A : FVec Ideal S56x112x64 .f32) (py : ℕ) (hA : ∀ (u : Fin 56) (w : Fin 112) (o : Fin 64), A (ix3 u w o) = X (2 * u.val + py) w.val o.val)
    (k o n : ℕ) (hn : n < 56) (hk : k = 2 * n + py) (ho : o = (k + 1) * 114 + 1) (inb h1 h2 h3 : _) :
    RowAt 114 112 X (⟨Rect.unit (s := S13232x64) ![o, 0] S112x64.size inb, shapeCast S112x64 (shapeCast S112x64 (extractStridedSlice S1x112x64 ![n, 0, 0] A h1) h2) h3⟩ :
        View.Piece (Elt Ideal) S13232x64 .f32) k := by
  subst hk
  refine ⟨fun _ => rfl, ho, rfl, rfl, rfl, fun y => ?_⟩
  have hy : y = ix2 (y (0 : Fin 2) : Fin 112) (y (1 : Fin 2) : Fin 64) := eq_ix2 y
  refine (congrArg _ hy).trans ((inter_row A _ h1 h2 h3 _ _ hn).trans ?_)
  exact hA ⟨n, hn⟩ _ _

/-- The second layer's rows from its even and its odd columns. -/
theorem interleave (X : Img) (A : FVec Ideal S56x112x64 .f32) (py : ℕ)
    (h0 : ∀ (u w : Fin 56) (o : Fin 64), A (ix3 u ⟨2 * w.val, by omega⟩ o) = X (2 * u.val + py) (2 * w.val + 0) o.val)
    (h1 : ∀ (u w : Fin 56) (o : Fin 64), A (ix3 u ⟨2 * w.val + 1, by omega⟩ o) = X (2 * u.val + py) (2 * w.val + 1) o.val)
    (u : Fin 56) (w : Fin 112) (o : Fin 64) : A (ix3 u w o) = X (2 * u.val + py) w.val o.val := by
  rcases Nat.even_or_odd' w.val with ⟨c, hc | hc⟩
  · have e : w = ⟨2 * (⟨c, by omega⟩ : Fin 56).val, by simp only; omega⟩ := Fin.ext hc
    rw [e]
    exact h0 u ⟨c, by omega⟩ o
  · have e : w = ⟨2 * (⟨c, by omega⟩ : Fin 56).val + 1, by simp only; omega⟩ := Fin.ext hc
    rw [e]
    exact h1 u ⟨c, by omega⟩ o

/-- A store of the whole output block read back. -/
theorem store_whole {sp : Space} (v : View sig .tc sp S1x12768x12 .f32) (f : v.ty.Contents (Elt Ideal)) (g : FVec Ideal S1x12768x12 .f32) (inb : _) (y : S1x12768x12.Idx) :
    v.read (Elt Ideal) (v.writes (Elt Ideal) f [⟨Rect.unit (s := S1x12768x12) ![0, 0, 0] S1x12768x12.size inb, g⟩]) y = g y := by
  refine View.read_writes_apply_of_pieces v f g _ (fun p hp x => ?_) y ⟨_, List.mem_singleton.mpr rfl, ?_⟩
  · obtain rfl := List.mem_singleton.mp hp
    refine congrArg g (funext fun a => Fin.ext ?_)
    match a with
    | 0 => exact ((Nat.zero_add _).trans (Nat.one_mul _)).symm
    | 1 => exact ((Nat.zero_add _).trans (Nat.one_mul _)).symm
    | 2 => exact ((Nat.zero_add _).trans (Nat.one_mul _)).symm
  · exact (LoadRect.mem_set _).mpr fun a => ⟨(y a).val, (y a).isLt, (match a with
    | 0 => ((Nat.zero_add _).trans (Nat.one_mul _)).symm
    | 1 => ((Nat.zero_add _).trans (Nat.one_mul _)).symm
    | 2 => ((Nat.zero_add _).trans (Nat.one_mul _)).symm)⟩

theorem pay2_zero (x : S3488x64.Idx) : k0_pay2 (F := Ideal) x = (0 : EReal) := by
  rw [eq_ix2 x]
  pointwise [k0_pay2]

theorem pay3_zero (x : S3488x128.Idx) : k0_pay3 (F := Ideal) x = (0 : EReal) := by
  rw [eq_ix2 x]
  pointwise [k0_pay3]

theorem pay4_zero (x : S13232x64.Idx) : k0_pay4 (F := Ideal) x = (0 : EReal) := by
  rw [eq_ix2 x]
  pointwise [k0_pay4]

end

end Cert.Dec

end
-- ==== Proof.DecA.lean ====
module

public import proofs.«01_k».proof.Proof.DecStep

/-! The decoder kernel at its first point of a row of the grid: the borders are filled, then the three layers run. -/

@[expose] public section

set_option maxRecDepth 16384

namespace Cert.Dec

open Idealize.ShloMosaic Idealize.ShloMosaic.TcCoe
open Cert.DecodeIdeal Cert.DecodeIdeal.Gen

noncomputable section

/-- The fill of a scratch leaves zeros. -/
theorem fill0 {sp : Space} (v : View sig .tc sp S3488x64 .f32) (f : v.ty.Contents (Elt Ideal)) (y : S3488x64.Idx) :
    v.read (Elt Ideal) (v.writes (Elt Ideal) f [⟨Rect.unit (s := S3488x64) ![0, 0] S3488x64.size inb_S3488x64_S3488x64_0_0, k0_pay2 (F := Ideal)⟩]) y = (0 : EReal) := by
  refine View.read_writes_apply_of_pieces v f (fun _ => (0 : EReal)) _ (fun p hp x => ?_) y ⟨_, List.mem_singleton.mpr rfl, ?_⟩
  · obtain rfl := List.mem_singleton.mp hp
    exact pay2_zero x
  · exact (LoadRect.mem_set _).mpr fun a => ⟨(y a).val, (y a).isLt, (match a with
    | 0 => ((Nat.zero_add _).trans (Nat.one_mul _)).symm
    | 1 => ((Nat.zero_add _).trans (Nat.one_mul _)).symm)⟩

/-- The fill of a scratch leaves zeros. -/
theorem fill1 {sp : Space} (v : View sig .tc sp S3488x128 .f32) (f : v.ty.Contents (Elt Ideal)) (y : S3488x128.Idx) :
    v.read (Elt Ideal) (v.writes (Elt Ideal) f [⟨Rect.unit (s := S3488x128) ![0, 0] S3488x128.size inb_S3488x128_S3488x128_0_0, k0_pay3 (F := Ideal)⟩]) y = (0 : EReal) := by
  refine View.read_writes_apply_of_pieces v f (fun _ => (0 : EReal)) _ (fun p hp x => ?_) y ⟨_, List.mem_singleton.mpr rfl, ?_⟩
  · obtain rfl := List.mem_singleton.mp hp
    exact pay3_zero x
  · exact (LoadRect.mem_set _).mpr fun a => ⟨(y a).val, (y a).isLt, (match a with
    | 0 => ((Nat.zero_add _).trans (Nat.one_mul _)).symm
    | 1 => ((Nat.zero_add _).trans (Nat.one_mul _)).symm)⟩

/-- The fill of a scratch leaves zeros. -/
theorem fill2 {sp : Space} (v : View sig .tc sp S13232x64 .f32) (f : v.ty.Contents (Elt Ideal)) (y : S13232x64.Idx) :
    v.read (Elt Ideal) (v.writes (Elt Ideal) f [⟨Rect.unit (s := S13232x64) ![0, 0] S13232x64.size inb_S13232x64_S13232x64_0_0, k0_pay4 (F := Ideal)⟩]) y = (0 : EReal) := by
  refine View.read_writes_apply_of_pieces v f (fun _ => (0 : EReal)) _ (fun p hp x => ?_) y ⟨_, List.mem_singleton.mpr rfl, ?_⟩
  · obtain rfl := List.mem_singleton.mp hp
    exact pay4_zero x
  · exact (LoadRect.mem_set _).mpr fun a => ⟨(y a).val, (y a).isLt, (match a with
    | 0 => ((Nat.zero_add _).trans (Nat.one_mul _)).symm
    | 1 => ((Nat.zero_add _).trans (Nat.one_mul _)).symm)⟩

theorem rowsA0 (c : Dev nD) (arg1 : Memref sig .tc .vmem S1x3136x64 .f32) (harg1 : arg1.IsWhole) (x0 : Vec Ideal S1x3136x64 .f32) : Rows 58 56 (img x0) [⟨Rect.unit (s := S3488x64) ![0, 0] S3488x64.size inb_S3488x64_S3488x64_0_0, k0_pay2 (F := Ideal)⟩] (kernelRun0_A.sl.HS0_57 (F := Ideal) c arg1 harg1 x0) [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by
  repeat (refine Rows.cons (row_q _ _ _ _ _ _ (by decide) (by decide) (by decide) _ _ _ _) ?_)
  exact Rows.base

theorem readA0 (c : Dev nD) (arg1 : Memref sig .tc .vmem S1x3136x64 .f32) (harg1 : arg1.IsWhole) (x0 : Vec Ideal S1x3136x64 .f32) {sp : Space} (v : View sig .tc sp S3488x64 .f32) (f : v.ty.Contents (Elt Ideal)) (y : S3488x64.Idx) :
    v.read (Elt Ideal) (v.writes (Elt Ideal) f (kernelRun0_A.sl.HS0_57 (F := Ideal) c arg1 harg1 x0)) y = strip 58 56 56 (img x0) (y (0 : Fin 2)).val (y (1 : Fin 2)).val :=
  rows_read v f _ _ _ _ (rowsA0 c arg1 harg1 x0) (by decide) (by decide) (by decide) (fun y _ => fill0 v f y) y

/-- The first layer's word. -/
theorem firstA (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg9 : Memref sig .tc .vmem S3488x64 .f32) (x0 : Vec Ideal S1x3136x64 .f32) (x1 : Vec Ideal S9x64x128 .f32) (x2 : Vec Ideal S1x128 .f32)  (y x : ℕ) (hy : y < 56) (hx : x < 56) (o : Fin 128) :
    kernelRun0_A.sl.r_4 (F := Ideal) c arg1 harg1 arg2 harg2 arg3 harg3 arg9 x0 x1 x2 (ix2 (⟨y * 58 + x, by omega⟩ : Fin 3248) o) = K1 (img x0) x1 x2 y x o.val := by
  refine l1 (img x0) x1 x2 _ _ _ _ _ _ _ _ _ _ _ _ _ _ _ _ _ _ _ ?_ ?_ ?_ ?_ ?_ ?_ ?_ ?_ ?_ ?_ ?_ ?_ ?_ ?_ ?_ ?_ ?_ ?_ ?_ y x hy hx o
  · exact sload _ _ _ (readA0 c arg1 harg1 x0 arg9.view _) 0 _
  · exact sload _ _ _ (readA0 c arg1 harg1 x0 arg9.view _) 1 _
  · exact sload _ _ _ (readA0 c arg1 harg1 x0 arg9.view _) 2 _
  · exact sload _ _ _ (readA0 c arg1 harg1 x0 arg9.view _) 58 _
  · exact sload _ _ _ (readA0 c arg1 harg1 x0 arg9.view _) 59 _
  · exact sload _ _ _ (readA0 c arg1 harg1 x0 arg9.view _) 60 _
  · exact sload _ _ _ (readA0 c arg1 harg1 x0 arg9.view _) 116 _
  · exact sload _ _ _ (readA0 c arg1 harg1 x0 arg9.view _) 117 _
  · exact sload _ _ _ (readA0 c arg1 harg1 x0 arg9.view _) 118 _
  · exact wload arg2 harg2 x1 0 _
  · exact wload arg2 harg2 x1 1 _
  · exact wload arg2 harg2 x1 2 _
  · exact wload arg2 harg2 x1 3 _
  · exact wload arg2 harg2 x1 4 _
  · exact wload arg2 harg2 x1 5 _
  · exact wload arg2 harg2 x1 6 _
  · exact wload arg2 harg2 x1 7 _
  · exact wload arg2 harg2 x1 8 _
  · exact bload arg3 harg3 x2 _

theorem rowsA1 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg9 : Memref sig .tc .vmem S3488x64 .f32) (x0 : Vec Ideal S1x3136x64 .f32) (x1 : Vec Ideal S9x64x128 .f32) (x2 : Vec Ideal S1x128 .f32)  : Rows 58 56 (K1 (img x0) x1 x2) [⟨Rect.unit (s := S3488x128) ![0, 0] S3488x128.size inb_S3488x128_S3488x128_0_0, k0_pay3 (F := Ideal)⟩] (kernelRun0_A.sl.HS1_57 (F := Ideal) c arg1 harg1 arg2 harg2 arg3 harg3 arg9 x0 x1 x2) [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by
  repeat (refine Rows.cons (row_slice _ (kernelRun0_A.sl.r_4 (F := Ideal) c arg1 harg1 arg2 harg2 arg3 harg3 arg9 x0 x1 x2) (firstA c arg1 harg1 arg2 harg2 arg3 harg3 arg9 x0 x1 x2 ) _ _ _ (by decide) (by decide) (by decide) _ (by decide) (by decide)) ?_)
  exact Rows.base

theorem readA1 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg9 : Memref sig .tc .vmem S3488x64 .f32) (x0 : Vec Ideal S1x3136x64 .f32) (x1 : Vec Ideal S9x64x128 .f32) (x2 : Vec Ideal S1x128 .f32)  {sp : Space} (v : View sig .tc sp S3488x128 .f32) (f : v.ty.Contents (Elt Ideal)) (y : S3488x128.Idx) :
    v.read (Elt Ideal) (v.writes (Elt Ideal) f (kernelRun0_A.sl.HS1_57 (F := Ideal) c arg1 harg1 arg2 harg2 arg3 harg3 arg9 x0 x1 x2)) y = strip 58 56 56 (K1 (img x0) x1 x2) (y (0 : Fin 2)).val (y (1 : Fin 2)).val :=
  rows_read v f _ _ _ _ (rowsA1 c arg1 harg1 arg2 harg2 arg3 harg3 arg9 x0 x1 x2 ) (by decide) (by decide) (by decide) (fun y _ => fill1 v f y) y

/-- The second layer's even rows. -/
theorem evenA (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (arg10 : Memref sig .tc .vmem S3488x128 .f32) (x0 : Vec Ideal S1x3136x64 .f32) (x1 : Vec Ideal S9x64x128 .f32) (x2 : Vec Ideal S1x128 .f32) (x3 : Vec Ideal S16x128x64 .f32) (x4 : Vec Ideal S1x64 .f32)   (u : Fin 56) (w : Fin 112) (o : Fin 64) :
    kernelRun0_A.sl.r_9 (F := Ideal) c arg1 harg1 arg2 harg2 arg3 harg3 arg4 harg4 arg5 harg5 arg9 arg10 x0 x1 x2 x3 x4 (ix3 u w o) = K2 (K1 (img x0) x1 x2) x3 x4 (2 * u.val + 0) w.val o.val := by
  refine interleave _ _ 0 (fun u w o => ?_) (fun u w o => ?_) u w o
  · refine Eq.trans (pay_l2_0x _ _ _ _ _ _ _ _ _ _ u w o) (Eq.trans (pay_l2_00 _ _ _ _ _ _ _ _ _ u w o) ?_)
    refine l2_phase (K1 (img x0) x1 x2) x3 x4 _ _ _ _ _ _ _ _ _ 0 0 0 1 58 59 0 1 2 3 ?_ ?_ ?_ ?_ ?_ ?_ ?_ ?_ ?_ (by decide) (by decide) rfl rfl rfl rfl rfl rfl rfl rfl u w o
    · exact sload _ _ _ (readA1 c arg1 harg1 arg2 harg2 arg3 harg3 arg9 x0 x1 x2  arg10.view _) 0 _
    · exact sload _ _ _ (readA1 c arg1 harg1 arg2 harg2 arg3 harg3 arg9 x0 x1 x2  arg10.view _) 1 _
    · exact sload _ _ _ (readA1 c arg1 harg1 arg2 harg2 arg3 harg3 arg9 x0 x1 x2  arg10.view _) 58 _
    · exact sload _ _ _ (readA1 c arg1 harg1 arg2 harg2 arg3 harg3 arg9 x0 x1 x2  arg10.view _) 59 _
    · exact wload arg4 harg4 x3 0 _
    · exact wload arg4 harg4 x3 1 _
    · exact wload arg4 harg4 x3 2 _
    · exact wload arg4 harg4 x3 3 _
    · exact bload arg5 harg5 x4 _
  · refine Eq.trans (pay_l2_01 _ _ _ _ _ _ _ _ _ _ u w o) ?_
    refine l2_phase (K1 (img x0) x1 x2) x3 x4 _ _ _ _ _ _ _ _ _ 0 1 1 2 59 60 4 5 6 7 ?_ ?_ ?_ ?_ ?_ ?_ ?_ ?_ ?_ (by decide) (by decide) rfl rfl rfl rfl rfl rfl rfl rfl u w o
    · exact sload _ _ _ (readA1 c arg1 harg1 arg2 harg2 arg3 harg3 arg9 x0 x1 x2  arg10.view _) 1 _
    · exact sload _ _ _ (readA1 c arg1 harg1 arg2 harg2 arg3 harg3 arg9 x0 x1 x2  arg10.view _) 2 _
    · exact sload _ _ _ (readA1 c arg1 harg1 arg2 harg2 arg3 harg3 arg9 x0 x1 x2  arg10.view _) 59 _
    · exact sload _ _ _ (readA1 c arg1 harg1 arg2 harg2 arg3 harg3 arg9 x0 x1 x2  arg10.view _) 60 _
    · exact wload arg4 harg4 x3 4 _
    · exact wload arg4 harg4 x3 5 _
    · exact wload arg4 harg4 x3 6 _
    · exact wload arg4 harg4 x3 7 _
    · exact bload arg5 harg5 x4 _

/-- The second layer's odd rows. -/
theorem oddA (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (arg10 : Memref sig .tc .vmem S3488x128 .f32) (x0 : Vec Ideal S1x3136x64 .f32) (x1 : Vec Ideal S9x64x128 .f32) (x2 : Vec Ideal S1x128 .f32) (x3 : Vec Ideal S16x128x64 .f32) (x4 : Vec Ideal S1x64 .f32)   (u : Fin 56) (w : Fin 112) (o : Fin 64) :
    kernelRun0_A.sl.r_15 (F := Ideal) c arg1 harg1 arg2 harg2 arg3 harg3 arg4 harg4 arg5 harg5 arg9 arg10 x0 x1 x2 x3 x4 (ix3 u w o) = K2 (K1 (img x0) x1 x2) x3 x4 (2 * u.val + 1) w.val o.val := by
  refine interleave _ _ 1 (fun u w o => ?_) (fun u w o => ?_) u w o
  · refine Eq.trans (pay_l2_1x _ _ u w o) (Eq.trans (pay_l2_10 _ _ _ _ _ _ _ _ _ u w o) ?_)
    refine l2_phase (K1 (img x0) x1 x2) x3 x4 _ _ _ _ _ _ _ _ _ 1 0 58 59 116 117 8 9 10 11 ?_ ?_ ?_ ?_ ?_ ?_ ?_ ?_ ?_ (by decide) (by decide) rfl rfl rfl rfl rfl rfl rfl rfl u w o
    · exact sload _ _ _ (readA1 c arg1 harg1 arg2 harg2 arg3 harg3 arg9 x0 x1 x2  arg10.view _) 58 _
    · exact sload _ _ _ (readA1 c arg1 harg1 arg2 harg2 arg3 harg3 arg9 x0 x1 x2  arg10.view _) 59 _
    · exact sload _ _ _ (readA1 c arg1 harg1 arg2 harg2 arg3 harg3 arg9 x0 x1 x2  arg10.view _) 116 _
    · exact sload _ _ _ (readA1 c arg1 harg1 arg2 harg2 arg3 harg3 arg9 x0 x1 x2  arg10.view _) 117 _
    · exact wload arg4 harg4 x3 8 _
    · exact wload arg4 harg4 x3 9 _
    · exact wload arg4 harg4 x3 10 _
    · exact wload arg4 harg4 x3 11 _
    · exact bload arg5 harg5 x4 _
  · refine Eq.trans (pay_l2_11 _ _ _ _ _ _ _ _ _ _ u w o) ?_
    refine l2_phase (K1 (img x0) x1 x2) x3 x4 _ _ _ _ _ _ _ _ _ 1 1 59 60 117 118 12 13 14 15 ?_ ?_ ?_ ?_ ?_ ?_ ?_ ?_ ?_ (by decide) (by decide) rfl rfl rfl rfl rfl rfl rfl rfl u w o
    · exact sload _ _ _ (readA1 c arg1 harg1 arg2 harg2 arg3 harg3 arg9 x0 x1 x2  arg10.view _) 59 _
    · exact sload _ _ _ (readA1 c arg1 harg1 arg2 harg2 arg3 harg3 arg9 x0 x1 x2  arg10.view _) 60 _
    · exact sload _ _ _ (readA1 c arg1 harg1 arg2 harg2 arg3 harg3 arg9 x0 x1 x2  arg10.view _) 117 _
    · exact sload _ _ _ (readA1 c arg1 harg1 arg2 harg2 arg3 harg3 arg9 x0 x1 x2  arg10.view _) 118 _
    · exact wload arg4 harg4 x3 12 _
    · exact wload arg4 harg4 x3 13 _
    · exact wload arg4 harg4 x3 14 _
    · exact wload arg4 harg4 x3 15 _
    · exact bload arg5 harg5 x4 _

theorem rowsA2 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (arg10 : Memref sig .tc .vmem S3488x128 .f32) (x0 : Vec Ideal S1x3136x64 .f32) (x1 : Vec Ideal S9x64x128 .f32) (x2 : Vec Ideal S1x128 .f32) (x3 : Vec Ideal S16x128x64 .f32) (x4 : Vec Ideal S1x64 .f32)   : Rows 114 112 (K2 (K1 (img x0) x1 x2) x3 x4) [⟨Rect.unit (s := S13232x64) ![0, 0] S13232x64.size inb_S13232x64_S13232x64_0_0, k0_pay4 (F := Ideal)⟩] (kernelRun0_A.sl.HS2_113 (F := Ideal) c arg1 harg1 arg2 harg2 arg3 harg3 arg4 harg4 arg5 harg5 arg9 arg10 x0 x1 x2 x3 x4) [111, 109, 107, 105, 103, 101, 99, 97, 95, 93, 91, 89, 87, 85, 83, 81, 79, 77, 75, 73, 71, 69, 67, 65, 63, 61, 59, 57, 55, 53, 51, 49, 47, 45, 43, 41, 39, 37, 35, 33, 31, 29, 27, 25, 23, 21, 19, 17, 15, 13, 11, 9, 7, 5, 3, 1, 110, 108, 106, 104, 102, 100, 98, 96, 94, 92, 90, 88, 86, 84, 82, 80, 78, 76, 74, 72, 70, 68, 66, 64, 62, 60, 58, 56, 54, 52, 50, 48, 46, 44, 42, 40, 38, 36, 34, 32, 30, 28, 26, 24, 22, 20, 18, 16, 14, 12, 10, 8, 6, 4, 2, 0] := by
  iterate 56 (refine Rows.cons (row_inter _ (kernelRun0_A.sl.r_15 (F := Ideal) c arg1 harg1 arg2 harg2 arg3 harg3 arg4 harg4 arg5 harg5 arg9 arg10 x0 x1 x2 x3 x4) 1 (oddA c arg1 harg1 arg2 harg2 arg3 harg3 arg4 harg4 arg5 harg5 arg9 arg10 x0 x1 x2 x3 x4  ) _ _ _ (by decide) (by decide) (by decide) _ (by decide) (by decide) (by decide)) ?_)
  iterate 56 (refine Rows.cons (row_inter _ (kernelRun0_A.sl.r_9 (F := Ideal) c arg1 harg1 arg2 harg2 arg3 harg3 arg4 harg4 arg5 harg5 arg9 arg10 x0 x1 x2 x3 x4) 0 (evenA c arg1 harg1 arg2 harg2 arg3 harg3 arg4 harg4 arg5 harg5 arg9 arg10 x0 x1 x2 x3 x4  ) _ _ _ (by decide) (by decide) (by decide) _ (by decide) (by decide) (by decide)) ?_)
  exact Rows.base

theorem readA2 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (arg10 : Memref sig .tc .vmem S3488x128 .f32) (x0 : Vec Ideal S1x3136x64 .f32) (x1 : Vec Ideal S9x64x128 .f32) (x2 : Vec Ideal S1x128 .f32) (x3 : Vec Ideal S16x128x64 .f32) (x4 : Vec Ideal S1x64 .f32)   {sp : Space} (v : View sig .tc sp S13232x64 .f32) (f : v.ty.Contents (Elt Ideal)) (y : S13232x64.Idx) :
    v.read (Elt Ideal) (v.writes (Elt Ideal) f (kernelRun0_A.sl.HS2_113 (F := Ideal) c arg1 harg1 arg2 harg2 arg3 harg3 arg4 harg4 arg5 harg5 arg9 arg10 x0 x1 x2 x3 x4)) y = strip 114 112 112 (K2 (K1 (img x0) x1 x2) x3 x4) (y (0 : Fin 2)).val (y (1 : Fin 2)).val :=
  rows_read v f _ _ _ _ (rowsA2 c arg1 harg1 arg2 harg2 arg3 harg3 arg4 harg4 arg5 harg5 arg9 arg10 x0 x1 x2 x3 x4  ) (by decide) (by decide) (by decide) (fun y _ => fill2 v f y) y

-- RUN
/-- What the point stores is the third layer. -/
theorem outA (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32)    (y x : ℕ) (hy : y < 112) (hx : x < 112) (o : Fin 12) :
    out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 (ix3 0 (⟨y * 114 + x, by omega⟩ : Fin 12768) o) = K3 (K2 (K1 (img x0) x1 x2) x3 x4) x5 x6 y x o.val := by
  unfold out0_A_7 kernelRun0_A
  dsimp only
  refine Eq.trans (store_whole VO0_7 _ _ _ _) ?_
  refine l3 (K2 (K1 (img x0) x1 x2) x3 x4) x5 x6 _ _ _ _ _ _ _ _ _ _ _ _ _ _ _ _ _ _ _ ?_ ?_ ?_ ?_ ?_ ?_ ?_ ?_ ?_ ?_ ?_ ?_ ?_ ?_ ?_ ?_ ?_ ?_ ?_ y x hy hx o
  · exact sload _ _ _ (readA2 c arg1 harg1 arg2 harg2 arg3 harg3 arg4 harg4 arg5 harg5 arg9 arg10 x0 x1 x2 x3 x4   arg11.view _) 0 _
  · exact sload _ _ _ (readA2 c arg1 harg1 arg2 harg2 arg3 harg3 arg4 harg4 arg5 harg5 arg9 arg10 x0 x1 x2 x3 x4   arg11.view _) 1 _
  · exact sload _ _ _ (readA2 c arg1 harg1 arg2 harg2 arg3 harg3 arg4 harg4 arg5 harg5 arg9 arg10 x0 x1 x2 x3 x4   arg11.view _) 2 _
  · exact sload _ _ _ (readA2 c arg1 harg1 arg2 harg2 arg3 harg3 arg4 harg4 arg5 harg5 arg9 arg10 x0 x1 x2 x3 x4   arg11.view _) 114 _
  · exact sload _ _ _ (readA2 c arg1 harg1 arg2 harg2 arg3 harg3 arg4 harg4 arg5 harg5 arg9 arg10 x0 x1 x2 x3 x4   arg11.view _) 115 _
  · exact sload _ _ _ (readA2 c arg1 harg1 arg2 harg2 arg3 harg3 arg4 harg4 arg5 harg5 arg9 arg10 x0 x1 x2 x3 x4   arg11.view _) 116 _
  · exact sload _ _ _ (readA2 c arg1 harg1 arg2 harg2 arg3 harg3 arg4 harg4 arg5 harg5 arg9 arg10 x0 x1 x2 x3 x4   arg11.view _) 228 _
  · exact sload _ _ _ (readA2 c arg1 harg1 arg2 harg2 arg3 harg3 arg4 harg4 arg5 harg5 arg9 arg10 x0 x1 x2 x3 x4   arg11.view _) 229 _
  · exact sload _ _ _ (readA2 c arg1 harg1 arg2 harg2 arg3 harg3 arg4 harg4 arg5 harg5 arg9 arg10 x0 x1 x2 x3 x4   arg11.view _) 230 _
  · exact wload arg6 harg6 x5 0 _
  · exact wload arg6 harg6 x5 1 _
  · exact wload arg6 harg6 x5 2 _
  · exact wload arg6 harg6 x5 3 _
  · exact wload arg6 harg6 x5 4 _
  · exact wload arg6 harg6 x5 5 _
  · exact wload arg6 harg6 x5 6 _
  · exact wload arg6 harg6 x5 7 _
  · exact wload arg6 harg6 x5 8 _
  · exact bload arg7 harg7 x6 _

/-- Scratch 0 keeps a border of zeros. -/
theorem borderA0 (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32)    (y : S3488x64.Idx) (hy : ¬ Inside 58 56 56 (y (0 : Fin 2)).val) :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 y = (0 : EReal) := by
  unfold sout0_A_0 kernelRun0_A
  dsimp only
  exact (readA0 c arg1 harg1 x0 VS0_0 _ y).trans (strip_of_not _ _ _ _ _ _ hy)

/-- Scratch 1 keeps a border of zeros. -/
theorem borderA1 (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32)    (y : S3488x128.Idx) (hy : ¬ Inside 58 56 56 (y (0 : Fin 2)).val) :
    sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 x5 x6 y = (0 : EReal) := by
  unfold sout0_A_1 kernelRun0_A
  dsimp only
  exact (readA1 c arg1 harg1 arg2 harg2 arg3 harg3 arg9 x0 x1 x2  VS0_1 _ y).trans (strip_of_not _ _ _ _ _ _ hy)

/-- Scratch 2 keeps a border of zeros. -/
theorem borderA2 (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32)    (y : S13232x64.Idx) (hy : ¬ Inside 114 112 112 (y (0 : Fin 2)).val) :
    sout0_A_2 (F := Ideal) c i arg1 harg1 arg2 harg2 arg3 harg3 arg4 harg4 arg5 harg5 arg6 harg6 arg7 harg7 arg8 harg8 arg9 harg9 arg10 harg10 arg11 harg11 hc0 x0 x1 x2 x3 x4 x5 x6 y = (0 : EReal) := by
  unfold sout0_A_2 kernelRun0_A
  dsimp only
  exact (readA2 c arg1 harg1 arg2 harg2 arg3 harg3 arg4 harg4 arg5 harg5 arg9 arg10 x0 x1 x2 x3 x4   VS0_2 _ y).trans (strip_of_not _ _ _ _ _ _ hy)

end

end Cert.Dec

end
-- ==== Proof.DecB.lean ====
module

public import proofs.«01_k».proof.Proof.DecStep

/-! The decoder kernel at a later point: the borders are what the point before left, the three layers run. -/

@[expose] public section

set_option maxRecDepth 16384

namespace Cert.Dec

open Idealize.ShloMosaic Idealize.ShloMosaic.TcCoe
open Cert.DecodeIdeal Cert.DecodeIdeal.Gen

noncomputable section

theorem rowsB0 (c : Dev nD) (arg1 : Memref sig .tc .vmem S1x3136x64 .f32) (harg1 : arg1.IsWhole) (x0 : Vec Ideal S1x3136x64 .f32) : Rows 58 56 (img x0) [] (kernelRun0_B.sl.HS0_56 (F := Ideal) c arg1 harg1 x0) [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by
  repeat (refine Rows.cons (row_q _ _ _ _ _ _ (by decide) (by decide) (by decide) _ _ _ _) ?_)
  exact Rows.base

theorem readB0 (c : Dev nD) (arg1 : Memref sig .tc .vmem S1x3136x64 .f32) (harg1 : arg1.IsWhole) (x0 : Vec Ideal S1x3136x64 .f32) (arg9 : Memref sig .tc .vmem S3488x64 .f32) (harg9 : arg9.IsWhole) (xs0 : Vec Ideal S3488x64 .f32) (hz0 : ∀ y, ¬ Inside 58 56 56 (y (0 : Fin 2)).val → xs0 y = (0 : EReal)) (y : S3488x64.Idx) :
    arg9.view.read (Elt Ideal) (arg9.view.writes (Elt Ideal) (harg9.unread xs0) (kernelRun0_B.sl.HS0_56 (F := Ideal) c arg1 harg1 x0)) y = strip 58 56 56 (img x0) (y (0 : Fin 2)).val (y (1 : Fin 2)).val :=
  rows_read arg9.view _ _ _ _ _ (rowsB0 c arg1 harg1 x0) (by decide) (by decide) (by decide)
    (fun y hy => (congrFun (Memref.IsWhole.read_unread harg9 xs0) y).trans (hz0 y hy)) y

/-- The first layer's word. -/
theorem firstB (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg9 : Memref sig .tc .vmem S3488x64 .f32) (harg9 : arg9.IsWhole) (x0 : Vec Ideal S1x3136x64 .f32) (x1 : Vec Ideal S9x64x128 .f32) (x2 : Vec Ideal S1x128 .f32) (xs0 : Vec Ideal S3488x64 .f32) (hz0 : ∀ y, ¬ Inside 58 56 56 (y (0 : Fin 2)).val → xs0 y = (0 : EReal)) (y x : ℕ) (hy : y < 56) (hx : x < 56) (o : Fin 128) :
    kernelRun0_B.sl.r_5 (F := Ideal) c arg1 harg1 arg2 harg2 arg3 harg3 arg9 harg9 x0 x1 x2 xs0 (ix2 (⟨y * 58 + x, by omega⟩ : Fin 3248) o) = K1 (img x0) x1 x2 y x o.val := by
  refine l1 (img x0) x1 x2 _ _ _ _ _ _ _ _ _ _ _ _ _ _ _ _ _ _ _ ?_ ?_ ?_ ?_ ?_ ?_ ?_ ?_ ?_ ?_ ?_ ?_ ?_ ?_ ?_ ?_ ?_ ?_ ?_ y x hy hx o
  · exact sload _ _ _ (readB0 c arg1 harg1 x0 arg9 harg9 xs0 hz0) 0 _
  · exact sload _ _ _ (readB0 c arg1 harg1 x0 arg9 harg9 xs0 hz0) 1 _
  · exact sload _ _ _ (readB0 c arg1 harg1 x0 arg9 harg9 xs0 hz0) 2 _
  · exact sload _ _ _ (readB0 c arg1 harg1 x0 arg9 harg9 xs0 hz0) 58 _
  · exact sload _ _ _ (readB0 c arg1 harg1 x0 arg9 harg9 xs0 hz0) 59 _
  · exact sload _ _ _ (readB0 c arg1 harg1 x0 arg9 harg9 xs0 hz0) 60 _
  · exact sload _ _ _ (readB0 c arg1 harg1 x0 arg9 harg9 xs0 hz0) 116 _
  · exact sload _ _ _ (readB0 c arg1 harg1 x0 arg9 harg9 xs0 hz0) 117 _
  · exact sload _ _ _ (readB0 c arg1 harg1 x0 arg9 harg9 xs0 hz0) 118 _
  · exact wload arg2 harg2 x1 0 _
  · exact wload arg2 harg2 x1 1 _
  · exact wload arg2 harg2 x1 2 _
  · exact wload arg2 harg2 x1 3 _
  · exact wload arg2 harg2 x1 4 _
  · exact wload arg2 harg2 x1 5 _
  · exact wload arg2 harg2 x1 6 _
  · exact wload arg2 harg2 x1 7 _
  · exact wload arg2 harg2 x1 8 _
  · exact bload arg3 harg3 x2 _

theorem rowsB1 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg9 : Memref sig .tc .vmem S3488x64 .f32) (harg9 : arg9.IsWhole) (x0 : Vec Ideal S1x3136x64 .f32) (x1 : Vec Ideal S9x64x128 .f32) (x2 : Vec Ideal S1x128 .f32) (xs0 : Vec Ideal S3488x64 .f32) (hz0 : ∀ y, ¬ Inside 58 56 56 (y (0 : Fin 2)).val → xs0 y = (0 : EReal)) : Rows 58 56 (K1 (img x0) x1 x2) [] (kernelRun0_B.sl.HS1_56 (F := Ideal) c arg1 harg1 arg2 harg2 arg3 harg3 arg9 harg9 x0 x1 x2 xs0) [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by
  repeat (refine Rows.cons (row_slice _ (kernelRun0_B.sl.r_5 (F := Ideal) c arg1 harg1 arg2 harg2 arg3 harg3 arg9 harg9 x0 x1 x2 xs0) (firstB c arg1 harg1 arg2 harg2 arg3 harg3 arg9 harg9 x0 x1 x2 xs0 hz0) _ _ _ (by decide) (by decide) (by decide) _ (by decide) (by decide)) ?_)
  exact Rows.base

theorem readB1 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg9 : Memref sig .tc .vmem S3488x64 .f32) (harg9 : arg9.IsWhole) (x0 : Vec Ideal S1x3136x64 .f32) (x1 : Vec Ideal S9x64x128 .f32) (x2 : Vec Ideal S1x128 .f32) (xs0 : Vec Ideal S3488x64 .f32) (hz0 : ∀ y, ¬ Inside 58 56 56 (y (0 : Fin 2)).val → xs0 y = (0 : EReal)) (arg10 : Memref sig .tc .vmem S3488x128 .f32) (harg10 : arg10.IsWhole) (xs1 : Vec Ideal S3488x128 .f32) (hz1 : ∀ y, ¬ Inside 58 56 56 (y (0 : Fin 2)).val → xs1 y = (0 : EReal)) (y : S3488x128.Idx) :
    arg10.view.read (Elt Ideal) (arg10.view.writes (Elt Ideal) (harg10.unread xs1) (kernelRun0_B.sl.HS1_56 (F := Ideal) c arg1 harg1 arg2 harg2 arg3 harg3 arg9 harg9 x0 x1 x2 xs0)) y = strip 58 56 56 (K1 (img x0) x1 x2) (y (0 : Fin 2)).val (y (1 : Fin 2)).val :=
  rows_read arg10.view _ _ _ _ _ (rowsB1 c arg1 harg1 arg2 harg2 arg3 harg3 arg9 harg9 x0 x1 x2 xs0 hz0) (by decide) (by decide) (by decide)
    (fun y hy => (congrFun (Memref.IsWhole.read_unread harg10 xs1) y).trans (hz1 y hy)) y

/-- The second layer's even rows. -/
theorem evenB (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (harg9 : arg9.IsWhole) (arg10 : Memref sig .tc .vmem S3488x128 .f32) (harg10 : arg10.IsWhole) (x0 : Vec Ideal S1x3136x64 .f32) (x1 : Vec Ideal S9x64x128 .f32) (x2 : Vec Ideal S1x128 .f32) (x3 : Vec Ideal S16x128x64 .f32) (x4 : Vec Ideal S1x64 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (u : Fin 56) (w : Fin 112) (o : Fin 64) :
    kernelRun0_B.sl.r_10 (F := Ideal) c arg1 harg1 arg2 harg2 arg3 harg3 arg4 harg4 arg5 harg5 arg9 harg9 arg10 harg10 x0 x1 x2 x3 x4 xs0 xs1 (ix3 u w o) = K2 (K1 (img x0) x1 x2) x3 x4 (2 * u.val + 0) w.val o.val := by
  refine interleave _ _ 0 (fun u w o => ?_) (fun u w o => ?_) u w o
  · refine Eq.trans (pay_l2_0x _ _ _ _ _ _ _ _ _ _ u w o) (Eq.trans (pay_l2_00 _ _ _ _ _ _ _ _ _ u w o) ?_)
    refine l2_phase (K1 (img x0) x1 x2) x3 x4 _ _ _ _ _ _ _ _ _ 0 0 0 1 58 59 0 1 2 3 ?_ ?_ ?_ ?_ ?_ ?_ ?_ ?_ ?_ (by decide) (by decide) rfl rfl rfl rfl rfl rfl rfl rfl u w o
    · exact sload _ _ _ (readB1 c arg1 harg1 arg2 harg2 arg3 harg3 arg9 harg9 x0 x1 x2 xs0 hz0 arg10 harg10 xs1 hz1) 0 _
    · exact sload _ _ _ (readB1 c arg1 harg1 arg2 harg2 arg3 harg3 arg9 harg9 x0 x1 x2 xs0 hz0 arg10 harg10 xs1 hz1) 1 _
    · exact sload _ _ _ (readB1 c arg1 harg1 arg2 harg2 arg3 harg3 arg9 harg9 x0 x1 x2 xs0 hz0 arg10 harg10 xs1 hz1) 58 _
    · exact sload _ _ _ (readB1 c arg1 harg1 arg2 harg2 arg3 harg3 arg9 harg9 x0 x1 x2 xs0 hz0 arg10 harg10 xs1 hz1) 59 _
    · exact wload arg4 harg4 x3 0 _
    · exact wload arg4 harg4 x3 1 _
    · exact wload arg4 harg4 x3 2 _
    · exact wload arg4 harg4 x3 3 _
    · exact bload arg5 harg5 x4 _
  · refine Eq.trans (pay_l2_01 _ _ _ _ _ _ _ _ _ _ u w o) ?_
    refine l2_phase (K1 (img x0) x1 x2) x3 x4 _ _ _ _ _ _ _ _ _ 0 1 1 2 59 60 4 5 6 7 ?_ ?_ ?_ ?_ ?_ ?_ ?_ ?_ ?_ (by decide) (by decide) rfl rfl rfl rfl rfl rfl rfl rfl u w o
    · exact sload _ _ _ (readB1 c arg1 harg1 arg2 harg2 arg3 harg3 arg9 harg9 x0 x1 x2 xs0 hz0 arg10 harg10 xs1 hz1) 1 _
    · exact sload _ _ _ (readB1 c arg1 harg1 arg2 harg2 arg3 harg3 arg9 harg9 x0 x1 x2 xs0 hz0 arg10 harg10 xs1 hz1) 2 _
    · exact sload _ _ _ (readB1 c arg1 harg1 arg2 harg2 arg3 harg3 arg9 harg9 x0 x1 x2 xs0 hz0 arg10 harg10 xs1 hz1) 59 _
    · exact sload _ _ _ (readB1 c arg1 harg1 arg2 harg2 arg3 harg3 arg9 harg9 x0 x1 x2 xs0 hz0 arg10 harg10 xs1 hz1) 60 _
    · exact wload arg4 harg4 x3 4 _
    · exact wload arg4 harg4 x3 5 _
    · exact wload arg4 harg4 x3 6 _
    · exact wload arg4 harg4 x3 7 _
    · exact bload arg5 harg5 x4 _

/-- The second layer's odd rows. -/
theorem oddB (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (harg9 : arg9.IsWhole) (arg10 : Memref sig .tc .vmem S3488x128 .f32) (harg10 : arg10.IsWhole) (x0 : Vec Ideal S1x3136x64 .f32) (x1 : Vec Ideal S9x64x128 .f32) (x2 : Vec Ideal S1x128 .f32) (x3 : Vec Ideal S16x128x64 .f32) (x4 : Vec Ideal S1x64 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (u : Fin 56) (w : Fin 112) (o : Fin 64) :
    kernelRun0_B.sl.r_16 (F := Ideal) c arg1 harg1 arg2 harg2 arg3 harg3 arg4 harg4 arg5 harg5 arg9 harg9 arg10 harg10 x0 x1 x2 x3 x4 xs0 xs1 (ix3 u w o) = K2 (K1 (img x0) x1 x2) x3 x4 (2 * u.val + 1) w.val o.val := by
  refine interleave _ _ 1 (fun u w o => ?_) (fun u w o => ?_) u w o
  · refine Eq.trans (pay_l2_1x _ _ u w o) (Eq.trans (pay_l2_10 _ _ _ _ _ _ _ _ _ u w o) ?_)
    refine l2_phase (K1 (img x0) x1 x2) x3 x4 _ _ _ _ _ _ _ _ _ 1 0 58 59 116 117 8 9 10 11 ?_ ?_ ?_ ?_ ?_ ?_ ?_ ?_ ?_ (by decide) (by decide) rfl rfl rfl rfl rfl rfl rfl rfl u w o
    · exact sload _ _ _ (readB1 c arg1 harg1 arg2 harg2 arg3 harg3 arg9 harg9 x0 x1 x2 xs0 hz0 arg10 harg10 xs1 hz1) 58 _
    · exact sload _ _ _ (readB1 c arg1 harg1 arg2 harg2 arg3 harg3 arg9 harg9 x0 x1 x2 xs0 hz0 arg10 harg10 xs1 hz1) 59 _
    · exact sload _ _ _ (readB1 c arg1 harg1 arg2 harg2 arg3 harg3 arg9 harg9 x0 x1 x2 xs0 hz0 arg10 harg10 xs1 hz1) 116 _
    · exact sload _ _ _ (readB1 c arg1 harg1 arg2 harg2 arg3 harg3 arg9 harg9 x0 x1 x2 xs0 hz0 arg10 harg10 xs1 hz1) 117 _
    · exact wload arg4 harg4 x3 8 _
    · exact wload arg4 harg4 x3 9 _
    · exact wload arg4 harg4 x3 10 _
    · exact wload arg4 harg4 x3 11 _
    · exact bload arg5 harg5 x4 _
  · refine Eq.trans (pay_l2_11 _ _ _ _ _ _ _ _ _ _ u w o) ?_
    refine l2_phase (K1 (img x0) x1 x2) x3 x4 _ _ _ _ _ _ _ _ _ 1 1 59 60 117 118 12 13 14 15 ?_ ?_ ?_ ?_ ?_ ?_ ?_ ?_ ?_ (by decide) (by decide) rfl rfl rfl rfl rfl rfl rfl rfl u w o
    · exact sload _ _ _ (readB1 c arg1 harg1 arg2 harg2 arg3 harg3 arg9 harg9 x0 x1 x2 xs0 hz0 arg10 harg10 xs1 hz1) 59 _
    · exact sload _ _ _ (readB1 c arg1 harg1 arg2 harg2 arg3 harg3 arg9 harg9 x0 x1 x2 xs0 hz0 arg10 harg10 xs1 hz1) 60 _
    · exact sload _ _ _ (readB1 c arg1 harg1 arg2 harg2 arg3 harg3 arg9 harg9 x0 x1 x2 xs0 hz0 arg10 harg10 xs1 hz1) 117 _
    · exact sload _ _ _ (readB1 c arg1 harg1 arg2 harg2 arg3 harg3 arg9 harg9 x0 x1 x2 xs0 hz0 arg10 harg10 xs1 hz1) 118 _
    · exact wload arg4 harg4 x3 12 _
    · exact wload arg4 harg4 x3 13 _
    · exact wload arg4 harg4 x3 14 _
    · exact wload arg4 harg4 x3 15 _
    · exact bload arg5 harg5 x4 _

theorem rowsB2 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (harg9 : arg9.IsWhole) (arg10 : Memref sig .tc .vmem S3488x128 .f32) (harg10 : arg10.IsWhole) (x0 : Vec Ideal S1x3136x64 .f32) (x1 : Vec Ideal S9x64x128 .f32) (x2 : Vec Ideal S1x128 .f32) (x3 : Vec Ideal S16x128x64 .f32) (x4 : Vec Ideal S1x64 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) : Rows 114 112 (K2 (K1 (img x0) x1 x2) x3 x4) [] (kernelRun0_B.sl.HS2_112 (F := Ideal) c arg1 harg1 arg2 harg2 arg3 harg3 arg4 harg4 arg5 harg5 arg9 harg9 arg10 harg10 x0 x1 x2 x3 x4 xs0 xs1) [111, 109, 107, 105, 103, 101, 99, 97, 95, 93, 91, 89, 87, 85, 83, 81, 79, 77, 75, 73, 71, 69, 67, 65, 63, 61, 59, 57, 55, 53, 51, 49, 47, 45, 43, 41, 39, 37, 35, 33, 31, 29, 27, 25, 23, 21, 19, 17, 15, 13, 11, 9, 7, 5, 3, 1, 110, 108, 106, 104, 102, 100, 98, 96, 94, 92, 90, 88, 86, 84, 82, 80, 78, 76, 74, 72, 70, 68, 66, 64, 62, 60, 58, 56, 54, 52, 50, 48, 46, 44, 42, 40, 38, 36, 34, 32, 30, 28, 26, 24, 22, 20, 18, 16, 14, 12, 10, 8, 6, 4, 2, 0] := by
  iterate 56 (refine Rows.cons (row_inter _ (kernelRun0_B.sl.r_16 (F := Ideal) c arg1 harg1 arg2 harg2 arg3 harg3 arg4 harg4 arg5 harg5 arg9 harg9 arg10 harg10 x0 x1 x2 x3 x4 xs0 xs1) 1 (oddB c arg1 harg1 arg2 harg2 arg3 harg3 arg4 harg4 arg5 harg5 arg9 harg9 arg10 harg10 x0 x1 x2 x3 x4 xs0 hz0 xs1 hz1) _ _ _ (by decide) (by decide) (by decide) _ (by decide) (by decide) (by decide)) ?_)
  iterate 56 (refine Rows.cons (row_inter _ (kernelRun0_B.sl.r_10 (F := Ideal) c arg1 harg1 arg2 harg2 arg3 harg3 arg4 harg4 arg5 harg5 arg9 harg9 arg10 harg10 x0 x1 x2 x3 x4 xs0 xs1) 0 (evenB c arg1 harg1 arg2 harg2 arg3 harg3 arg4 harg4 arg5 harg5 arg9 harg9 arg10 harg10 x0 x1 x2 x3 x4 xs0 hz0 xs1 hz1) _ _ _ (by decide) (by decide) (by decide) _ (by decide) (by decide) (by decide)) ?_)
  exact Rows.base

theorem readB2 (c : Dev nD) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg9 : Memref sig .tc .vmem S3488x64 .f32) (harg9 : arg9.IsWhole) (arg10 : Memref sig .tc .vmem S3488x128 .f32) (harg10 : arg10.IsWhole) (x0 : Vec Ideal S1x3136x64 .f32) (x1 : Vec Ideal S9x64x128 .f32) (x2 : Vec Ideal S1x128 .f32) (x3 : Vec Ideal S16x128x64 .f32) (x4 : Vec Ideal S1x64 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (arg11 : Memref sig .tc .vmem S13232x64 .f32) (harg11 : arg11.IsWhole) (xs2 : Vec Ideal S13232x64 .f32) (hz2 : ∀ y, ¬ Inside 114 112 112 (y (0 : Fin 2)).val → xs2 y = (0 : EReal)) (y : S13232x64.Idx) :
    arg11.view.read (Elt Ideal) (arg11.view.writes (Elt Ideal) (harg11.unread xs2) (kernelRun0_B.sl.HS2_112 (F := Ideal) c arg1 harg1 arg2 harg2 arg3 harg3 arg4 harg4 arg5 harg5 arg9 harg9 arg10 harg10 x0 x1 x2 x3 x4 xs0 xs1)) y = strip 114 112 112 (K2 (K1 (img x0) x1 x2) x3 x4) (y (0 : Fin 2)).val (y (1 : Fin 2)).val :=
  rows_read arg11.view _ _ _ _ _ (rowsB2 c arg1 harg1 arg2 harg2 arg3 harg3 arg4 harg4 arg5 harg5 arg9 harg9 arg10 harg10 x0 x1 x2 x3 x4 xs0 hz0 xs1 hz1) (by decide) (by decide) (by decide)
    (fun y hy => (congrFun (Memref.IsWhole.read_unread harg11 xs2) y).trans (hz2 y hy)) y

-- RUN
/-- What the point stores is the third layer. -/
theorem outB (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (xs2 : Vec Ideal S13232x64 .f32) (hz2 : ∀ y, ¬ Inside 114 112 112 (y (0 : Fin 2)).val → xs2 y = (0 : EReal)) (y x : ℕ) (hy : y < 112) (hx : x < 112) (o : Fin 12) :
    out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2 (ix3 0 (⟨y * 114 + x, by omega⟩ : Fin 12768) o) = K3 (K2 (K1 (img x0) x1 x2) x3 x4) x5 x6 y x o.val := by
  unfold out0_B_7 kernelRun0_B
  dsimp only
  refine Eq.trans (store_whole VO0_7 _ _ _ _) ?_
  refine l3 (K2 (K1 (img x0) x1 x2) x3 x4) x5 x6 _ _ _ _ _ _ _ _ _ _ _ _ _ _ _ _ _ _ _ ?_ ?_ ?_ ?_ ?_ ?_ ?_ ?_ ?_ ?_ ?_ ?_ ?_ ?_ ?_ ?_ ?_ ?_ ?_ y x hy hx o
  · exact sload _ _ _ (readB2 c arg1 harg1 arg2 harg2 arg3 harg3 arg4 harg4 arg5 harg5 arg9 harg9 arg10 harg10 x0 x1 x2 x3 x4 xs0 hz0 xs1 hz1 arg11 harg11 xs2 hz2) 0 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 1 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 2 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 114 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 115 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 116 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 228 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 229 _
  · exact sload _ _ _ (readB2 c arg1 harg1 arg2 harg2 arg3 harg3 arg4 harg4 arg5 harg5 arg9 harg9 arg10 harg10 x0 x1 x2 x3 x4 xs0 hz0 xs1 hz1 arg11 harg11 xs2 hz2) 230 _
  · exact wload arg6 harg6 x5 0 _
  · exact wload arg6 harg6 x5 1 _
  · exact wload arg6 harg6 x5 2 _
  · exact wload arg6 harg6 x5 3 _
  · exact wload arg6 harg6 x5 4 _
  · exact wload arg6 harg6 x5 5 _
  · exact wload arg6 harg6 x5 6 _
  · exact wload arg6 harg6 x5 7 _
  · exact wload arg6 harg6 x5 8 _
  · exact bload arg7 harg7 x6 _

/-- Scratch 0 keeps a border of zeros. -/
theorem borderB0 (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (xs2 : Vec Ideal S13232x64 .f32) (hz2 : ∀ y, ¬ Inside 114 112 112 (y (0 : Fin 2)).val → xs2 y = (0 : EReal)) (y : S3488x64.Idx) (hy : ¬ Inside 58 56 56 (y (0 : Fin 2)).val) :
    sout0_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2 y = (0 : EReal) := by
  unfold sout0_B_0 kernelRun0_B
  dsimp only
  exact (readB0 c arg1 harg1 x0 arg9 harg9 xs0 hz0 y).trans (strip_of_not _ _ _ _ _ _ hy)

/-- Scratch 1 keeps a border of zeros. -/
theorem borderB1 (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (xs2 : Vec Ideal S13232x64 .f32) (hz2 : ∀ y, ¬ Inside 114 112 112 (y (0 : Fin 2)).val → xs2 y = (0 : EReal)) (y : S3488x128.Idx) (hy : ¬ Inside 58 56 56 (y (0 : Fin 2)).val) :
    sout0_B_1 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2 y = (0 : EReal) := by
  unfold sout0_B_1 kernelRun0_B
  dsimp only
  exact (readB1 c arg1 harg1 arg2 harg2 arg3 harg3 arg9 harg9 x0 x1 x2 xs0 hz0 arg10 harg10 xs1 hz1 y).trans (strip_of_not _ _ _ _ _ _ hy)

/-- Scratch 2 keeps a border of zeros. -/
theorem borderB2 (c : Dev nD) (i : grid0.Coords) (arg1 : Memref sig .tc .vmem S1x3136x64 .f32) (harg1 : arg1.IsWhole) (arg2 : Memref sig .tc .vmem S9x64x128 .f32) (harg2 : arg2.IsWhole) (arg3 : Memref sig .tc .vmem S1x128 .f32) (harg3 : arg3.IsWhole) (arg4 : Memref sig .tc .vmem S16x128x64 .f32) (harg4 : arg4.IsWhole) (arg5 : Memref sig .tc .vmem S1x64 .f32) (harg5 : arg5.IsWhole) (arg6 : Memref sig .tc .vmem S9x64x12 .f32) (harg6 : arg6.IsWhole) (arg7 : Memref sig .tc .vmem S1x12 .f32) (harg7 : arg7.IsWhole) (arg8 : Memref sig .tc .vmem S1x12768x12 .f32) (harg8 : arg8.IsWhole) (arg9 : Memref sig .tc .vmem S3488x64 .f32) (harg9 : arg9.IsWhole) (arg10 : Memref sig .tc .vmem S3488x128 .f32) (harg10 : arg10.IsWhole) (arg11 : Memref sig .tc .vmem S13232x64 .f32) (harg11 : arg11.IsWhole) (hc0 : _) (x0 : Vec Ideal S1x3136x64 .f32) (x1 : Vec Ideal S9x64x128 .f32) (x2 : Vec Ideal S1x128 .f32) (x3 : Vec Ideal S16x128x64 .f32) (x4 : Vec Ideal S1x64 .f32) (x5 : Vec Ideal S9x64x12 .f32) (x6 : Vec Ideal S1x12 .f32) (xs0 : Vec Ideal S3488x64 .f32) (hz0 : ∀ y, ¬ Inside 58 56 56 (y (0 : Fin 2)).val → xs0 y = (0 : EReal)) (xs1 : Vec Ideal S3488x128 .f32) (hz1 : ∀ y, ¬ Inside 58 56 56 (y (0 : Fin 2)).val → xs1 y = (0 : EReal)) (xs2 : Vec Ideal S13232x64 .f32) (hz2 : ∀ y, ¬ Inside 114 112 112 (y (0 : Fin 2)).val → xs2 y = (0 : EReal)) (y : S13232x64.Idx) (hy : ¬ Inside 114 112 112 (y (0 : Fin 2)).val) :
    sout0_B_2 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2 y = (0 : EReal) := by
  unfold sout0_B_2 kernelRun0_B
  dsimp only
  exact (readB2 c arg1 harg1 arg2 harg2 arg3 harg3 arg4 harg4 arg5 harg5 arg9 harg9 arg10 harg10 x0 x1 x2 x3 x4 xs0 hz0 xs1 hz1 arg11 harg11 xs2 hz2 y).trans (strip_of_not _ _ _ _ _ _ hy)

end

end Cert.Dec

end
-- ==== Proof.DecRun.lean ====
module

public import proofs.«01_k».proof.Proof.DecA
public import proofs.«01_k».proof.Proof.DecB
public import Idealize.ShloMosaic.Lib.Pipeline.ReadBack

/-! The decoder kernel over its grid: what each point leaves, and the array it ends with. -/

@[expose] public section

set_option maxRecDepth 16384

namespace Cert.Dec

open Idealize.ShloMosaic Idealize.ShloMosaic.TcCoe
open Cert.DecodeIdeal Cert.DecodeIdeal.Gen

noncomputable section

variable (m : (ℓ : Loc nD τ sig) → Buf (Elt Ideal) ℓ) (c : Dev nD)

/-- The scratches have borders of zeros. -/
def Borders (s : Vec Ideal S1x12768x12 .f32 × Vec Ideal S3488x64 .f32 × Vec Ideal S3488x128 .f32 × Vec Ideal S13232x64 .f32) : Prop :=
  (∀ y, ¬ Inside 58 56 56 (y (0 : Fin 2)).val → s.2.1 y = (0 : EReal)) ∧
  (∀ y, ¬ Inside 58 56 56 (y (0 : Fin 2)).val → s.2.2.1 y = (0 : EReal)) ∧
  (∀ y, ¬ Inside 114 112 112 (y (0 : Fin 2)).val → s.2.2.2 y = (0 : EReal))

theorem Borders.mk' {a : Vec Ideal S1x12768x12 .f32 × Vec Ideal S3488x64 .f32 × Vec Ideal S3488x128 .f32 × Vec Ideal S13232x64 .f32} {X Y Z W} (e : a = (X, Y, Z, W))
    (h0 : ∀ y, ¬ Inside 58 56 56 (y (0 : Fin 2)).val → Y y = (0 : EReal)) (h1 : ∀ y, ¬ Inside 58 56 56 (y (0 : Fin 2)).val → Z y = (0 : EReal))
    (h2 : ∀ y, ¬ Inside 114 112 112 (y (0 : Fin 2)).val → W y = (0 : EReal)) : Borders a := by
  rw [e]; exact ⟨h0, h1, h2⟩

theorem fst_eq {a : Vec Ideal S1x12768x12 .f32 × Vec Ideal S3488x64 .f32 × Vec Ideal S3488x128 .f32 × Vec Ideal S13232x64 .f32} {X Y Z W} (e : a = (X, Y, Z, W)) {i}
    {v : EReal} (h : X i = v) : a.1 i = v := by
  rw [e]; exact h

theorem bordersA (t : Fin cfg0.N) (h0 : t.val % 4 = 0) : Borders (outsAt0 m c t.val t.isLt) := by
  refine Borders.mk' (outsAt0_A m c t h0) ?_ ?_ ?_
  · intro y hy
    exact borderA0 _ _ _ _ _ _ _ _ _ _ _ _ _ _ _ _ _ _ _ _ _ _ _ _ _ _ _ _ _ _ _ _ y hy
  · intro y hy
    exact borderA1 _ _ _ _ _ _ _ _ _ _ _ _ _ _ _ _ _ _ _ _ _ _ _ _ _ _ _ _ _ _ _ _ y hy
  · intro y hy
    exact borderA2 _ _ _ _ _ _ _ _ _ _ _ _ _ _ _ _ _ _ _ _ _ _ _ _ _ _ _ _ _ _ _ _ y hy

theorem bordersB (t : Fin cfg0.N) (h0 : ¬t.val % 4 = 0) (h : Borders (outsAt0 m c (t.val - 1) (Nat.lt_of_le_of_lt (Nat.sub_le _ _) t.isLt))) :
    Borders (outsAt0 m c t.val t.isLt) := by
  refine Borders.mk' (outsAt0_B m c t h0) ?_ ?_ ?_
  · intro y hy
    exact borderB0 _ _ _ _ _ _ _ _ _ _ _ _ _ _ _ _ _ _ _ _ _ _ _ _ _ _ _ _ _ _ _ _ _ h.1 _ h.2.1 _ h.2.2 y hy
  · intro y hy
    exact borderB1 _ _ _ _ _ _ _ _ _ _ _ _ _ _ _ _ _ _ _ _ _ _ _ _ _ _ _ _ _ _ _ _ _ h.1 _ h.2.1 _ h.2.2 y hy
  · intro y hy
    exact borderB2 _ _ _ _ _ _ _ _ _ _ _ _ _ _ _ _ _ _ _ _ _ _ _ _ _ _ _ _ _ _ _ _ _ h.1 _ h.2.1 _ h.2.2 y hy

theorem borders (n : ℕ) (hn : n < cfg0.N) : Borders (outsAt0 m c n hn) := by
  induction n with
  | zero => exact bordersA m c ⟨0, hn⟩ (Nat.zero_mod _)
  | succ n ih =>
    have hN : n + 1 < 4 := lt_of_lt_of_eq hn (show cfg0.N = 4 from N_0)
    exact bordersB m c ⟨n + 1, hn⟩ (by simp only; omega) (ih (Nat.lt_of_succ_lt hn))

/-- What a point stores. -/
theorem point (t : Fin cfg0.N) (y x : ℕ) (hy : y < 112) (hx : x < 112) (o : Fin 12) :
    (outsAt0 m c t.val t.isLt).1 (ix3 0 (⟨y * 114 + x, by omega⟩ : Fin 12768) o)
      = K3 (K2 (K1 (img (iblk m c 0 t)) (iblk m c 1 t) (iblk m c 2 t)) (iblk m c 3 t) (iblk m c 4 t)) (iblk m c 5 t) (iblk m c 6 t) y x o.val := by
  by_cases h0 : t.val % 4 = 0
  · refine fst_eq (outsAt0_A m c t h0) ?_
    exact outA _ _ _ _ _ _ _ _ _ _ _ _ _ _ _ _ _ _ _ _ _ _ _ _ _ _ _ _ _ _ _ _ y x hy hx o
  · have h := borders m c (t.val - 1) (Nat.lt_of_le_of_lt (Nat.sub_le _ _) t.isLt)
    refine fst_eq (outsAt0_B m c t h0) ?_
    exact outB _ _ _ _ _ _ _ _ _ _ _ _ _ _ _ _ _ _ _ _ _ _ _ _ _ _ _ _ _ _ _ _ _ h.1 _ h.2.1 _ h.2.2 y x hy hx o

theorem idx : ∀ t : Fin cfg0.N, win0_0.index t = ![t.val, 0, 0] ∧ win0_1.index t = ![0, 0, 0] ∧ win0_2.index t = ![0, 0] ∧ win0_3.index t = ![0, 0, 0]
    ∧ win0_4.index t = ![0, 0] ∧ win0_5.index t = ![0, 0, 0] ∧ win0_6.index t = ![0, 0] ∧ win0_7.index t = ![t.val, 0, 0] :=
  (by decide +kernel : ∀ t : Fin grid0.N, _)

theorem blk0 (t : Fin cfg0.N) (r : Fin 3136) (d : Fin 64) : iblk m c 0 t (ix3 0 r d) = V m c main_v1 (ix3 (t.cast N_0) r d) := by
  blk_ext [iblk, idx t]
  exact Nat.add_zero _

theorem blk1 (t : Fin cfg0.N) (r : Fin 9) (d : Fin 64) (o : Fin 128) : iblk m c 1 t (ix3 r d o) = V m c main_v3 (ix3 r d o) := by
  blk_ext [iblk, idx t]
theorem blk2 (t : Fin cfg0.N) (o : Fin 128) : iblk m c 2 t (ix2 0 o) = V m c main_v150 (ix2 0 o) := by
  blk_ext [iblk, idx t]
theorem blk3 (t : Fin cfg0.N) (r : Fin 16) (d : Fin 128) (o : Fin 64) : iblk m c 3 t (ix3 r d o) = V m c main_v52 (ix3 r d o) := by
  blk_ext [iblk, idx t]
theorem blk4 (t : Fin cfg0.N) (o : Fin 64) : iblk m c 4 t (ix2 0 o) = V m c main_v151 (ix2 0 o) := by
  blk_ext [iblk, idx t]
theorem blk5 (t : Fin cfg0.N) (r : Fin 9) (d : Fin 64) (o : Fin 12) : iblk m c 5 t (ix3 r d o) = V m c main_v149 (ix3 r d o) := by
  blk_ext [iblk, idx t]
theorem blk6 (t : Fin cfg0.N) (o : Fin 12) : iblk m c 6 t (ix2 0 o) = V m c main_v155 (ix2 0 o) := by
  blk_ext [iblk, idx t]

end

end Cert.Dec

end
-- ==== Proof.DecRef.lean ====
/-
  The reference of the decoder: its three layers, its run, and its result at an index.
-/
module

public import proofs.«01_k».proof.Proof.DecSpec
public import proofs.«01_k».proof.Proof.Gen.RefDecodeIdeal
public import Idealize.ShloMosaic.Adequacy
public import Idealize.ShloMosaic.Init

@[expose] public section

set_option maxRecDepth 16384

noncomputable section

namespace Cert.DecRef

open Idealize.ShloMosaic Idealize.SL.Sem
open Cert.RefDecodeIdeal Cert.RefDecodeIdeal.Gen

/-- The padded input of the convolution. -/
def padded1 (x : FVec Ideal S4x64x56x56 .f32) : FVec Ideal S4x64x58x58 .f32 :=
  pad S4x64x58x58 ![0, 0, 1, 1] ![0, 0, 1, 1] ![0, 0, 0, 0] x (constant (F := Ideal) S_ .f32 0x00000000#32) pads_S4x64x56x56_S4x64x58x58_000_000_110_110 h_S_

/-- One tap of the convolution. -/
def tap1 (p : FVec Ideal S4x64x58x58 .f32) (w : FVec Ideal S128x64x3x3 .f32) (o o' : Fin 4 → ℕ) (h : S4x64x58x58.Slices o S4x64x56x56) (h' : S128x64x3x3.Slices o' S128x64x1x1) :
    FVec Ideal S4x128x56x56 .f32 :=
  transpose S4x128x56x56 [1, 0, 2, 3]
    (Host.dotGeneral dot_S128x64_S4x64x56x56_S128x4x56x56_1_1_0_023_n_n none
      (shapeCast S128x64 (extractStridedSlice S128x64x1x1 o' w h') shapeCasts_S128x64x1x1_S128x64) (extractStridedSlice S4x64x56x56 o p h))
    transposes_S128x4x56x56_S4x128x56x56_1_0_2_3

/-- The convolution. -/
def layer1 (x : FVec Ideal S4x64x56x56 .f32) (w : FVec Ideal S128x64x3x3 .f32) (b : FVec Ideal S128 .f32) : FVec Ideal S4x128x56x56 .f32 :=
  addf (addf (addf (addf (addf (addf (addf (addf (addf (addf (broadcastInDim S4x128x56x56 ![] bcast_S_S4x128x56x56 (constant (F := Ideal) S_ .f32 0x00000000#32))
      (tap1 (padded1 x) w ![0, 0, 0, 0] ![0, 0, 0, 0] slices_S4x64x58x58_S4x64x56x56_0_0_0_0 slices_S128x64x3x3_S128x64x1x1_0_0_0_0))
      (tap1 (padded1 x) w ![0, 0, 0, 1] ![0, 0, 0, 1] slices_S4x64x58x58_S4x64x56x56_0_0_0_1 slices_S128x64x3x3_S128x64x1x1_0_0_0_1))
      (tap1 (padded1 x) w ![0, 0, 0, 2] ![0, 0, 0, 2] slices_S4x64x58x58_S4x64x56x56_0_0_0_2 slices_S128x64x3x3_S128x64x1x1_0_0_0_2))
      (tap1 (padded1 x) w ![0, 0, 1, 0] ![0, 0, 1, 0] slices_S4x64x58x58_S4x64x56x56_0_0_1_0 slices_S128x64x3x3_S128x64x1x1_0_0_1_0))
      (tap1 (padded1 x) w ![0, 0, 1, 1] ![0, 0, 1, 1] slices_S4x64x58x58_S4x64x56x56_0_0_1_1 slices_S128x64x3x3_S128x64x1x1_0_0_1_1))
      (tap1 (padded1 x) w ![0, 0, 1, 2] ![0, 0, 1, 2] slices_S4x64x58x58_S4x64x56x56_0_0_1_2 slices_S128x64x3x3_S128x64x1x1_0_0_1_2))
      (tap1 (padded1 x) w ![0, 0, 2, 0] ![0, 0, 2, 0] slices_S4x64x58x58_S4x64x56x56_0_0_2_0 slices_S128x64x3x3_S128x64x1x1_0_0_2_0))
      (tap1 (padded1 x) w ![0, 0, 2, 1] ![0, 0, 2, 1] slices_S4x64x58x58_S4x64x56x56_0_0_2_1 slices_S128x64x3x3_S128x64x1x1_0_0_2_1))
      (tap1 (padded1 x) w ![0, 0, 2, 2] ![0, 0, 2, 2] slices_S4x64x58x58_S4x64x56x56_0_0_2_2 slices_S128x64x3x3_S128x64x1x1_0_0_2_2))
    (broadcastInDim S4x128x56x56 ![0, 1, 2, 3] bcast_S1x128x1x1_S4x128x56x56_0_1_2_3 (broadcastInDim S1x128x1x1 ![1] bcast_S128_S1x128x1x1_1 b))

/-- The positive part after the convolution. -/
def act1 (x : FVec Ideal S4x128x56x56 .f32) : FVec Ideal S4x128x56x56 .f32 :=
  maximumf x (broadcastInDim S4x128x56x56 ![] bcast_S_S4x128x56x56 (constant (F := Ideal) S_ .f32 0x00000000#32))

/-- The padded input of the first transposed convolution. -/
def padded2 (x : FVec Ideal S4x128x56x56 .f32) : FVec Ideal S4x128x115x115 .f32 :=
  pad S4x128x115x115 ![0, 0, 2, 2] ![0, 0, 2, 2] ![0, 0, 1, 1] x (constant (F := Ideal) S_ .f32 0x00000000#32) pads_S4x128x56x56_S4x128x115x115_000_000_221_221 h_S_

/-- One tap of the first transposed convolution. -/
def tap2 (p : FVec Ideal S4x128x115x115 .f32) (w : FVec Ideal S128x64x4x4 .f32) (o o' : Fin 4 → ℕ) (h : S4x128x115x115.Slices o S4x128x112x112) (h' : S128x64x4x4.Slices o' S128x64x1x1) :
    FVec Ideal S4x64x112x112 .f32 :=
  transpose S4x64x112x112 [1, 0, 2, 3]
    (Host.dotGeneral dot_S128x64_S4x128x112x112_S64x4x112x112_0_1_1_023_n_n none
      (shapeCast S128x64 (extractStridedSlice S128x64x1x1 o' w h') shapeCasts_S128x64x1x1_S128x64) (extractStridedSlice S4x128x112x112 o p h))
    transposes_S64x4x112x112_S4x64x112x112_1_0_2_3

/-- The first transposed convolution. -/
def layer2 (x : FVec Ideal S4x128x56x56 .f32) (w : FVec Ideal S128x64x4x4 .f32) (b : FVec Ideal S64 .f32) : FVec Ideal S4x64x112x112 .f32 :=
  addf (addf (addf (addf (addf (addf (addf (addf (addf (addf (addf (addf (addf (addf (addf (addf (addf (broadcastInDim S4x64x112x112 ![] bcast_S_S4x64x112x112 (constant (F := Ideal) S_ .f32 0x00000000#32))
      (tap2 (padded2 x) w ![0, 0, 0, 0] ![0, 0, 3, 3] slices_S4x128x115x115_S4x128x112x112_0_0_0_0 slices_S128x64x4x4_S128x64x1x1_0_0_3_3))
      (tap2 (padded2 x) w ![0, 0, 0, 1] ![0, 0, 3, 2] slices_S4x128x115x115_S4x128x112x112_0_0_0_1 slices_S128x64x4x4_S128x64x1x1_0_0_3_2))
      (tap2 (padded2 x) w ![0, 0, 0, 2] ![0, 0, 3, 1] slices_S4x128x115x115_S4x128x112x112_0_0_0_2 slices_S128x64x4x4_S128x64x1x1_0_0_3_1))
      (tap2 (padded2 x) w ![0, 0, 0, 3] ![0, 0, 3, 0] slices_S4x128x115x115_S4x128x112x112_0_0_0_3 slices_S128x64x4x4_S128x64x1x1_0_0_3_0))
      (tap2 (padded2 x) w ![0, 0, 1, 0] ![0, 0, 2, 3] slices_S4x128x115x115_S4x128x112x112_0_0_1_0 slices_S128x64x4x4_S128x64x1x1_0_0_2_3))
      (tap2 (padded2 x) w ![0, 0, 1, 1] ![0, 0, 2, 2] slices_S4x128x115x115_S4x128x112x112_0_0_1_1 slices_S128x64x4x4_S128x64x1x1_0_0_2_2))
      (tap2 (padded2 x) w ![0, 0, 1, 2] ![0, 0, 2, 1] slices_S4x128x115x115_S4x128x112x112_0_0_1_2 slices_S128x64x4x4_S128x64x1x1_0_0_2_1))
      (tap2 (padded2 x) w ![0, 0, 1, 3] ![0, 0, 2, 0] slices_S4x128x115x115_S4x128x112x112_0_0_1_3 slices_S128x64x4x4_S128x64x1x1_0_0_2_0))
      (tap2 (padded2 x) w ![0, 0, 2, 0] ![0, 0, 1, 3] slices_S4x128x115x115_S4x128x112x112_0_0_2_0 slices_S128x64x4x4_S128x64x1x1_0_0_1_3))
      (tap2 (padded2 x) w ![0, 0, 2, 1] ![0, 0, 1, 2] slices_S4x128x115x115_S4x128x112x112_0_0_2_1 slices_S128x64x4x4_S128x64x1x1_0_0_1_2))
      (tap2 (padded2 x) w ![0, 0, 2, 2] ![0, 0, 1, 1] slices_S4x128x115x115_S4x128x112x112_0_0_2_2 slices_S128x64x4x4_S128x64x1x1_0_0_1_1))
      (tap2 (padded2 x) w ![0, 0, 2, 3] ![0, 0, 1, 0] slices_S4x128x115x115_S4x128x112x112_0_0_2_3 slices_S128x64x4x4_S128x64x1x1_0_0_1_0))
      (tap2 (padded2 x) w ![0, 0, 3, 0] ![0, 0, 0, 3] slices_S4x128x115x115_S4x128x112x112_0_0_3_0 slices_S128x64x4x4_S128x64x1x1_0_0_0_3))
      (tap2 (padded2 x) w ![0, 0, 3, 1] ![0, 0, 0, 2] slices_S4x128x115x115_S4x128x112x112_0_0_3_1 slices_S128x64x4x4_S128x64x1x1_0_0_0_2))
      (tap2 (padded2 x) w ![0, 0, 3, 2] ![0, 0, 0, 1] slices_S4x128x115x115_S4x128x112x112_0_0_3_2 slices_S128x64x4x4_S128x64x1x1_0_0_0_1))
      (tap2 (padded2 x) w ![0, 0, 3, 3] ![0, 0, 0, 0] slices_S4x128x115x115_S4x128x112x112_0_0_3_3 slices_S128x64x4x4_S128x64x1x1_0_0_0_0))
    (broadcastInDim S4x64x112x112 ![0, 1, 2, 3] bcast_S1x64x1x1_S4x64x112x112_0_1_2_3 (broadcastInDim S1x64x1x1 ![1] bcast_S64_S1x64x1x1_1 b))

/-- The positive part after the first transposed convolution. -/
def act2 (x : FVec Ideal S4x64x112x112 .f32) : FVec Ideal S4x64x112x112 .f32 :=
  maximumf x (broadcastInDim S4x64x112x112 ![] bcast_S_S4x64x112x112 (constant (F := Ideal) S_ .f32 0x00000000#32))

/-- The padded input of the second transposed convolution. -/
def padded3 (x : FVec Ideal S4x64x112x112 .f32) : FVec Ideal S4x64x227x227 .f32 :=
  pad S4x64x227x227 ![0, 0, 2, 2] ![0, 0, 2, 2] ![0, 0, 1, 1] x (constant (F := Ideal) S_ .f32 0x00000000#32) pads_S4x64x112x112_S4x64x227x227_000_000_221_221 h_S_

/-- One tap of the second transposed convolution. -/
def tap3 (p : FVec Ideal S4x64x227x227 .f32) (w : FVec Ideal S64x3x4x4 .f32) (o o' : Fin 4 → ℕ) (h : S4x64x227x227.Slices o S4x64x224x224) (h' : S64x3x4x4.Slices o' S64x3x1x1) :
    FVec Ideal S4x3x224x224 .f32 :=
  transpose S4x3x224x224 [1, 0, 2, 3]
    (Host.dotGeneral dot_S64x3_S4x64x224x224_S3x4x224x224_0_1_1_023_n_n none
      (shapeCast S64x3 (extractStridedSlice S64x3x1x1 o' w h') shapeCasts_S64x3x1x1_S64x3) (extractStridedSlice S4x64x224x224 o p h))
    transposes_S3x4x224x224_S4x3x224x224_1_0_2_3

/-- The second transposed convolution. -/
def layer3 (x : FVec Ideal S4x64x112x112 .f32) (w : FVec Ideal S64x3x4x4 .f32) (b : FVec Ideal S3 .f32) : FVec Ideal S4x3x224x224 .f32 :=
  addf (addf (addf (addf (addf (addf (addf (addf (addf (addf (addf (addf (addf (addf (addf (addf (addf (broadcastInDim S4x3x224x224 ![] bcast_S_S4x3x224x224 (constant (F := Ideal) S_ .f32 0x00000000#32))
      (tap3 (padded3 x) w ![0, 0, 0, 0] ![0, 0, 3, 3] slices_S4x64x227x227_S4x64x224x224_0_0_0_0 slices_S64x3x4x4_S64x3x1x1_0_0_3_3))
      (tap3 (padded3 x) w ![0, 0, 0, 1] ![0, 0, 3, 2] slices_S4x64x227x227_S4x64x224x224_0_0_0_1 slices_S64x3x4x4_S64x3x1x1_0_0_3_2))
      (tap3 (padded3 x) w ![0, 0, 0, 2] ![0, 0, 3, 1] slices_S4x64x227x227_S4x64x224x224_0_0_0_2 slices_S64x3x4x4_S64x3x1x1_0_0_3_1))
      (tap3 (padded3 x) w ![0, 0, 0, 3] ![0, 0, 3, 0] slices_S4x64x227x227_S4x64x224x224_0_0_0_3 slices_S64x3x4x4_S64x3x1x1_0_0_3_0))
      (tap3 (padded3 x) w ![0, 0, 1, 0] ![0, 0, 2, 3] slices_S4x64x227x227_S4x64x224x224_0_0_1_0 slices_S64x3x4x4_S64x3x1x1_0_0_2_3))
      (tap3 (padded3 x) w ![0, 0, 1, 1] ![0, 0, 2, 2] slices_S4x64x227x227_S4x64x224x224_0_0_1_1 slices_S64x3x4x4_S64x3x1x1_0_0_2_2))
      (tap3 (padded3 x) w ![0, 0, 1, 2] ![0, 0, 2, 1] slices_S4x64x227x227_S4x64x224x224_0_0_1_2 slices_S64x3x4x4_S64x3x1x1_0_0_2_1))
      (tap3 (padded3 x) w ![0, 0, 1, 3] ![0, 0, 2, 0] slices_S4x64x227x227_S4x64x224x224_0_0_1_3 slices_S64x3x4x4_S64x3x1x1_0_0_2_0))
      (tap3 (padded3 x) w ![0, 0, 2, 0] ![0, 0, 1, 3] slices_S4x64x227x227_S4x64x224x224_0_0_2_0 slices_S64x3x4x4_S64x3x1x1_0_0_1_3))
      (tap3 (padded3 x) w ![0, 0, 2, 1] ![0, 0, 1, 2] slices_S4x64x227x227_S4x64x224x224_0_0_2_1 slices_S64x3x4x4_S64x3x1x1_0_0_1_2))
      (tap3 (padded3 x) w ![0, 0, 2, 2] ![0, 0, 1, 1] slices_S4x64x227x227_S4x64x224x224_0_0_2_2 slices_S64x3x4x4_S64x3x1x1_0_0_1_1))
      (tap3 (padded3 x) w ![0, 0, 2, 3] ![0, 0, 1, 0] slices_S4x64x227x227_S4x64x224x224_0_0_2_3 slices_S64x3x4x4_S64x3x1x1_0_0_1_0))
      (tap3 (padded3 x) w ![0, 0, 3, 0] ![0, 0, 0, 3] slices_S4x64x227x227_S4x64x224x224_0_0_3_0 slices_S64x3x4x4_S64x3x1x1_0_0_0_3))
      (tap3 (padded3 x) w ![0, 0, 3, 1] ![0, 0, 0, 2] slices_S4x64x227x227_S4x64x224x224_0_0_3_1 slices_S64x3x4x4_S64x3x1x1_0_0_0_2))
      (tap3 (padded3 x) w ![0, 0, 3, 2] ![0, 0, 0, 1] slices_S4x64x227x227_S4x64x224x224_0_0_3_2 slices_S64x3x4x4_S64x3x1x1_0_0_0_1))
      (tap3 (padded3 x) w ![0, 0, 3, 3] ![0, 0, 0, 0] slices_S4x64x227x227_S4x64x224x224_0_0_3_3 slices_S64x3x4x4_S64x3x1x1_0_0_0_0))
    (broadcastInDim S4x3x224x224 ![0, 1, 2, 3] bcast_S1x3x1x1_S4x3x224x224_0_1_2_3 (broadcastInDim S1x3x1x1 ![1] bcast_S3_S1x3x1x1_1 b))

/-- The decoder. -/
def dec (q : FVec Ideal S12544x64 .f32) (w0 : FVec Ideal S128x64x3x3 .f32) (b0 : FVec Ideal S128 .f32) (w1 : FVec Ideal S128x64x4x4 .f32)
    (b1 : FVec Ideal S64 .f32) (w2 : FVec Ideal S64x3x4x4 .f32) (b2 : FVec Ideal S3 .f32) : FVec Ideal S4x3x224x224 .f32 :=
  Host.tanh (layer3 (act2 (layer2 (act1 (layer1 (shapeCast S4x64x56x56 q shapeCasts_S12544x64_S4x64x56x56) w0 b0)) w1 b1)) w2 b2)

set_option maxHeartbeats 16000000 in
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v266) = dec (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  hlo_run
  all_goals try simp -implicitDefEqProofs only [StableHlo.TRef.toBuf, StableHlo.TRef.ofBuf, cast_cast, cast_eq]
  all_goals exact rfl

end Cert.DecRef

end
-- ==== Proof.DecRefAt.lean ====
module

public import proofs.«01_k».proof.Proof.DecRef
public import proofs.«01_k».proof.Proof.DecSpec

/-! The decoder's reference at one place of its result. -/

@[expose] public section

set_option maxRecDepth 16384

namespace Cert.DecRef

open Idealize.ShloMosaic
open Cert.RefDecodeIdeal Cert.RefDecodeIdeal.Gen
open Cert.Dec (Img)

noncomputable section

/-- A box of four axes at four numbers. -/
def get4 {A B C D : ℕ} (a : (⟨4, ![A, B, C, D]⟩ : Shape).Idx → EReal) (i j k l : ℕ) : EReal :=
  if h : i < A ∧ j < B ∧ k < C ∧ l < D then a (ix4 ⟨i, h.1⟩ ⟨j, h.2.1⟩ ⟨k, h.2.2.1⟩ ⟨l, h.2.2.2⟩) else 0

theorem get4_ix {A B C D : ℕ} (a : (⟨4, ![A, B, C, D]⟩ : Shape).Idx → EReal) (i : Fin A) (j : Fin B) (k : Fin C) (l : Fin D) :
    get4 a i.val j.val k.val l.val = a (ix4 i j k l) := dif_pos ⟨i.isLt, j.isLt, k.isLt, l.isLt⟩

/-- Image `b` of a batch. -/
def im {A C H W : ℕ} (x : (⟨4, ![A, C, H, W]⟩ : Shape).Idx → EReal) (b : ℕ) : Img := fun y i c => get4 x b c y i

/-- A row at a number. -/
def get1 {A : ℕ} (a : (⟨1, ![A]⟩ : Shape).Idx → EReal) (i : ℕ) : EReal := if h : i < A then a (ix1 ⟨i, h⟩) else 0

theorem get1_ix {A : ℕ} (a : (⟨1, ![A]⟩ : Shape).Idx → EReal) (i : Fin A) : get1 a i.val = a (ix1 i) := dif_pos i.isLt

theorem tap_ext {H W C : ℕ} {X : Img} {i j : ℕ} {w : ℕ → EReal} (f : Fin C → EReal) (h : ∀ c : Fin C, f c = Cert.Dec.pad H W X i j c.val * w c.val) :
    ∑ c, f c = Cert.Dec.tap H W C X i j w := Finset.sum_congr rfl fun c _ => h c

theorem padded1_at (x : FVec Ideal S4x64x56x56 .f32) (b : Fin 4) (c : Fin 64) (i j : Fin 58) :
    padded1 x (ix4 b c i j) = Cert.Dec.pad 56 56 (im x b.val) i.val j.val c.val := by
  pointwise [padded1]
  by_cases hc : 1 ≤ i.val ∧ i.val ≤ 56 ∧ 1 ≤ j.val ∧ j.val ≤ 56
  · rw [dif_pos ⟨⟨hc.1, by omega⟩, hc.2.2.1, by omega⟩, Cert.Dec.pad, if_pos hc]
    exact (get4_ix x b c ⟨i.val - 1, by omega⟩ ⟨j.val - 1, by omega⟩).symm
  · rw [dif_neg (fun h => hc ⟨h.1.1, by omega, h.2.1, by omega⟩), Cert.Dec.pad, if_neg hc]

theorem tap1_at (x : FVec Ideal S4x64x56x56 .f32) (w : FVec Ideal S128x64x3x3 .f32) (ky kx : ℕ) (hky : ky < 3) (hkx : kx < 3) (h h' : _) (b : Fin 4) (o : Fin 128) (y i : Fin 56) :
    tap1 (padded1 x) w ![0, 0, ky, kx] ![0, 0, ky, kx] h h' (ix4 b o y i)
      = Cert.Dec.tap 56 56 64 (im x b.val) (y.val + ky) (i.val + kx) fun c => get4 w o.val c ky kx := by
  pointwise [tap1]
  refine tap_ext _ fun c => ?_
  refine (congrArg₂ (· * ·) (get4_ix w o c ⟨ky, hky⟩ ⟨kx, hkx⟩).symm (padded1_at x b c _ _)).trans ((mul_comm _ _).trans ?_)
  exact congrArg₂ (fun p q => Cert.Dec.pad 56 56 (im x b.val) p q c.val * get4 w o.val c.val ky kx) (Nat.add_comm ky y.val) (Nat.add_comm kx i.val)

/-- The reference's convolution is the convolution. -/
theorem layer1_at (x : FVec Ideal S4x64x56x56 .f32) (w : FVec Ideal S128x64x3x3 .f32) (v : FVec Ideal S128 .f32) (b : Fin 4) (o : Fin 128) (y i : Fin 56) :
    layer1 x w v (ix4 b o y i) = Cert.Dec.conv 56 56 64 (im x b.val) (get4 w) (get1 v) y.val i.val o.val := by
  pointwise [layer1]
  rw [tap1_at x w 0 0, tap1_at x w 0 1, tap1_at x w 0 2, tap1_at x w 1 0, tap1_at x w 1 1, tap1_at x w 1 2, tap1_at x w 2 0, tap1_at x w 2 1, tap1_at x w 2 2, ← get1_ix v o]
  · simp only [Cert.Dec.conv, zero_add]
  all_goals decide

theorem padded2_at (x : FVec Ideal S4x128x56x56 .f32) (b : Fin 4) (c : Fin 128) (i j : Fin 115) :
    padded2 x (ix4 b c i j) = if i.val % 2 = 0 ∧ j.val % 2 = 0 then Cert.Dec.pad 56 56 (im x b.val) (i.val / 2) (j.val / 2) c.val else 0 := by
  pointwise [padded2]
  by_cases hd : i.val % 2 = 0 ∧ j.val % 2 = 0
  · rw [if_pos hd]
    by_cases hc : 1 ≤ i.val / 2 ∧ i.val / 2 ≤ 56 ∧ 1 ≤ j.val / 2 ∧ j.val / 2 ≤ 56
    · rw [dif_pos ⟨⟨by omega, by omega, by omega⟩, by omega, by omega, by omega⟩, Cert.Dec.pad, if_pos hc]
      refine (get4_ix x b c ⟨(i.val - 2) / 2, by omega⟩ ⟨(j.val - 2) / 2, by omega⟩).symm.trans ?_
      exact congrArg₂ (get4 x b.val c.val) (show (i.val - 2) / 2 = i.val / 2 - 1 by omega) (show (j.val - 2) / 2 = j.val / 2 - 1 by omega)
    · rw [dif_neg (fun h => hc ⟨by omega, by omega, by omega, by omega⟩), Cert.Dec.pad, if_neg hc]
  · rw [if_neg hd, dif_neg (fun h => hd ⟨by omega, by omega⟩)]

theorem tap2_at (x : FVec Ideal S4x128x56x56 .f32) (w : FVec Ideal S128x64x4x4 .f32) (ky kx : ℕ) (ly lx : ℕ) (hky : ly < 4) (hkx : lx < 4) (h h' : _) (b : Fin 4) (o : Fin 64) (y i : Fin 112) :
    tap2 (padded2 x) w ![0, 0, ky, kx] ![0, 0, ly, lx] h h' (ix4 b o y i)
      = if (y.val + ky) % 2 = 0 ∧ (i.val + kx) % 2 = 0 then Cert.Dec.tap 56 56 128 (im x b.val) ((y.val + ky) / 2) ((i.val + kx) / 2) fun c => get4 w c o.val ly lx else 0 := by
  pointwise [tap2]
  by_cases hc : (y.val + ky) % 2 = 0 ∧ (i.val + kx) % 2 = 0
  · rw [if_pos hc]
    refine tap_ext _ fun c => ?_
    refine (congrArg₂ (· * ·) (get4_ix w c o ⟨ly, hky⟩ ⟨lx, hkx⟩).symm (padded2_at x b c _ _)).trans ((mul_comm _ _).trans ?_)
    refine congrArg (· * get4 w c.val o.val ly lx) ?_
    have key : ∀ p q : ℕ, p = y.val + ky → q = i.val + kx → (if p % 2 = 0 ∧ q % 2 = 0 then Cert.Dec.pad 56 56 (im x b.val) (p / 2) (q / 2) c.val else 0)
        = Cert.Dec.pad 56 56 (im x b.val) ((y.val + ky) / 2) ((i.val + kx) / 2) c.val := by
      rintro _ _ rfl rfl
      rw [if_pos hc]
    exact key _ _ (Nat.add_comm ky y.val) (Nat.add_comm kx i.val)
  · rw [if_neg hc]
    refine Finset.sum_eq_zero fun c _ => ?_
    refine (congrArg (_ * ·) (padded2_at x b c _ _)).trans ?_
    have key : ∀ p q : ℕ, p = y.val + ky → q = i.val + kx → (if p % 2 = 0 ∧ q % 2 = 0 then Cert.Dec.pad 56 56 (im x b.val) (p / 2) (q / 2) c.val else 0) = 0 := by
      rintro _ _ rfl rfl
      rw [if_neg hc]
    exact (congrArg (_ * ·) (key _ _ (Nat.add_comm ky y.val) (Nat.add_comm kx i.val))).trans (mul_zero _)

/-- The reference's transposed convolution is the four taps that meet the image. -/
theorem layer2_at (x : FVec Ideal S4x128x56x56 .f32) (w : FVec Ideal S128x64x4x4 .f32) (v : FVec Ideal S64 .f32) (b : Fin 4) (o : Fin 64) (y i : Fin 112) :
    layer2 x w v (ix4 b o y i) = Cert.Dec.upconv 56 56 128 (im x b.val) (get4 w) (get1 v) y.val i.val o.val := by
  pointwise [layer2]
  rw [tap2_at x w 0 0 3 3, tap2_at x w 0 1 3 2, tap2_at x w 0 2 3 1, tap2_at x w 0 3 3 0, tap2_at x w 1 0 2 3, tap2_at x w 1 1 2 2, tap2_at x w 1 2 2 1, tap2_at x w 1 3 2 0, tap2_at x w 2 0 1 3, tap2_at x w 2 1 1 2, tap2_at x w 2 2 1 1, tap2_at x w 2 3 1 0, tap2_at x w 3 0 0 3, tap2_at x w 3 1 0 2, tap2_at x w 3 2 0 1, tap2_at x w 3 3 0 0, ← get1_ix v o]
  · rw [Cert.Dec.upconv]
    rcases Nat.mod_two_eq_zero_or_one y.val with hy | hy <;> rcases Nat.mod_two_eq_zero_or_one i.val with hi | hi
    · have y0 : (y.val + 0) / 2 = y.val / 2 + 0 + 0 := by omega
      have y1 : (y.val + 2) / 2 = y.val / 2 + 0 + 1 := by omega
      have x0 : (i.val + 0) / 2 = i.val / 2 + 0 + 0 := by omega
      have x1 : (i.val + 2) / 2 = i.val / 2 + 0 + 1 := by omega
      have p0 : (y.val + 0) % 2 = 0 := by omega
      have q0 : (i.val + 0) % 2 = 0 := by omega
      have p1 : (y.val + 1) % 2 = 1 := by omega
      have q1 : (i.val + 1) % 2 = 1 := by omega
      have p2 : (y.val + 2) % 2 = 0 := by omega
      have q2 : (i.val + 2) % 2 = 0 := by omega
      have p3 : (y.val + 3) % 2 = 1 := by omega
      have q3 : (i.val + 3) % 2 = 1 := by omega
      simp only [p0, p1, p2, p3, q0, q1, q2, q3, y0, y1, x0, x1, hy, hi, one_ne_zero, zero_ne_one, and_true, true_and, and_false, false_and, and_self, if_true, if_false, add_zero, zero_add]
      try rfl
    · have y0 : (y.val + 0) / 2 = y.val / 2 + 0 + 0 := by omega
      have y1 : (y.val + 2) / 2 = y.val / 2 + 0 + 1 := by omega
      have x0 : (i.val + 1) / 2 = i.val / 2 + 1 + 0 := by omega
      have x1 : (i.val + 3) / 2 = i.val / 2 + 1 + 1 := by omega
      have p0 : (y.val + 0) % 2 = 0 := by omega
      have q0 : (i.val + 0) % 2 = 1 := by omega
      have p1 : (y.val + 1) % 2 = 1 := by omega
      have q1 : (i.val + 1) % 2 = 0 := by omega
      have p2 : (y.val + 2) % 2 = 0 := by omega
      have q2 : (i.val + 2) % 2 = 1 := by omega
      have p3 : (y.val + 3) % 2 = 1 := by omega
      have q3 : (i.val + 3) % 2 = 0 := by omega
      simp only [p0, p1, p2, p3, q0, q1, q2, q3, y0, y1, x0, x1, hy, hi, one_ne_zero, zero_ne_one, and_true, true_and, and_false, false_and, and_self, if_true, if_false, add_zero, zero_add]
      try rfl
    · have y0 : (y.val + 1) / 2 = y.val / 2 + 1 + 0 := by omega
      have y1 : (y.val + 3) / 2 = y.val / 2 + 1 + 1 := by omega
      have x0 : (i.val + 0) / 2 = i.val / 2 + 0 + 0 := by omega
      have x1 : (i.val + 2) / 2 = i.val / 2 + 0 + 1 := by omega
      have p0 : (y.val + 0) % 2 = 1 := by omega
      have q0 : (i.val + 0) % 2 = 0 := by omega
      have p1 : (y.val + 1) % 2 = 0 := by omega
      have q1 : (i.val + 1) % 2 = 1 := by omega
      have p2 : (y.val + 2) % 2 = 1 := by omega
      have q2 : (i.val + 2) % 2 = 0 := by omega
      have p3 : (y.val + 3) % 2 = 0 := by omega
      have q3 : (i.val + 3) % 2 = 1 := by omega
      simp only [p0, p1, p2, p3, q0, q1, q2, q3, y0, y1, x0, x1, hy, hi, one_ne_zero, zero_ne_one, and_true, true_and, and_false, false_and, and_self, if_true, if_false, add_zero, zero_add]
      try rfl
    · have y0 : (y.val + 1) / 2 = y.val / 2 + 1 + 0 := by omega
      have y1 : (y.val + 3) / 2 = y.val / 2 + 1 + 1 := by omega
      have x0 : (i.val + 1) / 2 = i.val / 2 + 1 + 0 := by omega
      have x1 : (i.val + 3) / 2 = i.val / 2 + 1 + 1 := by omega
      have p0 : (y.val + 0) % 2 = 1 := by omega
      have q0 : (i.val + 0) % 2 = 1 := by omega
      have p1 : (y.val + 1) % 2 = 0 := by omega
      have q1 : (i.val + 1) % 2 = 0 := by omega
      have p2 : (y.val + 2) % 2 = 1 := by omega
      have q2 : (i.val + 2) % 2 = 1 := by omega
      have p3 : (y.val + 3) % 2 = 0 := by omega
      have q3 : (i.val + 3) % 2 = 0 := by omega
      simp only [p0, p1, p2, p3, q0, q1, q2, q3, y0, y1, x0, x1, hy, hi, one_ne_zero, zero_ne_one, and_true, true_and, and_false, false_and, and_self, if_true, if_false, add_zero, zero_add]
      try rfl
  all_goals decide

theorem padded3_at (x : FVec Ideal S4x64x112x112 .f32) (b : Fin 4) (c : Fin 64) (i j : Fin 227) :
    padded3 x (ix4 b c i j) = if i.val % 2 = 0 ∧ j.val % 2 = 0 then Cert.Dec.pad 112 112 (im x b.val) (i.val / 2) (j.val / 2) c.val else 0 := by
  pointwise [padded3]
  by_cases hd : i.val % 2 = 0 ∧ j.val % 2 = 0
  · rw [if_pos hd]
    by_cases hc : 1 ≤ i.val / 2 ∧ i.val / 2 ≤ 112 ∧ 1 ≤ j.val / 2 ∧ j.val / 2 ≤ 112
    · rw [dif_pos ⟨⟨by omega, by omega, by omega⟩, by omega, by omega, by omega⟩, Cert.Dec.pad, if_pos hc]
      refine (get4_ix x b c ⟨(i.val - 2) / 2, by omega⟩ ⟨(j.val - 2) / 2, by omega⟩).symm.trans ?_
      exact congrArg₂ (get4 x b.val c.val) (show (i.val - 2) / 2 = i.val / 2 - 1 by omega) (show (j.val - 2) / 2 = j.val / 2 - 1 by omega)
    · rw [dif_neg (fun h => hc ⟨by omega, by omega, by omega, by omega⟩), Cert.Dec.pad, if_neg hc]
  · rw [if_neg hd, dif_neg (fun h => hd ⟨by omega, by omega⟩)]

theorem tap3_at (x : FVec Ideal S4x64x112x112 .f32) (w : FVec Ideal S64x3x4x4 .f32) (ky kx : ℕ) (ly lx : ℕ) (hky : ly < 4) (hkx : lx < 4) (h h' : _) (b : Fin 4) (o : Fin 3) (y i : Fin 224) :
    tap3 (padded3 x) w ![0, 0, ky, kx] ![0, 0, ly, lx] h h' (ix4 b o y i)
      = if (y.val + ky) % 2 = 0 ∧ (i.val + kx) % 2 = 0 then Cert.Dec.tap 112 112 64 (im x b.val) ((y.val + ky) / 2) ((i.val + kx) / 2) fun c => get4 w c o.val ly lx else 0 := by
  pointwise [tap3]
  by_cases hc : (y.val + ky) % 2 = 0 ∧ (i.val + kx) % 2 = 0
  · rw [if_pos hc]
    refine tap_ext _ fun c => ?_
    refine (congrArg₂ (· * ·) (get4_ix w c o ⟨ly, hky⟩ ⟨lx, hkx⟩).symm (padded3_at x b c _ _)).trans ((mul_comm _ _).trans ?_)
    refine congrArg (· * get4 w c.val o.val ly lx) ?_
    have key : ∀ p q : ℕ, p = y.val + ky → q = i.val + kx → (if p % 2 = 0 ∧ q % 2 = 0 then Cert.Dec.pad 112 112 (im x b.val) (p / 2) (q / 2) c.val else 0)
        = Cert.Dec.pad 112 112 (im x b.val) ((y.val + ky) / 2) ((i.val + kx) / 2) c.val := by
      rintro _ _ rfl rfl
      rw [if_pos hc]
    exact key _ _ (Nat.add_comm ky y.val) (Nat.add_comm kx i.val)
  · rw [if_neg hc]
    refine Finset.sum_eq_zero fun c _ => ?_
    refine (congrArg (_ * ·) (padded3_at x b c _ _)).trans ?_
    have key : ∀ p q : ℕ, p = y.val + ky → q = i.val + kx → (if p % 2 = 0 ∧ q % 2 = 0 then Cert.Dec.pad 112 112 (im x b.val) (p / 2) (q / 2) c.val else 0) = 0 := by
      rintro _ _ rfl rfl
      rw [if_neg hc]
    exact (congrArg (_ * ·) (key _ _ (Nat.add_comm ky y.val) (Nat.add_comm kx i.val))).trans (mul_zero _)

/-- The reference's transposed convolution is the four taps that meet the image. -/
theorem layer3_at (x : FVec Ideal S4x64x112x112 .f32) (w : FVec Ideal S64x3x4x4 .f32) (v : FVec Ideal S3 .f32) (b : Fin 4) (o : Fin 3) (y i : Fin 224) :
    layer3 x w v (ix4 b o y i) = Cert.Dec.upconv 112 112 64 (im x b.val) (get4 w) (get1 v) y.val i.val o.val := by
  pointwise [layer3]
  rw [tap3_at x w 0 0 3 3, tap3_at x w 0 1 3 2, tap3_at x w 0 2 3 1, tap3_at x w 0 3 3 0, tap3_at x w 1 0 2 3, tap3_at x w 1 1 2 2, tap3_at x w 1 2 2 1, tap3_at x w 1 3 2 0, tap3_at x w 2 0 1 3, tap3_at x w 2 1 1 2, tap3_at x w 2 2 1 1, tap3_at x w 2 3 1 0, tap3_at x w 3 0 0 3, tap3_at x w 3 1 0 2, tap3_at x w 3 2 0 1, tap3_at x w 3 3 0 0, ← get1_ix v o]
  · rw [Cert.Dec.upconv]
    rcases Nat.mod_two_eq_zero_or_one y.val with hy | hy <;> rcases Nat.mod_two_eq_zero_or_one i.val with hi | hi
    · have y0 : (y.val + 0) / 2 = y.val / 2 + 0 + 0 := by omega
      have y1 : (y.val + 2) / 2 = y.val / 2 + 0 + 1 := by omega
      have x0 : (i.val + 0) / 2 = i.val / 2 + 0 + 0 := by omega
      have x1 : (i.val + 2) / 2 = i.val / 2 + 0 + 1 := by omega
      have p0 : (y.val + 0) % 2 = 0 := by omega
      have q0 : (i.val + 0) % 2 = 0 := by omega
      have p1 : (y.val + 1) % 2 = 1 := by omega
      have q1 : (i.val + 1) % 2 = 1 := by omega
      have p2 : (y.val + 2) % 2 = 0 := by omega
      have q2 : (i.val + 2) % 2 = 0 := by omega
      have p3 : (y.val + 3) % 2 = 1 := by omega
      have q3 : (i.val + 3) % 2 = 1 := by omega
      simp only [p0, p1, p2, p3, q0, q1, q2, q3, y0, y1, x0, x1, hy, hi, one_ne_zero, zero_ne_one, and_true, true_and, and_false, false_and, and_self, if_true, if_false, add_zero, zero_add]
      try rfl
    · have y0 : (y.val + 0) / 2 = y.val / 2 + 0 + 0 := by omega
      have y1 : (y.val + 2) / 2 = y.val / 2 + 0 + 1 := by omega
      have x0 : (i.val + 1) / 2 = i.val / 2 + 1 + 0 := by omega
      have x1 : (i.val + 3) / 2 = i.val / 2 + 1 + 1 := by omega
      have p0 : (y.val + 0) % 2 = 0 := by omega
      have q0 : (i.val + 0) % 2 = 1 := by omega
      have p1 : (y.val + 1) % 2 = 1 := by omega
      have q1 : (i.val + 1) % 2 = 0 := by omega
      have p2 : (y.val + 2) % 2 = 0 := by omega
      have q2 : (i.val + 2) % 2 = 1 := by omega
      have p3 : (y.val + 3) % 2 = 1 := by omega
      have q3 : (i.val + 3) % 2 = 0 := by omega
      simp only [p0, p1, p2, p3, q0, q1, q2, q3, y0, y1, x0, x1, hy, hi, one_ne_zero, zero_ne_one, and_true, true_and, and_false, false_and, and_self, if_true, if_false, add_zero, zero_add]
      try rfl
    · have y0 : (y.val + 1) / 2 = y.val / 2 + 1 + 0 := by omega
      have y1 : (y.val + 3) / 2 = y.val / 2 + 1 + 1 := by omega
      have x0 : (i.val + 0) / 2 = i.val / 2 + 0 + 0 := by omega
      have x1 : (i.val + 2) / 2 = i.val / 2 + 0 + 1 := by omega
      have p0 : (y.val + 0) % 2 = 1 := by omega
      have q0 : (i.val + 0) % 2 = 0 := by omega
      have p1 : (y.val + 1) % 2 = 0 := by omega
      have q1 : (i.val + 1) % 2 = 1 := by omega
      have p2 : (y.val + 2) % 2 = 1 := by omega
      have q2 : (i.val + 2) % 2 = 0 := by omega
      have p3 : (y.val + 3) % 2 = 0 := by omega
      have q3 : (i.val + 3) % 2 = 1 := by omega
      simp only [p0, p1, p2, p3, q0, q1, q2, q3, y0, y1, x0, x1, hy, hi, one_ne_zero, zero_ne_one, and_true, true_and, and_false, false_and, and_self, if_true, if_false, add_zero, zero_add]
      try rfl
    · have y0 : (y.val + 1) / 2 = y.val / 2 + 1 + 0 := by omega
      have y1 : (y.val + 3) / 2 = y.val / 2 + 1 + 1 := by omega
      have x0 : (i.val + 1) / 2 = i.val / 2 + 1 + 0 := by omega
      have x1 : (i.val + 3) / 2 = i.val / 2 + 1 + 1 := by omega
      have p0 : (y.val + 0) % 2 = 1 := by omega
      have q0 : (i.val + 0) % 2 = 1 := by omega
      have p1 : (y.val + 1) % 2 = 0 := by omega
      have q1 : (i.val + 1) % 2 = 0 := by omega
      have p2 : (y.val + 2) % 2 = 1 := by omega
      have q2 : (i.val + 2) % 2 = 1 := by omega
      have p3 : (y.val + 3) % 2 = 0 := by omega
      have q3 : (i.val + 3) % 2 = 0 := by omega
      simp only [p0, p1, p2, p3, q0, q1, q2, q3, y0, y1, x0, x1, hy, hi, one_ne_zero, zero_ne_one, and_true, true_and, and_false, false_and, and_self, if_true, if_false, add_zero, zero_add]
      try rfl
  all_goals decide

end

end Cert.DecRef

end
-- ==== Proof.DecScat.lean ====
module

public import proofs.«01_k».proof.Proof.DecRun
public import proofs.«01_k».proof.Proof.DecRefAt
public import Idealize.ShloMosaic.Lib.Routing.OpsSet

/-! The third layer's weights as the decoder's host code scatters them. -/

@[expose] public section

set_option maxRecDepth 16384

namespace Cert.Dec

open Idealize.ShloMosaic Idealize.ShloMosaic.TcCoe
open Cert.DecodeIdeal Cert.DecodeIdeal.Gen
open Cert.DecRef (get4 get4_ix get1 get1_ix im)

noncomputable section

/-- The scatter's two index words. -/
def words (t k : BitVec 32) : IVec S2 32 :=
  concatenate S2 0 [⟨S1, broadcastInDim S1 ![] bcast_S_S1 (constantI S_ 32 t)⟩, ⟨S1, broadcastInDim S1 ![] bcast_S_S1 (constantI S_ 32 k)⟩] concatenates_S1_S1_S2_d0

/-- One scatter: a matrix is set into block `t` from column `k` on. -/
def sc (x : FVec Ideal S9x64x12 .f32) (t k : BitVec 32) (u : FVec Ideal S64x3 .f32) : FVec Ideal S9x64x12 .f32 :=
  Host.scatter scatter_S9x64x12_S2_S64x3_01_0_02_0 (fun _ b => b) x (words t k) u

theorem words_0 (t k : BitVec 32) : words t k (ix1 0) = t := by
  pointwise [words]

theorem words_1 (t k : BitVec 32) : words t k (ix1 1) = k := by
  pointwise [words]

theorem start_0 (idx : IVec S2 32) (j : S64x3.Idx) : scatter_S9x64x12_S2_S64x3_01_0_02_0.start j idx 0 = (idx (ix1 0)).toInt := by
  have hm : (0 : Fin 3) ∈ scatter_S9x64x12_S2_S64x3_01_0_02_0.scatterDimsToOperandDims := by decide
  have hsi : scatter_S9x64x12_S2_S64x3_01_0_02_0.siIdx j ⟨_, List.idxOf_lt_length_iff.2 hm⟩ = ix1 0 := by
    funext b
    apply Fin.ext
    match b with
    | ⟨0, _⟩ =>
      unfold ScatterDims.siIdx
      rw [dif_pos (show (0 : ℕ) = scatter_S9x64x12_S2_S64x3_01_0_02_0.indexVectorDim from rfl)]
      rfl
  unfold ScatterDims.start
  rw [dif_pos hm, hsi]

theorem start_1 (idx : IVec S2 32) (j : S64x3.Idx) : scatter_S9x64x12_S2_S64x3_01_0_02_0.start j idx 1 = 0 := by
  unfold ScatterDims.start
  rw [dif_neg (by decide)]

theorem start_2 (idx : IVec S2 32) (j : S64x3.Idx) : scatter_S9x64x12_S2_S64x3_01_0_02_0.start j idx 2 = (idx (ix1 1)).toInt := by
  have hm : (2 : Fin 3) ∈ scatter_S9x64x12_S2_S64x3_01_0_02_0.scatterDimsToOperandDims := by decide
  have hsi : scatter_S9x64x12_S2_S64x3_01_0_02_0.siIdx j ⟨_, List.idxOf_lt_length_iff.2 hm⟩ = ix1 1 := by
    funext b
    apply Fin.ext
    match b with
    | ⟨0, _⟩ =>
      unfold ScatterDims.siIdx
      rw [dif_pos (show (0 : ℕ) = scatter_S9x64x12_S2_S64x3_01_0_02_0.indexVectorDim from rfl)]
      rfl
  unfold ScatterDims.start
  rw [dif_pos hm, hsi]

theorem window_0 (j : S64x3.Idx) : scatter_S9x64x12_S2_S64x3_01_0_02_0.window j 0 = 0 := by
  unfold ScatterDims.window
  rw [dif_neg (by decide)]

theorem window_1 (d : Fin 64) (e : Fin 3) : scatter_S9x64x12_S2_S64x3_01_0_02_0.window (ix2 d e) 1 = d.val := by
  unfold ScatterDims.window
  rw [dif_pos (by decide)]
  rfl

theorem window_2 (d : Fin 64) (e : Fin 3) : scatter_S9x64x12_S2_S64x3_01_0_02_0.window (ix2 d e) 2 = e.val := by
  unfold ScatterDims.window
  rw [dif_pos (by decide)]
  rfl

/-- Where one update lands. -/
theorem lands (idx : IVec S2 32) (d' : Fin 64) (e : Fin 3) (t : Fin 9) (d : Fin 64) (k : Fin 12) :
    scatter_S9x64x12_S2_S64x3_01_0_02_0.resultIdx? (ix2 d' e) idx = some (ix3 t d k)
      ↔ (idx (ix1 0)).toInt = t.val ∧ d'.val = d.val ∧ (idx (ix1 1)).toInt + (e.val : Int) = k.val := by
  rw [Routing.resultIdx?_eq_some]
  constructor
  · intro h
    have h0 := h 0
    have h1 := h 1
    have h2 := h 2
    rw [start_0, window_0] at h0
    rw [start_1, window_1] at h1
    rw [start_2, window_2] at h2
    have h0' : (idx (ix1 0)).toInt + ((0 : ℕ) : Int) = (t.val : Int) := h0
    have h1' : (0 : Int) + (d'.val : Int) = (d.val : Int) := h1
    have h2' : (idx (ix1 1)).toInt + (e.val : Int) = (k.val : Int) := h2
    exact ⟨by omega, by omega, by omega⟩
  · rintro ⟨h0, h1, h2⟩ a
    match a with
    | ⟨0, _⟩ =>
      refine (congrArg₂ (fun (p : Int) (q : ℕ) => p + (q : Int)) (start_0 idx _) (window_0 _)).trans ?_
      show _ = (t.val : Int)
      omega
    | ⟨1, _⟩ =>
      refine (congrArg₂ (fun (p : Int) (q : ℕ) => p + (q : Int)) (start_1 idx _) (window_1 _ _)).trans ?_
      show _ = (d.val : Int)
      omega
    | ⟨2, _⟩ =>
      refine (congrArg₂ (fun (p : Int) (q : ℕ) => p + (q : Int)) (start_2 idx _) (window_2 _ _)).trans ?_
      show _ = (k.val : Int)
      omega

/-- One scatter at one place. -/
theorem sc_at (x : FVec Ideal S9x64x12 .f32) (t0 k0 : ℕ) (ht : t0 < 100) (hk : k0 < 100) (u : FVec Ideal S64x3 .f32) (t : Fin 9) (d : Fin 64) (k : Fin 12) :
    sc x (BitVec.ofNat 32 t0) (BitVec.ofNat 32 k0) u (ix3 t d k)
      = if t.val = t0 ∧ k0 ≤ k.val ∧ k.val < k0 + 3 then get2 u d.val (k.val - k0) else x (ix3 t d k) := by
  have e0 : (words (BitVec.ofNat 32 t0) (BitVec.ofNat 32 k0) (ix1 0)).toInt = (t0 : Int) := by
    rw [words_0]
    exact StableHlo.Predicate.toInt_ofNat_small _ (by omega)
  have e1 : (words (BitVec.ofNat 32 t0) (BitVec.ofNat 32 k0) (ix1 1)).toInt = (k0 : Int) := by
    rw [words_1]
    exact StableHlo.Predicate.toInt_ofNat_small _ (by omega)
  have L : ∀ j : S64x3.Idx, scatter_S9x64x12_S2_S64x3_01_0_02_0.resultIdx? j (words (BitVec.ofNat 32 t0) (BitVec.ofNat 32 k0)) = some (ix3 t d k) →
      ∃ e : Fin 3, j = ix2 d e ∧ t0 = t.val ∧ k0 + e.val = k.val := by
    intro j hj
    obtain ⟨d', e, rfl⟩ : ∃ (d' : Fin 64) (e : Fin 3), j = ix2 d' e := ⟨j 0, j 1, eq_ix2 j⟩
    have h := (lands _ d' e t d k).1 hj
    rw [e0, e1] at h
    obtain rfl : d' = d := Fin.ext h.2.1
    exact ⟨e, rfl, by omega, by omega⟩
  unfold sc
  by_cases h : t.val = t0 ∧ k0 ≤ k.val ∧ k.val < k0 + 3
  · rw [if_pos h]
    refine Routing.scatter_set_hit _ x _ u _ _ (fun j hj => ?_) (ix2 d ⟨k.val - k0, by omega⟩) ((lands _ _ _ t d k).2 ?_)
    · obtain ⟨e, rfl, _, h2⟩ := L j hj
      rw [← get2_ix u d e]
      exact congrArg (get2 u d.val) (by omega)
    · rw [e0, e1]
      show (t0 : Int) = t.val ∧ d.val = d.val ∧ (k0 : Int) + ((k.val - k0 : ℕ) : Int) = k.val
      omega
  · rw [if_neg h]
    refine Routing.scatter_set_miss _ x _ u _ fun j hj => h ?_
    obtain ⟨e, _, h1, h2⟩ := L j hj
    have := e.isLt
    omega

/-- One place of the kernel, all channels. -/
def cell (w : FVec Ideal S64x3x4x4 .f32) (ky kx : ℕ) (h : S64x3x4x4.Slices ![0, 0, ky, kx] S64x3x1x1) : FVec Ideal S64x3 .f32 :=
  shapeCast S64x3 (extractStridedSlice S64x3x1x1 ![0, 0, ky, kx] w h) shapeCasts_S64x3x1x1_S64x3

theorem cell_00 (w : FVec Ideal S64x3x4x4 .f32) (d : Fin 64) (e : ℕ) (he : e < 3) :
    get2 (cell w 0 0 slices_S64x3x4x4_S64x3x1x1_0_0_0_0) d.val e = get4 w d.val e 0 0 := by
  refine (get2_ix _ d (⟨e, he⟩ : Fin 3)).trans ?_
  pointwise [cell]
  exact (get4_ix w d (⟨e, he⟩ : Fin 3) (0 : Fin 4) (0 : Fin 4)).symm

theorem cell_01 (w : FVec Ideal S64x3x4x4 .f32) (d : Fin 64) (e : ℕ) (he : e < 3) :
    get2 (cell w 0 1 slices_S64x3x4x4_S64x3x1x1_0_0_0_1) d.val e = get4 w d.val e 0 1 := by
  refine (get2_ix _ d (⟨e, he⟩ : Fin 3)).trans ?_
  pointwise [cell]
  exact (get4_ix w d (⟨e, he⟩ : Fin 3) (0 : Fin 4) (1 : Fin 4)).symm

theorem cell_02 (w : FVec Ideal S64x3x4x4 .f32) (d : Fin 64) (e : ℕ) (he : e < 3) :
    get2 (cell w 0 2 slices_S64x3x4x4_S64x3x1x1_0_0_0_2) d.val e = get4 w d.val e 0 2 := by
  refine (get2_ix _ d (⟨e, he⟩ : Fin 3)).trans ?_
  pointwise [cell]
  exact (get4_ix w d (⟨e, he⟩ : Fin 3) (0 : Fin 4) (2 : Fin 4)).symm

theorem cell_03 (w : FVec Ideal S64x3x4x4 .f32) (d : Fin 64) (e : ℕ) (he : e < 3) :
    get2 (cell w 0 3 slices_S64x3x4x4_S64x3x1x1_0_0_0_3) d.val e = get4 w d.val e 0 3 := by
  refine (get2_ix _ d (⟨e, he⟩ : Fin 3)).trans ?_
  pointwise [cell]
  exact (get4_ix w d (⟨e, he⟩ : Fin 3) (0 : Fin 4) (3 : Fin 4)).symm

theorem cell_10 (w : FVec Ideal S64x3x4x4 .f32) (d : Fin 64) (e : ℕ) (he : e < 3) :
    get2 (cell w 1 0 slices_S64x3x4x4_S64x3x1x1_0_0_1_0) d.val e = get4 w d.val e 1 0 := by
  refine (get2_ix _ d (⟨e, he⟩ : Fin 3)).trans ?_
  pointwise [cell]
  exact (get4_ix w d (⟨e, he⟩ : Fin 3) (1 : Fin 4) (0 : Fin 4)).symm

theorem cell_11 (w : FVec Ideal S64x3x4x4 .f32) (d : Fin 64) (e : ℕ) (he : e < 3) :
    get2 (cell w 1 1 slices_S64x3x4x4_S64x3x1x1_0_0_1_1) d.val e = get4 w d.val e 1 1 := by
  refine (get2_ix _ d (⟨e, he⟩ : Fin 3)).trans ?_
  pointwise [cell]
  exact (get4_ix w d (⟨e, he⟩ : Fin 3) (1 : Fin 4) (1 : Fin 4)).symm

theorem cell_12 (w : FVec Ideal S64x3x4x4 .f32) (d : Fin 64) (e : ℕ) (he : e < 3) :
    get2 (cell w 1 2 slices_S64x3x4x4_S64x3x1x1_0_0_1_2) d.val e = get4 w d.val e 1 2 := by
  refine (get2_ix _ d (⟨e, he⟩ : Fin 3)).trans ?_
  pointwise [cell]
  exact (get4_ix w d (⟨e, he⟩ : Fin 3) (1 : Fin 4) (2 : Fin 4)).symm

theorem cell_13 (w : FVec Ideal S64x3x4x4 .f32) (d : Fin 64) (e : ℕ) (he : e < 3) :
    get2 (cell w 1 3 slices_S64x3x4x4_S64x3x1x1_0_0_1_3) d.val e = get4 w d.val e 1 3 := by
  refine (get2_ix _ d (⟨e, he⟩ : Fin 3)).trans ?_
  pointwise [cell]
  exact (get4_ix w d (⟨e, he⟩ : Fin 3) (1 : Fin 4) (3 : Fin 4)).symm

theorem cell_20 (w : FVec Ideal S64x3x4x4 .f32) (d : Fin 64) (e : ℕ) (he : e < 3) :
    get2 (cell w 2 0 slices_S64x3x4x4_S64x3x1x1_0_0_2_0) d.val e = get4 w d.val e 2 0 := by
  refine (get2_ix _ d (⟨e, he⟩ : Fin 3)).trans ?_
  pointwise [cell]
  exact (get4_ix w d (⟨e, he⟩ : Fin 3) (2 : Fin 4) (0 : Fin 4)).symm

theorem cell_21 (w : FVec Ideal S64x3x4x4 .f32) (d : Fin 64) (e : ℕ) (he : e < 3) :
    get2 (cell w 2 1 slices_S64x3x4x4_S64x3x1x1_0_0_2_1) d.val e = get4 w d.val e 2 1 := by
  refine (get2_ix _ d (⟨e, he⟩ : Fin 3)).trans ?_
  pointwise [cell]
  exact (get4_ix w d (⟨e, he⟩ : Fin 3) (2 : Fin 4) (1 : Fin 4)).symm

theorem cell_22 (w : FVec Ideal S64x3x4x4 .f32) (d : Fin 64) (e : ℕ) (he : e < 3) :
    get2 (cell w 2 2 slices_S64x3x4x4_S64x3x1x1_0_0_2_2) d.val e = get4 w d.val e 2 2 := by
  refine (get2_ix _ d (⟨e, he⟩ : Fin 3)).trans ?_
  pointwise [cell]
  exact (get4_ix w d (⟨e, he⟩ : Fin 3) (2 : Fin 4) (2 : Fin 4)).symm

theorem cell_23 (w : FVec Ideal S64x3x4x4 .f32) (d : Fin 64) (e : ℕ) (he : e < 3) :
    get2 (cell w 2 3 slices_S64x3x4x4_S64x3x1x1_0_0_2_3) d.val e = get4 w d.val e 2 3 := by
  refine (get2_ix _ d (⟨e, he⟩ : Fin 3)).trans ?_
  pointwise [cell]
  exact (get4_ix w d (⟨e, he⟩ : Fin 3) (2 : Fin 4) (3 : Fin 4)).symm

theorem cell_30 (w : FVec Ideal S64x3x4x4 .f32) (d : Fin 64) (e : ℕ) (he : e < 3) :
    get2 (cell w 3 0 slices_S64x3x4x4_S64x3x1x1_0_0_3_0) d.val e = get4 w d.val e 3 0 := by
  refine (get2_ix _ d (⟨e, he⟩ : Fin 3)).trans ?_
  pointwise [cell]
  exact (get4_ix w d (⟨e, he⟩ : Fin 3) (3 : Fin 4) (0 : Fin 4)).symm

theorem cell_31 (w : FVec Ideal S64x3x4x4 .f32) (d : Fin 64) (e : ℕ) (he : e < 3) :
    get2 (cell w 3 1 slices_S64x3x4x4_S64x3x1x1_0_0_3_1) d.val e = get4 w d.val e 3 1 := by
  refine (get2_ix _ d (⟨e, he⟩ : Fin 3)).trans ?_
  pointwise [cell]
  exact (get4_ix w d (⟨e, he⟩ : Fin 3) (3 : Fin 4) (1 : Fin 4)).symm

theorem cell_32 (w : FVec Ideal S64x3x4x4 .f32) (d : Fin 64) (e : ℕ) (he : e < 3) :
    get2 (cell w 3 2 slices_S64x3x4x4_S64x3x1x1_0_0_3_2) d.val e = get4 w d.val e 3 2 := by
  refine (get2_ix _ d (⟨e, he⟩ : Fin 3)).trans ?_
  pointwise [cell]
  exact (get4_ix w d (⟨e, he⟩ : Fin 3) (3 : Fin 4) (2 : Fin 4)).symm

theorem cell_33 (w : FVec Ideal S64x3x4x4 .f32) (d : Fin 64) (e : ℕ) (he : e < 3) :
    get2 (cell w 3 3 slices_S64x3x4x4_S64x3x1x1_0_0_3_3) d.val e = get4 w d.val e 3 3 := by
  refine (get2_ix _ d (⟨e, he⟩ : Fin 3)).trans ?_
  pointwise [cell]
  exact (get4_ix w d (⟨e, he⟩ : Fin 3) (3 : Fin 4) (3 : Fin 4)).symm

/-- The weights after scatter 1. -/
def st0 (w : FVec Ideal S64x3x4x4 .f32) : FVec Ideal S9x64x12 .f32 :=
  sc (broadcastInDim S9x64x12 ![] bcast_S_S9x64x12 (constant (F := Ideal) S_ .f32 0x00000000#32)) 0#32 0#32 (cell w 3 3 slices_S64x3x4x4_S64x3x1x1_0_0_3_3)

/-- The weights after scatter 2. -/
def st1 (w : FVec Ideal S64x3x4x4 .f32) : FVec Ideal S9x64x12 .f32 :=
  sc (st0 w) 1#32 0#32 (cell w 3 1 slices_S64x3x4x4_S64x3x1x1_0_0_3_1)

/-- The weights after scatter 3. -/
def st2 (w : FVec Ideal S64x3x4x4 .f32) : FVec Ideal S9x64x12 .f32 :=
  sc (st1 w) 1#32 3#32 (cell w 3 2 slices_S64x3x4x4_S64x3x1x1_0_0_3_2)

/-- The weights after scatter 4. -/
def st3 (w : FVec Ideal S64x3x4x4 .f32) : FVec Ideal S9x64x12 .f32 :=
  sc (st2 w) 2#32 3#32 (cell w 3 0 slices_S64x3x4x4_S64x3x1x1_0_0_3_0)

/-- The weights after scatter 5. -/
def st4 (w : FVec Ideal S64x3x4x4 .f32) : FVec Ideal S9x64x12 .f32 :=
  sc (st3 w) 3#32 0#32 (cell w 1 3 slices_S64x3x4x4_S64x3x1x1_0_0_1_3)

/-- The weights after scatter 6. -/
def st5 (w : FVec Ideal S64x3x4x4 .f32) : FVec Ideal S9x64x12 .f32 :=
  sc (st4 w) 3#32 6#32 (cell w 2 3 slices_S64x3x4x4_S64x3x1x1_0_0_2_3)

/-- The weights after scatter 7. -/
def st6 (w : FVec Ideal S64x3x4x4 .f32) : FVec Ideal S9x64x12 .f32 :=
  sc (st5 w) 4#32 0#32 (cell w 1 1 slices_S64x3x4x4_S64x3x1x1_0_0_1_1)

/-- The weights after scatter 8. -/
def st7 (w : FVec Ideal S64x3x4x4 .f32) : FVec Ideal S9x64x12 .f32 :=
  sc (st6 w) 4#32 3#32 (cell w 1 2 slices_S64x3x4x4_S64x3x1x1_0_0_1_2)

/-- The weights after scatter 9. -/
def st8 (w : FVec Ideal S64x3x4x4 .f32) : FVec Ideal S9x64x12 .f32 :=
  sc (st7 w) 4#32 6#32 (cell w 2 1 slices_S64x3x4x4_S64x3x1x1_0_0_2_1)

/-- The weights after scatter 10. -/
def st9 (w : FVec Ideal S64x3x4x4 .f32) : FVec Ideal S9x64x12 .f32 :=
  sc (st8 w) 4#32 9#32 (cell w 2 2 slices_S64x3x4x4_S64x3x1x1_0_0_2_2)

/-- The weights after scatter 11. -/
def st10 (w : FVec Ideal S64x3x4x4 .f32) : FVec Ideal S9x64x12 .f32 :=
  sc (st9 w) 5#32 3#32 (cell w 1 0 slices_S64x3x4x4_S64x3x1x1_0_0_1_0)

/-- The weights after scatter 12. -/
def st11 (w : FVec Ideal S64x3x4x4 .f32) : FVec Ideal S9x64x12 .f32 :=
  sc (st10 w) 5#32 9#32 (cell w 2 0 slices_S64x3x4x4_S64x3x1x1_0_0_2_0)

/-- The weights after scatter 13. -/
def st12 (w : FVec Ideal S64x3x4x4 .f32) : FVec Ideal S9x64x12 .f32 :=
  sc (st11 w) 6#32 6#32 (cell w 0 3 slices_S64x3x4x4_S64x3x1x1_0_0_0_3)

/-- The weights after scatter 14. -/
def st13 (w : FVec Ideal S64x3x4x4 .f32) : FVec Ideal S9x64x12 .f32 :=
  sc (st12 w) 7#32 6#32 (cell w 0 1 slices_S64x3x4x4_S64x3x1x1_0_0_0_1)

/-- The weights after scatter 15. -/
def st14 (w : FVec Ideal S64x3x4x4 .f32) : FVec Ideal S9x64x12 .f32 :=
  sc (st13 w) 7#32 9#32 (cell w 0 2 slices_S64x3x4x4_S64x3x1x1_0_0_0_2)

/-- The weights after scatter 16. -/
def st15 (w : FVec Ideal S64x3x4x4 .f32) : FVec Ideal S9x64x12 .f32 :=
  sc (st14 w) 8#32 9#32 (cell w 0 0 slices_S64x3x4x4_S64x3x1x1_0_0_0_0)

theorem if_congr' {P : Prop} [Decidable P] {a a' b b' : EReal} (h : P → a = a') (h' : b = b') : (if P then a else b) = if P then a' else b' := by
  split
  · exact h ‹_›
  · exact h'

/-- All the scatters at one place. -/
theorem st_at (w : FVec Ideal S64x3x4x4 .f32) (t : Fin 9) (d : Fin 64) (k : Fin 12) : st15 w (ix3 t d k) =
    if t.val = 8 ∧ 9 ≤ k.val ∧ k.val < 9 + 3 then get4 w d.val (k.val - 9) 0 0 else
    if t.val = 7 ∧ 9 ≤ k.val ∧ k.val < 9 + 3 then get4 w d.val (k.val - 9) 0 2 else
    if t.val = 7 ∧ 6 ≤ k.val ∧ k.val < 6 + 3 then get4 w d.val (k.val - 6) 0 1 else
    if t.val = 6 ∧ 6 ≤ k.val ∧ k.val < 6 + 3 then get4 w d.val (k.val - 6) 0 3 else
    if t.val = 5 ∧ 9 ≤ k.val ∧ k.val < 9 + 3 then get4 w d.val (k.val - 9) 2 0 else
    if t.val = 5 ∧ 3 ≤ k.val ∧ k.val < 3 + 3 then get4 w d.val (k.val - 3) 1 0 else
    if t.val = 4 ∧ 9 ≤ k.val ∧ k.val < 9 + 3 then get4 w d.val (k.val - 9) 2 2 else
    if t.val = 4 ∧ 6 ≤ k.val ∧ k.val < 6 + 3 then get4 w d.val (k.val - 6) 2 1 else
    if t.val = 4 ∧ 3 ≤ k.val ∧ k.val < 3 + 3 then get4 w d.val (k.val - 3) 1 2 else
    if t.val = 4 ∧ 0 ≤ k.val ∧ k.val < 0 + 3 then get4 w d.val (k.val - 0) 1 1 else
    if t.val = 3 ∧ 6 ≤ k.val ∧ k.val < 6 + 3 then get4 w d.val (k.val - 6) 2 3 else
    if t.val = 3 ∧ 0 ≤ k.val ∧ k.val < 0 + 3 then get4 w d.val (k.val - 0) 1 3 else
    if t.val = 2 ∧ 3 ≤ k.val ∧ k.val < 3 + 3 then get4 w d.val (k.val - 3) 3 0 else
    if t.val = 1 ∧ 3 ≤ k.val ∧ k.val < 3 + 3 then get4 w d.val (k.val - 3) 3 2 else
    if t.val = 1 ∧ 0 ≤ k.val ∧ k.val < 0 + 3 then get4 w d.val (k.val - 0) 3 1 else
    if t.val = 0 ∧ 0 ≤ k.val ∧ k.val < 0 + 3 then get4 w d.val (k.val - 0) 3 3 else
    0 := by
  refine (sc_at _ 8 9 (by decide) (by decide) _ t d k).trans ?_
  refine if_congr' (fun h => cell_00 w d _ (by omega)) ?_
  refine (sc_at _ 7 9 (by decide) (by decide) _ t d k).trans ?_
  refine if_congr' (fun h => cell_02 w d _ (by omega)) ?_
  refine (sc_at _ 7 6 (by decide) (by decide) _ t d k).trans ?_
  refine if_congr' (fun h => cell_01 w d _ (by omega)) ?_
  refine (sc_at _ 6 6 (by decide) (by decide) _ t d k).trans ?_
  refine if_congr' (fun h => cell_03 w d _ (by omega)) ?_
  refine (sc_at _ 5 9 (by decide) (by decide) _ t d k).trans ?_
  refine if_congr' (fun h => cell_20 w d _ (by omega)) ?_
  refine (sc_at _ 5 3 (by decide) (by decide) _ t d k).trans ?_
  refine if_congr' (fun h => cell_10 w d _ (by omega)) ?_
  refine (sc_at _ 4 9 (by decide) (by decide) _ t d k).trans ?_
  refine if_congr' (fun h => cell_22 w d _ (by omega)) ?_
  refine (sc_at _ 4 6 (by decide) (by decide) _ t d k).trans ?_
  refine if_congr' (fun h => cell_21 w d _ (by omega)) ?_
  refine (sc_at _ 4 3 (by decide) (by decide) _ t d k).trans ?_
  refine if_congr' (fun h => cell_12 w d _ (by omega)) ?_
  refine (sc_at _ 4 0 (by decide) (by decide) _ t d k).trans ?_
  refine if_congr' (fun h => cell_11 w d _ (by omega)) ?_
  refine (sc_at _ 3 6 (by decide) (by decide) _ t d k).trans ?_
  refine if_congr' (fun h => cell_23 w d _ (by omega)) ?_
  refine (sc_at _ 3 0 (by decide) (by decide) _ t d k).trans ?_
  refine if_congr' (fun h => cell_13 w d _ (by omega)) ?_
  refine (sc_at _ 2 3 (by decide) (by decide) _ t d k).trans ?_
  refine if_congr' (fun h => cell_30 w d _ (by omega)) ?_
  refine (sc_at _ 1 3 (by decide) (by decide) _ t d k).trans ?_
  refine if_congr' (fun h => cell_32 w d _ (by omega)) ?_
  refine (sc_at _ 1 0 (by decide) (by decide) _ t d k).trans ?_
  refine if_congr' (fun h => cell_31 w d _ (by omega)) ?_
  refine (sc_at _ 0 0 (by decide) (by decide) _ t d k).trans ?_
  refine if_congr' (fun h => cell_33 w d _ (by omega)) ?_
  pointwise

/-- The weights of one phase: the transposed kernel's four taps, and nothing at the five places besides. -/
theorem st_phase (w : FVec Ideal S64x3x4x4 .f32) (py px ty tx e : ℕ) (hpy : py < 2) (hpx : px < 2) (hty : ty < 3) (htx : tx < 3) (he : e < 3) (d : Fin 64) :
    get3 (st15 w) (ty * 3 + tx) d.val ((py * 2 + px) * 3 + e)
      = if (py ≤ ty ∧ ty ≤ py + 1) ∧ px ≤ tx ∧ tx ≤ px + 1 then get4 w d.val e (3 - 2 * (ty - py) - py) (3 - 2 * (tx - px) - px) else 0 := by
  refine (get3_ix (st15 w) (⟨ty * 3 + tx, by omega⟩ : Fin 9) d (⟨(py * 2 + px) * 3 + e, by omega⟩ : Fin 12)).trans ?_
  rw [st_at]
  interval_cases py <;> interval_cases px <;> interval_cases ty <;> interval_cases tx <;> interval_cases e <;> simp

end

end Cert.Dec

end
-- ==== Proof.DecHost.lean ====
module

public import proofs.«01_k».proof.Proof.DecRun
public import proofs.«01_k».proof.Proof.DecScat

/-! What the decoder's host code hands the kernel. -/

@[expose] public section

set_option maxRecDepth 16384

namespace Cert.Dec

open Idealize.ShloMosaic Idealize.ShloMosaic.TcCoe
open Cert.DecodeIdeal Cert.DecodeIdeal.Gen
open Cert.DecRef (get4 get4_ix get1 get1_ix im)

noncomputable section

/-- One place of the second layer's kernel, all channels. -/
def place (w : FVec Ideal S128x64x4x4 .f32) (ky kx : ℕ) (h : S128x64x4x4.Slices ![0, 0, ky, kx] S128x64x1x1) : FVec Ideal S1x128x64 .f32 :=
  broadcastInDim S1x128x64 ![1, 2] bcast_S128x64_S1x128x64_1_2 (shapeCast S128x64 (extractStridedSlice S128x64x1x1 ![0, 0, ky, kx] w h) shapeCasts_S128x64x1x1_S128x64)

theorem place_00 (w : FVec Ideal S128x64x4x4 .f32) (d : Fin 128) (o : Fin 64) :
    place w 0 0 slices_S128x64x4x4_S128x64x1x1_0_0_0_0 (ix3 0 d o) = get4 w d.val o.val 0 0 := by
  pointwise [place]
  exact (get4_ix w d o (0 : Fin 4) (0 : Fin 4)).symm

theorem place_01 (w : FVec Ideal S128x64x4x4 .f32) (d : Fin 128) (o : Fin 64) :
    place w 0 1 slices_S128x64x4x4_S128x64x1x1_0_0_0_1 (ix3 0 d o) = get4 w d.val o.val 0 1 := by
  pointwise [place]
  exact (get4_ix w d o (0 : Fin 4) (1 : Fin 4)).symm

theorem place_02 (w : FVec Ideal S128x64x4x4 .f32) (d : Fin 128) (o : Fin 64) :
    place w 0 2 slices_S128x64x4x4_S128x64x1x1_0_0_0_2 (ix3 0 d o) = get4 w d.val o.val 0 2 := by
  pointwise [place]
  exact (get4_ix w d o (0 : Fin 4) (2 : Fin 4)).symm

theorem place_03 (w : FVec Ideal S128x64x4x4 .f32) (d : Fin 128) (o : Fin 64) :
    place w 0 3 slices_S128x64x4x4_S128x64x1x1_0_0_0_3 (ix3 0 d o) = get4 w d.val o.val 0 3 := by
  pointwise [place]
  exact (get4_ix w d o (0 : Fin 4) (3 : Fin 4)).symm

theorem place_10 (w : FVec Ideal S128x64x4x4 .f32) (d : Fin 128) (o : Fin 64) :
    place w 1 0 slices_S128x64x4x4_S128x64x1x1_0_0_1_0 (ix3 0 d o) = get4 w d.val o.val 1 0 := by
  pointwise [place]
  exact (get4_ix w d o (1 : Fin 4) (0 : Fin 4)).symm

theorem place_11 (w : FVec Ideal S128x64x4x4 .f32) (d : Fin 128) (o : Fin 64) :
    place w 1 1 slices_S128x64x4x4_S128x64x1x1_0_0_1_1 (ix3 0 d o) = get4 w d.val o.val 1 1 := by
  pointwise [place]
  exact (get4_ix w d o (1 : Fin 4) (1 : Fin 4)).symm

theorem place_12 (w : FVec Ideal S128x64x4x4 .f32) (d : Fin 128) (o : Fin 64) :
    place w 1 2 slices_S128x64x4x4_S128x64x1x1_0_0_1_2 (ix3 0 d o) = get4 w d.val o.val 1 2 := by
  pointwise [place]
  exact (get4_ix w d o (1 : Fin 4) (2 : Fin 4)).symm

theorem place_13 (w : FVec Ideal S128x64x4x4 .f32) (d : Fin 128) (o : Fin 64) :
    place w 1 3 slices_S128x64x4x4_S128x64x1x1_0_0_1_3 (ix3 0 d o) = get4 w d.val o.val 1 3 := by
  pointwise [place]
  exact (get4_ix w d o (1 : Fin 4) (3 : Fin 4)).symm

theorem place_20 (w : FVec Ideal S128x64x4x4 .f32) (d : Fin 128) (o : Fin 64) :
    place w 2 0 slices_S128x64x4x4_S128x64x1x1_0_0_2_0 (ix3 0 d o) = get4 w d.val o.val 2 0 := by
  pointwise [place]
  exact (get4_ix w d o (2 : Fin 4) (0 : Fin 4)).symm

theorem place_21 (w : FVec Ideal S128x64x4x4 .f32) (d : Fin 128) (o : Fin 64) :
    place w 2 1 slices_S128x64x4x4_S128x64x1x1_0_0_2_1 (ix3 0 d o) = get4 w d.val o.val 2 1 := by
  pointwise [place]
  exact (get4_ix w d o (2 : Fin 4) (1 : Fin 4)).symm

theorem place_22 (w : FVec Ideal S128x64x4x4 .f32) (d : Fin 128) (o : Fin 64) :
    place w 2 2 slices_S128x64x4x4_S128x64x1x1_0_0_2_2 (ix3 0 d o) = get4 w d.val o.val 2 2 := by
  pointwise [place]
  exact (get4_ix w d o (2 : Fin 4) (2 : Fin 4)).symm

theorem place_23 (w : FVec Ideal S128x64x4x4 .f32) (d : Fin 128) (o : Fin 64) :
    place w 2 3 slices_S128x64x4x4_S128x64x1x1_0_0_2_3 (ix3 0 d o) = get4 w d.val o.val 2 3 := by
  pointwise [place]
  exact (get4_ix w d o (2 : Fin 4) (3 : Fin 4)).symm

theorem place_30 (w : FVec Ideal S128x64x4x4 .f32) (d : Fin 128) (o : Fin 64) :
    place w 3 0 slices_S128x64x4x4_S128x64x1x1_0_0_3_0 (ix3 0 d o) = get4 w d.val o.val 3 0 := by
  pointwise [place]
  exact (get4_ix w d o (3 : Fin 4) (0 : Fin 4)).symm

theorem place_31 (w : FVec Ideal S128x64x4x4 .f32) (d : Fin 128) (o : Fin 64) :
    place w 3 1 slices_S128x64x4x4_S128x64x1x1_0_0_3_1 (ix3 0 d o) = get4 w d.val o.val 3 1 := by
  pointwise [place]
  exact (get4_ix w d o (3 : Fin 4) (1 : Fin 4)).symm

theorem place_32 (w : FVec Ideal S128x64x4x4 .f32) (d : Fin 128) (o : Fin 64) :
    place w 3 2 slices_S128x64x4x4_S128x64x1x1_0_0_3_2 (ix3 0 d o) = get4 w d.val o.val 3 2 := by
  pointwise [place]
  exact (get4_ix w d o (3 : Fin 4) (2 : Fin 4)).symm

theorem place_33 (w : FVec Ideal S128x64x4x4 .f32) (d : Fin 128) (o : Fin 64) :
    place w 3 3 slices_S128x64x4x4_S128x64x1x1_0_0_3_3 (ix3 0 d o) = get4 w d.val o.val 3 3 := by
  pointwise [place]
  exact (get4_ix w d o (3 : Fin 4) (3 : Fin 4)).symm

/-- The second layer's weights as stacked. -/
def stack (w : FVec Ideal S128x64x4x4 .f32) : FVec Ideal S16x128x64 .f32 :=
  concatenate S16x128x64 0 [⟨S1x128x64, place w 3 3 slices_S128x64x4x4_S128x64x1x1_0_0_3_3⟩, ⟨S1x128x64, place w 3 1 slices_S128x64x4x4_S128x64x1x1_0_0_3_1⟩, ⟨S1x128x64, place w 1 3 slices_S128x64x4x4_S128x64x1x1_0_0_1_3⟩, ⟨S1x128x64, place w 1 1 slices_S128x64x4x4_S128x64x1x1_0_0_1_1⟩, ⟨S1x128x64, place w 3 2 slices_S128x64x4x4_S128x64x1x1_0_0_3_2⟩, ⟨S1x128x64, place w 3 0 slices_S128x64x4x4_S128x64x1x1_0_0_3_0⟩, ⟨S1x128x64, place w 1 2 slices_S128x64x4x4_S128x64x1x1_0_0_1_2⟩, ⟨S1x128x64, place w 1 0 slices_S128x64x4x4_S128x64x1x1_0_0_1_0⟩, ⟨S1x128x64, place w 2 3 slices_S128x64x4x4_S128x64x1x1_0_0_2_3⟩, ⟨S1x128x64, place w 2 1 slices_S128x64x4x4_S128x64x1x1_0_0_2_1⟩, ⟨S1x128x64, place w 0 3 slices_S128x64x4x4_S128x64x1x1_0_0_0_3⟩, ⟨S1x128x64, place w 0 1 slices_S128x64x4x4_S128x64x1x1_0_0_0_1⟩, ⟨S1x128x64, place w 2 2 slices_S128x64x4x4_S128x64x1x1_0_0_2_2⟩, ⟨S1x128x64, place w 2 0 slices_S128x64x4x4_S128x64x1x1_0_0_2_0⟩, ⟨S1x128x64, place w 0 2 slices_S128x64x4x4_S128x64x1x1_0_0_0_2⟩, ⟨S1x128x64, place w 0 0 slices_S128x64x4x4_S128x64x1x1_0_0_0_0⟩] concatenates_S1x128x64_S1x128x64_S1x128x64_S1x128x64_S1x128x64_S1x128x64_S1x128x64_S1x128x64_S1x128x64_S1x128x64_S1x128x64_S1x128x64_S1x128x64_S1x128x64_S1x128x64_S1x128x64_S16x128x64_d0

theorem stack_0 (w : FVec Ideal S128x64x4x4 .f32) (d : Fin 128) (o : Fin 64) : stack w (ix3 0 d o) = get4 w d.val o.val 3 3 := by
  pointwise [stack]
  exact place_33 w d o

theorem stack_1 (w : FVec Ideal S128x64x4x4 .f32) (d : Fin 128) (o : Fin 64) : stack w (ix3 1 d o) = get4 w d.val o.val 3 1 := by
  pointwise [stack]
  exact place_31 w d o

theorem stack_2 (w : FVec Ideal S128x64x4x4 .f32) (d : Fin 128) (o : Fin 64) : stack w (ix3 2 d o) = get4 w d.val o.val 1 3 := by
  pointwise [stack]
  exact place_13 w d o

theorem stack_3 (w : FVec Ideal S128x64x4x4 .f32) (d : Fin 128) (o : Fin 64) : stack w (ix3 3 d o) = get4 w d.val o.val 1 1 := by
  pointwise [stack]
  exact place_11 w d o

theorem stack_4 (w : FVec Ideal S128x64x4x4 .f32) (d : Fin 128) (o : Fin 64) : stack w (ix3 4 d o) = get4 w d.val o.val 3 2 := by
  pointwise [stack]
  exact place_32 w d o

theorem stack_5 (w : FVec Ideal S128x64x4x4 .f32) (d : Fin 128) (o : Fin 64) : stack w (ix3 5 d o) = get4 w d.val o.val 3 0 := by
  pointwise [stack]
  exact place_30 w d o

theorem stack_6 (w : FVec Ideal S128x64x4x4 .f32) (d : Fin 128) (o : Fin 64) : stack w (ix3 6 d o) = get4 w d.val o.val 1 2 := by
  pointwise [stack]
  exact place_12 w d o

theorem stack_7 (w : FVec Ideal S128x64x4x4 .f32) (d : Fin 128) (o : Fin 64) : stack w (ix3 7 d o) = get4 w d.val o.val 1 0 := by
  pointwise [stack]
  exact place_10 w d o

theorem stack_8 (w : FVec Ideal S128x64x4x4 .f32) (d : Fin 128) (o : Fin 64) : stack w (ix3 8 d o) = get4 w d.val o.val 2 3 := by
  pointwise [stack]
  exact place_23 w d o

theorem stack_9 (w : FVec Ideal S128x64x4x4 .f32) (d : Fin 128) (o : Fin 64) : stack w (ix3 9 d o) = get4 w d.val o.val 2 1 := by
  pointwise [stack]
  exact place_21 w d o

theorem stack_10 (w : FVec Ideal S128x64x4x4 .f32) (d : Fin 128) (o : Fin 64) : stack w (ix3 10 d o) = get4 w d.val o.val 0 3 := by
  pointwise [stack]
  exact place_03 w d o

theorem stack_11 (w : FVec Ideal S128x64x4x4 .f32) (d : Fin 128) (o : Fin 64) : stack w (ix3 11 d o) = get4 w d.val o.val 0 1 := by
  pointwise [stack]
  exact place_01 w d o

theorem stack_12 (w : FVec Ideal S128x64x4x4 .f32) (d : Fin 128) (o : Fin 64) : stack w (ix3 12 d o) = get4 w d.val o.val 2 2 := by
  pointwise [stack]
  exact place_22 w d o

theorem stack_13 (w : FVec Ideal S128x64x4x4 .f32) (d : Fin 128) (o : Fin 64) : stack w (ix3 13 d o) = get4 w d.val o.val 2 0 := by
  pointwise [stack]
  exact place_20 w d o

theorem stack_14 (w : FVec Ideal S128x64x4x4 .f32) (d : Fin 128) (o : Fin 64) : stack w (ix3 14 d o) = get4 w d.val o.val 0 2 := by
  pointwise [stack]
  exact place_02 w d o

theorem stack_15 (w : FVec Ideal S128x64x4x4 .f32) (d : Fin 128) (o : Fin 64) : stack w (ix3 15 d o) = get4 w d.val o.val 0 0 := by
  pointwise [stack]
  exact place_00 w d o

/-- The stack at a phase and a tap. -/
theorem stack_phase (w : FVec Ideal S128x64x4x4 .f32) (py px t s : ℕ) (hpy : py < 2) (hpx : px < 2) (ht : t < 2) (hs : s < 2) (d : Fin 128) (o : Fin 64) :
    get3 (stack w) (((py * 2 + px) * 2 + t) * 2 + s) d.val o.val = get4 w d.val o.val (3 - 2 * t - py) (3 - 2 * s - px) := by
  refine (get3_ix (stack w) (⟨((py * 2 + px) * 2 + t) * 2 + s, by omega⟩ : Fin 16) d o).trans ?_
  interval_cases py <;> interval_cases px <;> interval_cases t <;> interval_cases s
  · exact stack_0 w d o
  · exact stack_1 w d o
  · exact stack_2 w d o
  · exact stack_3 w d o
  · exact stack_4 w d o
  · exact stack_5 w d o
  · exact stack_6 w d o
  · exact stack_7 w d o
  · exact stack_8 w d o
  · exact stack_9 w d o
  · exact stack_10 w d o
  · exact stack_11 w d o
  · exact stack_12 w d o
  · exact stack_13 w d o
  · exact stack_14 w d o
  · exact stack_15 w d o

/-- The first layer's weights as laid out. -/
def flat (w : FVec Ideal S128x64x3x3 .f32) : FVec Ideal S9x64x128 .f32 :=
  shapeCast S9x64x128 (transpose S3x3x64x128 [2, 3, 1, 0] w transposes_S128x64x3x3_S3x3x64x128_2_3_1_0) shapeCasts_S3x3x64x128_S9x64x128

theorem flat_at (w : FVec Ideal S128x64x3x3 .f32) (ky kx : ℕ) (hy : ky < 3) (hx : kx < 3) (d : Fin 64) (o : Fin 128) :
    get3 (flat w) (ky * 3 + kx) d.val o.val = get4 w o.val d.val ky kx := by
  refine (get3_ix (flat w) (⟨ky * 3 + kx, by omega⟩ : Fin 9) d o).trans ?_
  pointwise [flat]
  exact (get4_ix w o d _ _).symm.trans (congrArg₂ (get4 w o.val d.val) (show (ky * 3 + kx) / 3 = ky by omega) (show (ky * 3 + kx) % 3 = kx by omega))

/-- The third layer's bias, once for each phase. -/
def four (b : FVec Ideal S3 .f32) : FVec Ideal S1x12 .f32 :=
  shapeCast S1x12 (shapeCast S12 (broadcastInDim S4x3 ![0, 1] bcast_S1x3_S4x3_0_1 (shapeCast S1x3 b shapeCasts_S3_S1x3)) shapeCasts_S4x3_S12) shapeCasts_S12_S1x12

theorem four_at (b : FVec Ideal S3 .f32) (p e : ℕ) (hp : p < 4) (he : e < 3) : get2 (four b) 0 (p * 3 + e) = get1 b e := by
  refine (get2_ix (four b) (0 : Fin 1) (⟨p * 3 + e, by omega⟩ : Fin 12)).trans ?_
  pointwise [four]
  exact (get1_ix b _).symm.trans (congrArg (get1 b) (show (p * 3 + e) % 3 = e by omega))

/-- The latents as the kernel takes them. -/
def lat (q : FVec Ideal S12544x64 .f32) : FVec Ideal S4x3136x64 .f32 :=
  transpose S4x3136x64 [0, 2, 1] (shapeCast S4x64x3136 q shapeCasts_S12544x64_S4x64x3136) transposes_S4x64x3136_S4x3136x64_0_2_1

variable (m : (ℓ : Loc nD τ sig) → Buf (Elt Ideal) ℓ) (c : Dev nD)

set_option maxHeartbeats 2000000

theorem host_b0 : (V m c main_v150 : FVec Ideal S1x128 .f32) = shapeCast S1x128 (m ((c.tc : Thread nD τ).loc main_arg2) : FVec Ideal S128 .f32) shapeCasts_S128_S1x128 := by
  show StableHlo.after hostOps0 (fun b => m (c, b)) (Proc.devRef .tc main_v150) = _
  simp only [StableHlo.after_cons, StableHlo.after_nil]
  after_results_simp
  rfl

theorem host_b1 : (V m c main_v151 : FVec Ideal S1x64 .f32) = shapeCast S1x64 (m ((c.tc : Thread nD τ).loc main_arg4) : FVec Ideal S64 .f32) shapeCasts_S64_S1x64 := by
  show StableHlo.after hostOps0 (fun b => m (c, b)) (Proc.devRef .tc main_v151) = _
  simp only [StableHlo.after_cons, StableHlo.after_nil]
  after_results_simp
  rfl

theorem host_w0 : (V m c main_v3 : FVec Ideal S9x64x128 .f32) = flat (m ((c.tc : Thread nD τ).loc main_arg1)) := by
  show StableHlo.after hostOps0 (fun b => m (c, b)) (Proc.devRef .tc main_v3) = _
  simp only [StableHlo.after_cons, StableHlo.after_nil]
  after_results_simp
  rfl

theorem host_b2 : (V m c main_v155 : FVec Ideal S1x12 .f32) = four (m ((c.tc : Thread nD τ).loc main_arg6)) := by
  show StableHlo.after hostOps0 (fun b => m (c, b)) (Proc.devRef .tc main_v155) = _
  simp only [StableHlo.after_cons, StableHlo.after_nil]
  after_results_simp
  rfl

theorem host_q : (V m c main_v1 : FVec Ideal S4x3136x64 .f32) = lat (m ((c.tc : Thread nD τ).loc main_arg0)) := by
  show StableHlo.after hostOps0 (fun b => m (c, b)) (Proc.devRef .tc main_v1) = _
  simp only [StableHlo.after_cons, StableHlo.after_nil]
  after_results_simp
  rfl

theorem host_w1 : (V m c main_v52 : FVec Ideal S16x128x64 .f32) = stack (m ((c.tc : Thread nD τ).loc main_arg3)) := by
  show StableHlo.after hostOps0 (fun b => m (c, b)) (Proc.devRef .tc main_v52) = _
  simp only [StableHlo.after_cons, StableHlo.after_nil]
  after_results_simp
  rfl

theorem host_w2 : (V m c main_v149 : FVec Ideal S9x64x12 .f32) = st15 (m ((c.tc : Thread nD τ).loc main_arg5)) := by
  show StableHlo.after hostOps0 (fun b => m (c, b)) (Proc.devRef .tc main_v149) = _
  simp only [StableHlo.after_cons, StableHlo.after_nil]
  after_results_simp
  rfl

end

end Cert.Dec

end
-- ==== Proof.DecTail.lean ====
module

public import proofs.«01_k».proof.Proof.DecRun

/-! The decoder's result array after the kernel and after the host code behind it. -/

@[expose] public section

set_option maxRecDepth 16384

namespace Cert.Dec

open Idealize.ShloMosaic Idealize.ShloMosaic.TcCoe Idealize.ShloMosaic.Tactic
open Idealize.SL Idealize.SL.RA Idealize.SL.BI
open Idealize.SL.Sem
open Cert.DecodeIdeal Cert.DecodeIdeal.Gen

noncomputable section

/-- The host code behind the kernel: the phases woven together, the two columns beyond the image dropped. -/
def weave (x : FVec Ideal S4x12768x12 .f32) : FVec Ideal S4x3x224x224 .f32 :=
  shapeCast S4x3x224x224 (transpose S4x3x112x2x112x2 [0, 5, 1, 3, 2, 4]
    (extractStridedSlice S4x112x112x2x2x3 ![0, 0, 0, 0, 0, 0] (shapeCast S4x112x114x2x2x3 x shapeCasts_S4x12768x12_S4x112x114x2x2x3)
      slices_S4x112x114x2x2x3_S4x112x112x2x2x3_0_0_0_0_0_0) transposes_S4x112x112x2x2x3_S4x3x112x2x112x2_0_5_1_3_2_4)
    shapeCasts_S4x3x112x2x112x2_S4x3x224x224

theorem weave_at (x : FVec Ideal S4x12768x12 .f32) (b : Fin 4) (e : Fin 3) (y i : Fin 224) :
    weave x (ix4 b e y i) = x (ix3 b (⟨y.val / 2 * 114 + i.val / 2, by omega⟩ : Fin 12768) (⟨(y.val % 2 * 2 + i.val % 2) * 3 + e.val, by omega⟩ : Fin 12)) := by
  pointwise [weave]
  exact congrArg (fun k => x (ix3 b _ k)) (Fin.ext (show y.val % 2 * 6 + i.val % 2 * 3 + e.val = (y.val % 2 * 2 + i.val % 2) * 3 + e.val by omega))

variable (m : (ℓ : Loc nD τ sig) → Buf (Elt Ideal) ℓ)

/-- The kernel's result array. -/
def whole (c : Dev nD) : FVec Ideal S4x12768x12 .f32 := (dats m 0 c).arrAt 7 cfg0.N

theorem outs_congr (c : Dev nD) {n n' : ℕ} (e : n = n') (h : n < cfg0.N) (h' : n' < cfg0.N) {i i' : S1x12768x12.Idx} (ei : i = i') :
    (outsAt0 m c n h).1 i = (outsAt0 m c n' h').1 i' := by
  subst e
  subst ei
  rfl

theorem whole_at (c : Dev nD) (b : Fin 4) (r : Fin 12768) (k : Fin 12) :
    whole m c (ix3 b r k) = (outsAt0 m c b.val (lt_of_lt_of_eq b.isLt N_0.symm)).1 (ix3 0 r k) := by
  have h : whole m c = fun i => (outsAt0 m c (i 0).val (lt_of_lt_of_eq (i 0).isLt N_0.symm)).1 (ix3 0 (i 1) (i 2)) := by
    refine (dats m 0 c).arrAt_eq_of_covers 7 _ (by decide +kernel) fun t hf y => ?_
    blk_simp
    rw [after0_7]
    refine outs_congr m c ((congrFun (idx t).2.2.2.2.2.2.2 0).symm : t.val = win0_7.index t 0) _ _ (funext fun a => Fin.ext ?_)
    match a with
    | ⟨0, _⟩ =>
      have h0 : (y 0).val < 1 := (y 0).isLt
      show (y 0).val = 0
      omega
    | ⟨1, _⟩ =>
      show (y 1).val = ((win0_7.blk t).view.emb y 1).val
      blk_simp [idx t]
    | ⟨2, _⟩ =>
      show (y 2).val = ((win0_7.blk t).view.emb y 2).val
      blk_simp [idx t]
  rw [h]
  rfl

theorem tail_eq (c : Dev nD) : Pipeline.afterTail₀ cfgs (dats m) 0 (V0 m) [hostOps1] c main_v160 = weave (whole m c) := by
  unfold Pipeline.afterTail₀
  show StableHlo.after hostOps1 _ (Proc.devRef .tc main_v160) = _
  simp only [StableHlo.after_cons, StableHlo.after_nil]
  after_results_simp
  refine (congrArg weave (Pipeline.withArrays_arr spec0 (by decide) c (V0 m c) (fun w => (dats m 0 c).arrAt w cfg0.N) 7)).trans ?_
  rfl

/-- The decoder's run. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v160) = weave (whole m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have h1 : θ_run (defs (F := Ideal)) (onTc (τ := τ) (main (F := Ideal))) ⟨m, fun _ => 0, ρ⟩ fun r => ∀ c : Dev nD,
      r.2.mem ((c.tc : Thread nD τ).loc main_v160) = weave (whole m c) :=
    (θ_run defs _ _).mono (fun r h c => ((h c).2 main_v160 (Pipeline.mem_restRefs_of main_v160 (by decide) (by decide))).trans (tail_eq m c)) (run_main m ρ)
  exact (θ_run defs _ _).mono (fun r h c => ⟨h.1 c, h.2 c⟩) (θ_run_and h1 (unchanged m ρ))

end

end Cert.Dec

end
-- ==== Proof.DecEq.lean ====
module

public import proofs.«01_k».proof.Proof.DecHost
public import proofs.«01_k».proof.Proof.DecTail

/-! The decoder's kernel and its reference give the same image. -/

@[expose] public section

set_option maxRecDepth 16384

namespace Cert.Dec

open Idealize.ShloMosaic Idealize.ShloMosaic.TcCoe
open Cert.DecodeIdeal Cert.DecodeIdeal.Gen
open Cert.DecRef (get4 get4_ix get1 get1_ix im)

noncomputable section

/-- Two images agree inside a box. -/
def Agree (H W C : ℕ) (X X' : Img) : Prop := ∀ y x c, y < H → x < W → c < C → X y x c = X' y x c

theorem tap_congr {H W C : ℕ} {X X' : Img} (h : Agree H W C X X') (i j : ℕ) {w w' : ℕ → EReal} (hw : ∀ c, c < C → w c = w' c) :
    tap H W C X i j w = tap H W C X' i j w' := by
  refine Finset.sum_congr rfl fun c _ => ?_
  rw [hw c.val c.isLt, pad, pad]
  by_cases hi : 1 ≤ i ∧ i ≤ H ∧ 1 ≤ j ∧ j ≤ W
  · rw [if_pos hi, if_pos hi, h (i - 1) (j - 1) c.val (by omega) (by omega) c.isLt]
  · rw [if_neg hi, if_neg hi]

theorem tap_zero {H W C : ℕ} (X : Img) (i j : ℕ) {w : ℕ → EReal} (hw : ∀ c, c < C → w c = 0) : tap H W C X i j w = 0 :=
  Finset.sum_eq_zero fun c _ => by rw [hw c.val c.isLt, mul_zero]

theorem sum9 (T T' : ℕ → ℕ → EReal) (b b' : EReal) (h : ∀ ky kx, ky < 3 → kx < 3 → T ky kx = T' ky kx) (hb : b = b') :
    0 + T 0 0 + T 0 1 + T 0 2 + T 1 0 + T 1 1 + T 1 2 + T 2 0 + T 2 1 + T 2 2 + b
      = 0 + T' 0 0 + T' 0 1 + T' 0 2 + T' 1 0 + T' 1 1 + T' 1 2 + T' 2 0 + T' 2 1 + T' 2 2 + b' := by
  rw [h 0 0 (by decide) (by decide), h 0 1 (by decide) (by decide), h 0 2 (by decide) (by decide), h 1 0 (by decide) (by decide),
    h 1 1 (by decide) (by decide), h 1 2 (by decide) (by decide), h 2 0 (by decide) (by decide), h 2 1 (by decide) (by decide),
    h 2 2 (by decide) (by decide), hb]

theorem sum4 (T T' : ℕ → ℕ → EReal) (b b' : EReal) (h : ∀ t s, t < 2 → s < 2 → T t s = T' t s) (hb : b = b') :
    0 + T 0 0 + T 0 1 + T 1 0 + T 1 1 + b = 0 + T' 0 0 + T' 0 1 + T' 1 0 + T' 1 1 + b' := by
  rw [h 0 0 (by decide) (by decide), h 0 1 (by decide) (by decide), h 1 0 (by decide) (by decide), h 1 1 (by decide) (by decide), hb]

/-- The first layer. -/
theorem K1_eq {X X' : Img} (hX : Agree 56 56 64 X X') (g : FVec Ideal S9x64x128 .f32) (b : FVec Ideal S1x128 .f32) (w : ℕ → ℕ → ℕ → ℕ → EReal) (v : ℕ → EReal)
    (hg : ∀ ky kx, ky < 3 → kx < 3 → ∀ c o, c < 64 → o < 128 → get3 g (ky * 3 + kx) c o = w o c ky kx) (hb : ∀ o, o < 128 → get2 b 0 o = v o) :
    Agree 56 56 128 (K1 X g b) (relu (conv 56 56 64 X' w v)) := by
  intro y x o _ _ ho
  refine congrArg (fun a => max a (0 : EReal)) ?_
  exact sum9 (fun ky kx => tap 56 56 64 X (y + ky) (x + kx) fun c => get3 g (ky * 3 + kx) c o) (fun ky kx => tap 56 56 64 X' (y + ky) (x + kx) fun c => w o c ky kx)
    _ _ (fun ky kx h1 h2 => tap_congr hX _ _ fun c hc => hg ky kx h1 h2 c o hc ho) (hb o ho)

/-- The second layer. -/
theorem K2_eq {Y Y' : Img} (hY : Agree 56 56 128 Y Y') (g : FVec Ideal S16x128x64 .f32) (b : FVec Ideal S1x64 .f32) (w : ℕ → ℕ → ℕ → ℕ → EReal) (v : ℕ → EReal)
    (hg : ∀ py px t s, py < 2 → px < 2 → t < 2 → s < 2 → ∀ c o, c < 128 → o < 64 →
      get3 g (((py * 2 + px) * 2 + t) * 2 + s) c o = w c o (3 - 2 * t - py) (3 - 2 * s - px))
    (hb : ∀ o, o < 64 → get2 b 0 o = v o) :
    Agree 112 112 64 (K2 Y g b) (relu (upconv 56 56 128 Y' w v)) := by
  intro y x o _ _ ho
  refine congrArg (fun a => max a (0 : EReal)) ?_
  exact sum4 (fun t s => tap 56 56 128 Y (y / 2 + y % 2 + t) (x / 2 + x % 2 + s) fun c => get3 g (((y % 2 * 2 + x % 2) * 2 + t) * 2 + s) c o)
    (fun t s => tap 56 56 128 Y' (y / 2 + y % 2 + t) (x / 2 + x % 2 + s) fun c => w c o (3 - 2 * t - y % 2) (3 - 2 * s - x % 2))
    _ _ (fun t s h1 h2 => tap_congr hY _ _ fun c hc => hg _ _ t s (Nat.mod_lt _ (by decide)) (Nat.mod_lt _ (by decide)) h1 h2 c o hc ho) (hb o ho)

/-- The transposed convolution at one phase. -/
theorem upconv_phase (H W C : ℕ) (X : Img) (w : ℕ → ℕ → ℕ → ℕ → EReal) (v : ℕ → EReal) (y x o py px : ℕ) (hy : py < 2) (hx : px < 2) :
    upconv H W C X w v (2 * y + py) (2 * x + px) o =
      0 + (tap H W C X (y + py + 0) (x + px + 0) fun c => w c o (3 - 2 * 0 - py) (3 - 2 * 0 - px))
        + (tap H W C X (y + py + 0) (x + px + 1) fun c => w c o (3 - 2 * 0 - py) (3 - 2 * 1 - px))
        + (tap H W C X (y + py + 1) (x + px + 0) fun c => w c o (3 - 2 * 1 - py) (3 - 2 * 0 - px))
        + (tap H W C X (y + py + 1) (x + px + 1) fun c => w c o (3 - 2 * 1 - py) (3 - 2 * 1 - px)) + v o := by
  have h1 : (2 * y + py) / 2 = y := by omega
  have h2 : (2 * y + py) % 2 = py := by omega
  have h3 : (2 * x + px) / 2 = x := by omega
  have h4 : (2 * x + px) % 2 = px := by omega
  simp only [upconv, h1, h2, h3, h4]

/-- The third layer. -/
theorem K3_eq {Z Z' : Img} (hZ : Agree 112 112 64 Z Z') (g : FVec Ideal S9x64x12 .f32) (b : FVec Ideal S1x12 .f32) (w : ℕ → ℕ → ℕ → ℕ → EReal) (v : ℕ → EReal)
    (y x py px e : ℕ) (hpy : py < 2) (hpx : px < 2)
    (hg : ∀ ty tx, ty < 3 → tx < 3 → ∀ c, c < 64 → get3 g (ty * 3 + tx) c ((py * 2 + px) * 3 + e)
      = if (py ≤ ty ∧ ty ≤ py + 1) ∧ px ≤ tx ∧ tx ≤ px + 1 then w c e (3 - 2 * (ty - py) - py) (3 - 2 * (tx - px) - px) else 0)
    (hb : get2 b 0 ((py * 2 + px) * 3 + e) = v e) :
    K3 Z g b y x ((py * 2 + px) * 3 + e) = Ideal.tanh (upconv 112 112 64 Z' w v (2 * y + py) (2 * x + px) e) := by
  refine congrArg Ideal.tanh ?_
  rw [upconv_phase 112 112 64 Z' w v y x e py px hpy hpx]
  refine (sum9 (fun ky kx => tap 112 112 64 Z (y + ky) (x + kx) fun c => get3 g (ky * 3 + kx) c ((py * 2 + px) * 3 + e))
    (fun ky kx => if (py ≤ ky ∧ ky ≤ py + 1) ∧ px ≤ kx ∧ kx ≤ px + 1 then
      tap 112 112 64 Z' (y + ky) (x + kx) fun c => w c e (3 - 2 * (ky - py) - py) (3 - 2 * (kx - px) - px) else 0) _ _ (fun ky kx h1 h2 => ?_) hb).trans ?_
  · by_cases h : (py ≤ ky ∧ ky ≤ py + 1) ∧ px ≤ kx ∧ kx ≤ px + 1
    · rw [if_pos h]
      exact tap_congr hZ _ _ fun c hc => (hg ky kx h1 h2 c hc).trans (if_pos h)
    · rw [if_neg h]
      exact tap_zero _ _ _ fun c hc => (hg ky kx h1 h2 c hc).trans (if_neg h)
  · interval_cases py <;> interval_cases px <;> norm_num [Nat.add_assoc]

/-- The first activation of the reference. -/
theorem act1_agree (x : FVec Ideal Cert.RefDecodeIdeal.S4x64x56x56 .f32) (w : FVec Ideal Cert.RefDecodeIdeal.S128x64x3x3 .f32) (v : FVec Ideal Cert.RefDecodeIdeal.S128 .f32) (b : Fin 4) :
    Agree 56 56 128 (relu (conv 56 56 64 (im x b.val) (get4 w) (get1 v))) (im (Cert.DecRef.act1 (Cert.DecRef.layer1 x w v)) b.val) := by
  intro y i o hy hi ho
  refine Eq.trans ?_ (get4_ix (Cert.DecRef.act1 (Cert.DecRef.layer1 x w v)) b (⟨o, ho⟩ : Fin 128) (⟨y, hy⟩ : Fin 56) (⟨i, hi⟩ : Fin 56)).symm
  pointwise [Cert.DecRef.act1]
  rw [Cert.DecRef.layer1_at]
  rfl

/-- The second activation of the reference. -/
theorem act2_agree (x : FVec Ideal Cert.RefDecodeIdeal.S4x128x56x56 .f32) (w : FVec Ideal Cert.RefDecodeIdeal.S128x64x4x4 .f32) (v : FVec Ideal Cert.RefDecodeIdeal.S64 .f32) (b : Fin 4) :
    Agree 112 112 64 (relu (upconv 56 56 128 (im x b.val) (get4 w) (get1 v))) (im (Cert.DecRef.act2 (Cert.DecRef.layer2 x w v)) b.val) := by
  intro y i o hy hi ho
  refine Eq.trans ?_ (get4_ix (Cert.DecRef.act2 (Cert.DecRef.layer2 x w v)) b (⟨o, ho⟩ : Fin 64) (⟨y, hy⟩ : Fin 112) (⟨i, hi⟩ : Fin 112)).symm
  pointwise [Cert.DecRef.act2]
  rw [Cert.DecRef.layer2_at]
  rfl

theorem Agree.trans {H W C : ℕ} {X Y Z : Img} (h : Agree H W C X Y) (h' : Agree H W C Y Z) : Agree H W C X Z :=
  fun y x c hy hx hc => (h y x c hy hx hc).trans (h' y x c hy hx hc)

variable (m : (ℓ : Loc nD τ sig) → Buf (Elt Ideal) ℓ) (c : Dev nD)

theorem lat_at (q : FVec Ideal S12544x64 .f32) (b : Fin 4) (r : Fin 3136) (d : Fin 64) :
    lat q (ix3 b r d) = get2 q (((b.val * 64 + d.val) * 3136 + r.val) / 64) (((b.val * 64 + d.val) * 3136 + r.val) % 64) := by
  pointwise [lat]
  exact (get2_ix q _ _).symm.trans (congrArg₂ (get2 q)
    (show b.val * 3136 + d.val * 49 + r.val / 64 = ((b.val * 64 + d.val) * 3136 + r.val) / 64 by omega)
    (show r.val % 64 = ((b.val * 64 + d.val) * 3136 + r.val) % 64 by omega))

theorem cast_at (q : FVec Ideal S12544x64 .f32) (b : Fin 4) (d : Fin 64) (y i : Fin 56) :
    shapeCast Cert.RefDecodeIdeal.S4x64x56x56 q Cert.RefDecodeIdeal.Gen.facts.shapeCasts_S12544x64_S4x64x56x56 (ix4 b d y i)
      = get2 q (((b.val * 64 + d.val) * 3136 + (y.val * 56 + i.val)) / 64) (((b.val * 64 + d.val) * 3136 + (y.val * 56 + i.val)) % 64) := by
  pointwise
  exact (get2_ix q _ _).symm.trans (congrArg₂ (get2 q)
    (show (b.val * 200704 + d.val * 3136 + y.val * 56 + i.val) / 64 = ((b.val * 64 + d.val) * 3136 + (y.val * 56 + i.val)) / 64 by omega)
    (show (b.val * 200704 + d.val * 3136 + y.val * 56 + i.val) % 64 = ((b.val * 64 + d.val) * 3136 + (y.val * 56 + i.val)) % 64 by omega))

/-- The kernel's image of latents is the reference's. -/
theorem img_agree (b : Fin 4) (t : Fin cfg0.N) (ht : t.val = b.val) :
    Agree 56 56 64 (img (iblk m c 0 t))
      (im (shapeCast Cert.RefDecodeIdeal.S4x64x56x56 (m ((c.tc : Thread nD τ).loc main_arg0) : FVec Ideal S12544x64 .f32) Cert.RefDecodeIdeal.Gen.facts.shapeCasts_S12544x64_S4x64x56x56) b.val) := by
  intro y i d hy hi hd
  have e1 := lat_at (m ((c.tc : Thread nD τ).loc main_arg0) : FVec Ideal S12544x64 .f32) b (⟨y * 56 + i, by omega⟩ : Fin 3136) (⟨d, hd⟩ : Fin 64)
  have e2 := cast_at (m ((c.tc : Thread nD τ).loc main_arg0) : FVec Ideal S12544x64 .f32) b (⟨d, hd⟩ : Fin 64) (⟨y, hy⟩ : Fin 56) (⟨i, hi⟩ : Fin 56)
  have e3 := get4_ix (shapeCast Cert.RefDecodeIdeal.S4x64x56x56 (m ((c.tc : Thread nD τ).loc main_arg0) : FVec Ideal S12544x64 .f32) Cert.RefDecodeIdeal.Gen.facts.shapeCasts_S12544x64_S4x64x56x56)
    b (⟨d, hd⟩ : Fin 64) (⟨y, hy⟩ : Fin 56) (⟨i, hi⟩ : Fin 56)
  have e4 := get3_ix (iblk m c 0 t : FVec Ideal S1x3136x64 .f32) (0 : Fin 1) (⟨y * 56 + i, by omega⟩ : Fin 3136) (⟨d, hd⟩ : Fin 64)
  have e5 := blk0 m c t (⟨y * 56 + i, by omega⟩ : Fin 3136) (⟨d, hd⟩ : Fin 64)
  have et : t.cast N_0 = b := Fin.ext ht
  rw [et] at e5
  have e6 := congrFun (host_q m c) (ix3 b (⟨y * 56 + i, by omega⟩ : Fin 3136) (⟨d, hd⟩ : Fin 64))
  dsimp only at e1 e2
  have e7 := e4.trans (e5.trans (e6.trans e1))
  have e8 := e3.trans e2
  exact e7.trans e8.symm

theorem w0_agree (t : Fin cfg0.N) (ky kx : ℕ) (hy : ky < 3) (hx : kx < 3) (d o : ℕ) (hd : d < 64) (ho : o < 128) :
    get3 (iblk m c 1 t : FVec Ideal S9x64x128 .f32) (ky * 3 + kx) d o = get4 (m ((c.tc : Thread nD τ).loc main_arg1) : FVec Ideal S128x64x3x3 .f32) o d ky kx := by
  refine Eq.trans ?_ (flat_at (m ((c.tc : Thread nD τ).loc main_arg1)) ky kx hy hx (⟨d, hd⟩ : Fin 64) (⟨o, ho⟩ : Fin 128))
  refine (get3_ix (iblk m c 1 t : FVec Ideal S9x64x128 .f32) (⟨ky * 3 + kx, by omega⟩ : Fin 9) (⟨d, hd⟩ : Fin 64) (⟨o, ho⟩ : Fin 128)).trans ?_
  refine Eq.trans ?_ (get3_ix (flat (m ((c.tc : Thread nD τ).loc main_arg1))) (⟨ky * 3 + kx, by omega⟩ : Fin 9) (⟨d, hd⟩ : Fin 64) (⟨o, ho⟩ : Fin 128)).symm
  exact (blk1 m c t _ _ _).trans (congrFun (host_w0 m c) _)

theorem w1_agree (t : Fin cfg0.N) (py px u s : ℕ) (hpy : py < 2) (hpx : px < 2) (hu : u < 2) (hs : s < 2) (d o : ℕ) (hd : d < 128) (ho : o < 64) :
    get3 (iblk m c 3 t : FVec Ideal S16x128x64 .f32) (((py * 2 + px) * 2 + u) * 2 + s) d o
      = get4 (m ((c.tc : Thread nD τ).loc main_arg3) : FVec Ideal S128x64x4x4 .f32) d o (3 - 2 * u - py) (3 - 2 * s - px) := by
  refine Eq.trans ?_ (stack_phase (m ((c.tc : Thread nD τ).loc main_arg3)) py px u s hpy hpx hu hs (⟨d, hd⟩ : Fin 128) (⟨o, ho⟩ : Fin 64))
  refine (get3_ix (iblk m c 3 t : FVec Ideal S16x128x64 .f32) (⟨((py * 2 + px) * 2 + u) * 2 + s, by omega⟩ : Fin 16) (⟨d, hd⟩ : Fin 128) (⟨o, ho⟩ : Fin 64)).trans ?_
  refine Eq.trans ?_ (get3_ix (stack (m ((c.tc : Thread nD τ).loc main_arg3))) (⟨((py * 2 + px) * 2 + u) * 2 + s, by omega⟩ : Fin 16) (⟨d, hd⟩ : Fin 128) (⟨o, ho⟩ : Fin 64)).symm
  exact (blk3 m c t _ _ _).trans (congrFun (host_w1 m c) _)

theorem w2_agree (t : Fin cfg0.N) (py px ty tx e : ℕ) (hpy : py < 2) (hpx : px < 2) (hty : ty < 3) (htx : tx < 3) (he : e < 3) (d : ℕ) (hd : d < 64) :
    get3 (iblk m c 5 t : FVec Ideal S9x64x12 .f32) (ty * 3 + tx) d ((py * 2 + px) * 3 + e)
      = if (py ≤ ty ∧ ty ≤ py + 1) ∧ px ≤ tx ∧ tx ≤ px + 1 then
          get4 (m ((c.tc : Thread nD τ).loc main_arg5) : FVec Ideal S64x3x4x4 .f32) d e (3 - 2 * (ty - py) - py) (3 - 2 * (tx - px) - px) else 0 := by
  refine Eq.trans ?_ (st_phase (m ((c.tc : Thread nD τ).loc main_arg5)) py px ty tx e hpy hpx hty htx he (⟨d, hd⟩ : Fin 64))
  refine (get3_ix (iblk m c 5 t : FVec Ideal S9x64x12 .f32) (⟨ty * 3 + tx, by omega⟩ : Fin 9) (⟨d, hd⟩ : Fin 64) (⟨(py * 2 + px) * 3 + e, by omega⟩ : Fin 12)).trans ?_
  refine Eq.trans ?_ (get3_ix (st15 (m ((c.tc : Thread nD τ).loc main_arg5))) (⟨ty * 3 + tx, by omega⟩ : Fin 9) (⟨d, hd⟩ : Fin 64) (⟨(py * 2 + px) * 3 + e, by omega⟩ : Fin 12)).symm
  exact (blk5 m c t _ _ _).trans (congrFun (host_w2 m c) _)

theorem b0_agree (t : Fin cfg0.N) (o : ℕ) (ho : o < 128) :
    get2 (iblk m c 2 t : FVec Ideal S1x128 .f32) 0 o = get1 (m ((c.tc : Thread nD τ).loc main_arg2) : FVec Ideal S128 .f32) o := by
  refine (get2_ix (iblk m c 2 t : FVec Ideal S1x128 .f32) (0 : Fin 1) (⟨o, ho⟩ : Fin 128)).trans ?_
  refine Eq.trans ?_ (get1_ix (m ((c.tc : Thread nD τ).loc main_arg2) : FVec Ideal S128 .f32) (⟨o, ho⟩ : Fin 128)).symm
  refine ((blk2 m c t _).trans (congrFun (host_b0 m c) _)).trans ?_
  pointwise

theorem b1_agree (t : Fin cfg0.N) (o : ℕ) (ho : o < 64) :
    get2 (iblk m c 4 t : FVec Ideal S1x64 .f32) 0 o = get1 (m ((c.tc : Thread nD τ).loc main_arg4) : FVec Ideal S64 .f32) o := by
  refine (get2_ix (iblk m c 4 t : FVec Ideal S1x64 .f32) (0 : Fin 1) (⟨o, ho⟩ : Fin 64)).trans ?_
  refine Eq.trans ?_ (get1_ix (m ((c.tc : Thread nD τ).loc main_arg4) : FVec Ideal S64 .f32) (⟨o, ho⟩ : Fin 64)).symm
  refine ((blk4 m c t _).trans (congrFun (host_b1 m c) _)).trans ?_
  pointwise

theorem b2_agree (t : Fin cfg0.N) (p e : ℕ) (hp : p < 4) (he : e < 3) :
    get2 (iblk m c 6 t : FVec Ideal S1x12 .f32) 0 (p * 3 + e) = get1 (m ((c.tc : Thread nD τ).loc main_arg6) : FVec Ideal S3 .f32) e := by
  refine Eq.trans ?_ (four_at (m ((c.tc : Thread nD τ).loc main_arg6)) p e hp he)
  refine (get2_ix (iblk m c 6 t : FVec Ideal S1x12 .f32) (0 : Fin 1) (⟨p * 3 + e, by omega⟩ : Fin 12)).trans ?_
  refine Eq.trans ?_ (get2_ix (four (m ((c.tc : Thread nD τ).loc main_arg6))) (0 : Fin 1) (⟨p * 3 + e, by omega⟩ : Fin 12)).symm
  exact (blk6 m c t _).trans (congrFun (host_b2 m c) _)

/-- The two images are equal. -/
theorem recon_eq : weave (whole m c) = Cert.DecRef.dec (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  have key (b : Fin 4) (e : Fin 3) (y i : Fin 224) : weave (whole m c) (ix4 b e y i)
      = Cert.DecRef.dec (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (ix4 b e y i) := by
    have hb : b.val < cfg0.N := lt_of_lt_of_eq b.isLt N_0.symm
    refine (weave_at _ b e y i).trans ((whole_at m c b _ _).trans ?_)
    refine (point m c ⟨b.val, hb⟩ (y.val / 2) (i.val / 2) (by omega) (by omega) _).trans ?_
    have Y1 := (K1_eq (img_agree m c b ⟨b.val, hb⟩ rfl) _ _ _ _ (w0_agree m c ⟨b.val, hb⟩) (b0_agree m c ⟨b.val, hb⟩)).trans (act1_agree _ _ _ b)
    have Y2 := (K2_eq Y1 _ _ _ _ (fun py px u s h1 h2 h3 h4 d o hd ho => w1_agree m c ⟨b.val, hb⟩ py px u s h1 h2 h3 h4 d o hd ho) (b1_agree m c ⟨b.val, hb⟩)).trans (act2_agree _ _ _ b)
    refine (K3_eq Y2 _ _ _ _ (y.val / 2) (i.val / 2) (y.val % 2) (i.val % 2) e.val (Nat.mod_lt _ (by decide)) (Nat.mod_lt _ (by decide))
      (fun ty tx h1 h2 d hd => w2_agree m c ⟨b.val, hb⟩ _ _ ty tx e.val (Nat.mod_lt _ (by decide)) (Nat.mod_lt _ (by decide)) h1 h2 e.isLt d hd)
      (b2_agree m c ⟨b.val, hb⟩ _ e.val (by omega) e.isLt)).trans ?_
    rw [Nat.div_add_mod, Nat.div_add_mod]
    exact congrArg Ideal.tanh (Cert.DecRef.layer3_at _ _ _ b e y i).symm
  funext i
  exact (congrArg _ (eq_ix4 i)).trans ((key (i 0) (i 1) (i 2) (i 3)).trans (congrArg _ (eq_ix4 i).symm))

end

end Cert.Dec

end
-- ==== Proof.lean ====
module

public import proofs.«01_k».proof.Defs
public import proofs.«01_k».proof.Proof.Gen.Encode
public import proofs.«01_k».proof.Proof.Gen.Encode.Frame
public import proofs.«01_k».proof.Proof.Gen.EncodeIdeal
public import proofs.«01_k».proof.Proof.Gen.EncodeIdeal.Frame
public import proofs.«01_k».proof.Proof.Gen.Quantise
public import proofs.«01_k».proof.Proof.Gen.Quantise.Frame
public import proofs.«01_k».proof.Proof.Gen.QuantiseIdeal
public import proofs.«01_k».proof.Proof.Gen.QuantiseIdeal.Frame
public import proofs.«01_k».proof.Proof.Gen.QuantiseIdeal.Value
public import proofs.«01_k».proof.Proof.Gen.RefQuantiseIdeal
public import proofs.«01_k».proof.Proof.Gen.Decode
public import proofs.«01_k».proof.Proof.Gen.Decode.Frame
public import proofs.«01_k».proof.Proof.Gen.DecodeIdeal
public import proofs.«01_k».proof.Proof.Gen.DecodeIdeal.Frame
public import proofs.«01_k».proof.Proof.Gen.RefDecodeIdeal
public import proofs.«01_k».proof.Proof.VqEq
public import proofs.«01_k».proof.Proof.DecEq
public import Idealize.ShloMosaic.Adequacy
public import Idealize.ShloMosaic.Init

@[expose] public section

noncomputable section

namespace Cert.Proof

open Idealize.ShloMosaic Idealize.SL.Sem

theorem algebraic_vq : Cert.algebraic_QuantiseIdeal_RefQuantiseIdeal := by
  pair_intro
  · run_from Cert.QuantiseIdeal.Value.run m g
  · run_from Cert.VqRef.run m' g'
    · exact (Cert.VqEq.enc_eq m c).symm
    · exact (Cert.VqEq.quant_eq m c).symm
    · exact (Cert.VqEq.loss_eq m c).symm
    · exact (Cert.VqEq.perp_eq m c).symm

theorem frame_ref : Cert.quiescent_RefQuantiseIdeal := fun m ρ _ =>
  (θ_run Cert.RefQuantiseIdeal.defs _ _).mono (fun r h => ⟨fun c => (h c).2.2.2.2, sem_eq_zero_of_no_sems (by decide) r.2⟩)
    (Cert.VqRef.run m ρ)

theorem algebraic_dec : Cert.algebraic_DecodeIdeal_RefDecodeIdeal := by
  intro m g m' g' _ hagree
  refine ⟨fun c => Cert.Dec.weave (Cert.Dec.whole m c), Cert.Dec.run m g, θ_run_mono (Cert.DecRef.run m' g') fun r h c => ⟨?_, (h c).2⟩⟩
  obtain ⟨a0, a1, a2, a3, a4, a5, a6⟩ := hagree c
  refine (h c).1.trans ?_
  rw [a0, a1, a2, a3, a4, a5, a6]
  exact (Cert.Dec.recon_eq m c).symm

theorem frame_ref_dec : Cert.quiescent_RefDecodeIdeal := fun m ρ _ =>
  (θ_run Cert.RefDecodeIdeal.defs _ _).mono (fun r h => ⟨fun c => (h c).2, sem_eq_zero_of_no_sems (by decide) r.2⟩)
    (Cert.DecRef.run m ρ)

theorem claim : Cert.Claim :=
  ⟨Encode.Gen.facts, EncodeIdeal.Gen.facts, Quantise.Gen.facts, QuantiseIdeal.Gen.facts, RefQuantiseIdeal.Gen.facts,
    Decode.Gen.facts, DecodeIdeal.Gen.facts, RefDecodeIdeal.Gen.facts,
    fun m ρ _ => Encode.Gen.frame m ρ, fun m ρ _ => EncodeIdeal.Gen.frame m ρ, fun m ρ _ => Quantise.Gen.frame m ρ,
    fun m ρ _ => QuantiseIdeal.Gen.frame m ρ, frame_ref,
    fun m ρ _ => Decode.Gen.frame m ρ, fun m ρ _ => DecodeIdeal.Gen.frame m ρ, frame_ref_dec,
    trivial,
    ⟨IdealRules.named_const.statement QuantiseIdeal.κ "inv_n" .f32 0x38A72F05#32 ((1 / 12544 : ℝ) : EReal) rfl,
      IdealRules.named_const.statement QuantiseIdeal.κ "loss_scale" .f32 0x35D0FAC7#32 ((5 / 3211264 : ℝ) : EReal) rfl⟩,
    algebraic_vq, trivial, algebraic_dec⟩

end Cert.Proof

end
